-- ==== Defs.lean ====
def Pre_Kernel2 [hPre_in_range : Cert.Pre_in_range.Facts] (m : (ℓ : Loc Cert.Kernel2.nD Cert.Kernel2.τ Cert.Kernel2.sig) → Buf (Elt Bits) ℓ) : Prop :=
  ∀ c : Dev Cert.Kernel2.nD,
    (Cert.Pre_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))) = (fun _ => 1#1)

def Pre_Kernel2Ideal [hPre_in_range : Cert.Pre_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_in_range [hPre_in_range : Cert.Pre_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_ones [hPre_finite_and_ones : Cert.Pre_finite_and_ones.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_ones.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_ones [hPre_finite_and_ones : Cert.Pre_finite_and_ones.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_ones.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_padded_heads [hPre_padded_heads : Cert.Pre_padded_heads.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_padded_heads.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_padded_heads [hPre_padded_heads : Cert.Pre_padded_heads.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_padded_heads.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite [hPre_finite : Cert.Pre_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite [hPre_finite : Cert.Pre_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel2 [hKernel2 : Cert.Kernel2.Facts] [hPre_in_range : Cert.Pre_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] [hPre_in_range : Cert.Pre_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_in_range [hReference2Ideal : Cert.Reference2Ideal.Facts] [hPre_in_range : Cert.Pre_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_in_range m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_and_ones [hKernelIdeal : Cert.KernelIdeal.Facts] [hPre_finite_and_ones : Cert.Pre_finite_and_ones.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_ones m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_and_ones [hReferenceIdeal : Cert.ReferenceIdeal.Facts] [hPre_finite_and_ones : Cert.Pre_finite_and_ones.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_ones m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Kernel3Ideal_pre_padded_heads [hKernel3Ideal : Cert.Kernel3Ideal.Facts] [hPre_padded_heads : Cert.Pre_padded_heads.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_padded_heads m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Reference3Ideal_pre_padded_heads [hReference3Ideal : Cert.Reference3Ideal.Facts] [hPre_padded_heads : Cert.Pre_padded_heads.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_padded_heads m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Kernel4Ideal_pre_finite [hKernel4Ideal : Cert.Kernel4Ideal.Facts] [hPre_finite : Cert.Pre_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Reference4Ideal_pre_finite [hReference4Ideal : Cert.Reference4Ideal.Facts] [hPre_finite : Cert.Pre_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] [hPre_in_range : Cert.Pre_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v67) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel_KernelIdeal : Prop :=
  True

def algebraic_KernelIdeal_ReferenceIdeal_pre_finite_and_ones [hKernelIdeal : Cert.KernelIdeal.Facts] [hReferenceIdeal : Cert.ReferenceIdeal.Facts] [hPre_finite_and_ones : Cert.Pre_finite_and_ones.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_ones m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel3_Kernel3Ideal : Prop :=
  True

def algebraic_Kernel3Ideal_Reference3Ideal_pre_padded_heads [hKernel3Ideal : Cert.Kernel3Ideal.Facts] [hReference3Ideal : Cert.Reference3Ideal.Facts] [hPre_padded_heads : Cert.Pre_padded_heads.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_padded_heads m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v33) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal_pre_finite [hKernel4Ideal : Cert.Kernel4Ideal.Facts] [hReference4Ideal : Cert.Reference4Ideal.Facts] [hPre_finite : Cert.Pre_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v54) = v0 c
          ∧ r.2.mem ((c.tc : Thread Cert.Reference4Ideal.nD Cert.Reference4Ideal.τ).loc Cert.Reference4Ideal.main_v55) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v49) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def Claim : Prop :=
  ∃ (hKernel2 : Cert.Kernel2.Facts) (hKernel2Ideal : Cert.Kernel2Ideal.Facts) (hReference2Ideal : Cert.Reference2Ideal.Facts) (hKernel : Cert.Kernel.Facts) (hKernelIdeal : Cert.KernelIdeal.Facts) (hReferenceIdeal : Cert.ReferenceIdeal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_in_range : Cert.Pre_in_range.Facts) (hPre_finite_and_ones : Cert.Pre_finite_and_ones.Facts) (hPre_padded_heads : Cert.Pre_padded_heads.Facts) (hPre_finite : Cert.Pre_finite.Facts),
    quiescent_Kernel2 (hKernel2 := hKernel2) (hPre_in_range := hPre_in_range)
    ∧ quiescent_Kernel2Ideal (hKernel2Ideal := hKernel2Ideal) (hPre_in_range := hPre_in_range)
    ∧ quiescent_Reference2Ideal (hReference2Ideal := hReference2Ideal)
    ∧ quiescent_Reference2Ideal_pre_in_range (hReference2Ideal := hReference2Ideal) (hPre_in_range := hPre_in_range)
    ∧ quiescent_Kernel (hKernel := hKernel)
    ∧ quiescent_KernelIdeal (hKernelIdeal := hKernelIdeal)
    ∧ quiescent_KernelIdeal_pre_finite_and_ones (hKernelIdeal := hKernelIdeal) (hPre_finite_and_ones := hPre_finite_and_ones)
    ∧ quiescent_ReferenceIdeal (hReferenceIdeal := hReferenceIdeal)
    ∧ quiescent_ReferenceIdeal_pre_finite_and_ones (hReferenceIdeal := hReferenceIdeal) (hPre_finite_and_ones := hPre_finite_and_ones)
    ∧ quiescent_Kernel3 (hKernel3 := hKernel3)
    ∧ quiescent_Kernel3Ideal (hKernel3Ideal := hKernel3Ideal)
    ∧ quiescent_Kernel3Ideal_pre_padded_heads (hKernel3Ideal := hKernel3Ideal) (hPre_padded_heads := hPre_padded_heads)
    ∧ quiescent_Reference3Ideal (hReference3Ideal := hReference3Ideal)
    ∧ quiescent_Reference3Ideal_pre_padded_heads (hReference3Ideal := hReference3Ideal) (hPre_padded_heads := hPre_padded_heads)
    ∧ quiescent_Kernel4 (hKernel4 := hKernel4)
    ∧ quiescent_Kernel4Ideal (hKernel4Ideal := hKernel4Ideal)
    ∧ quiescent_Kernel4Ideal_pre_finite (hKernel4Ideal := hKernel4Ideal) (hPre_finite := hPre_finite)
    ∧ quiescent_Reference4Ideal (hReference4Ideal := hReference4Ideal)
    ∧ quiescent_Reference4Ideal_pre_finite (hReference4Ideal := hReference4Ideal) (hPre_finite := hPre_finite)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel2_Kernel2Ideal
    ∧ algebraic_Kernel2Ideal_Reference2Ideal (hKernel2Ideal := hKernel2Ideal) (hReference2Ideal := hReference2Ideal) (hPre_in_range := hPre_in_range)
    ∧ preserves_Kernel_KernelIdeal
    ∧ algebraic_KernelIdeal_ReferenceIdeal_pre_finite_and_ones (hKernelIdeal := hKernelIdeal) (hReferenceIdeal := hReferenceIdeal) (hPre_finite_and_ones := hPre_finite_and_ones)
    ∧ preserves_Kernel3_Kernel3Ideal
    ∧ algebraic_Kernel3Ideal_Reference3Ideal_pre_padded_heads (hKernel3Ideal := hKernel3Ideal) (hReference3Ideal := hReference3Ideal) (hPre_padded_heads := hPre_padded_heads)
    ∧ preserves_Kernel4_Kernel4Ideal
    ∧ algebraic_Kernel4Ideal_Reference4Ideal_pre_finite (hKernel4Ideal := hKernel4Ideal) (hReference4Ideal := hReference4Ideal) (hPre_finite := hPre_finite)
    ∧ preserves_Kernel5_Kernel5Ideal
    ∧ algebraic_Kernel5Ideal_Reference5Ideal (hKernel5Ideal := hKernel5Ideal) (hReference5Ideal := hReference5Ideal)
-- ==== Pre_finite.lean ====
abbrev S4x8192x1024 : Shape := ⟨3, ![4, 8192, 1024]⟩
abbrev S1024x1024 : Shape := ⟨2, ![1024, 1024]⟩
abbrev S4x256x1024 : Shape := ⟨3, ![4, 256, 1024]⟩
abbrev S1x1024 : Shape := ⟨2, ![1, 1024]⟩
abbrev S_ : Shape := ⟨0, ![]⟩

class Facts : Prop where
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel
  bitsLt_bf16_f32 : FTy.bits .bf16 < FTy.bits .f32
  bcast_S_S1024x1024 : S_.BroadcastsInDim S1024x1024 (![] : Fin 0 → Fin S1024x1024.rank)
  reducesTo_S1024x1024_S_d0_1 : S1024x1024.ReducesTo [0, 1] S_
  bcast_S_S4x256x1024 : S_.BroadcastsInDim S4x256x1024 (![] : Fin 0 → Fin S4x256x1024.rank)
  reducesTo_S4x256x1024_S_d0_1_2 : S4x256x1024.ReducesTo [0, 1, 2] S_

variable [Facts]

def fn {F : FTy → Type} [FloatOps F] (main_arg0 : FVec F S4x8192x1024 .f32) (main_arg1 : FVec F S1024x1024 .bf16) (main_arg2 : FVec F S4x256x1024 .bf16) (main_arg3 : FVec F S4x256x1024 .bf16) (main_arg4 : FVec F S1024x1024 .bf16) (main_arg5 : FVec F S1x1024 .f32) (main_arg6 : FVec F S1x1024 .f32) : IVec S_ 1 :=
  let main_v0 : FVec F S4x8192x1024 .f32 := Host.absf main_arg0
  let main_cst : FVec F S_ .f32 := constant S_ .f32 0x7F800000#32
  let main_v1 : FVec F S4x8192x1024 .f32 := broadcastInDim S4x8192x1024 ![] bcast_S_S4x8192x1024 main_cst
  let main_v2 : IVec S4x8192x1024 1 := cmpf .olt main_v0 main_v1
  let main_c : IVec S_ 1 := constantI S_ 1 1#1
  let main_v3 : IVec S_ 1 := (fun x v => Host.reduce IntOp.andi x v reducesTo_S4x8192x1024_S_d0_1_2 h_S_) main_v2 main_c
  let main_v4 : FVec F S1024x1024 .f32 := (extf .f32 · bitsLt_bf16_f32) main_arg1
  let main_v5 : FVec F S1024x1024 .f32 := Host.absf main_v4
  let main_cst_0 : FVec F S_ .f32 := constant S_ .f32 0x7F800000#32
  let main_v6 : FVec F S1024x1024 .f32 := broadcastInDim S1024x1024 ![] bcast_S_S1024x1024 main_cst_0
  let main_v7 : IVec S1024x1024 1 := cmpf .olt main_v5 main_v6
  let main_c_1 : IVec S_ 1 := constantI S_ 1 1#1
  let main_v8 : IVec S_ 1 := (fun x v => Host.reduce IntOp.andi x v reducesTo_S1024x1024_S_d0_1 h_S_) main_v7 main_c_1
  let main_v9 : IVec S_ 1 := andi main_v3 main_v8
  let main_v10 : FVec F S4x256x1024 .f32 := (extf .f32 · bitsLt_bf16_f32) main_arg2
  let main_v11 : FVec F S4x256x1024 .f32 := Host.absf main_v10
  let main_cst_2 : FVec F S_ .f32 := constant S_ .f32 0x7F800000#32
  let main_v12 : FVec F S4x256x1024 .f32 := broadcastInDim S4x256x1024 ![] bcast_S_S4x256x1024 main_cst_2
  let main_v13 : IVec S4x256x1024 1 := cmpf .olt main_v11 main_v12
  let main_c_3 : IVec S_ 1 := constantI S_ 1 1#1
  let main_v14 : IVec S_ 1 := (fun x v => Host.reduce IntOp.andi x v reducesTo_S4x256x1024_S_d0_1_2 h_S_) main_v13 main_c_3
  let main_v15 : IVec S_ 1 := andi main_v9 main_v14
  main_v15
-- ==== Pre_finite_and_ones.lean ====
abbrev S32768x512 : Shape := ⟨2, ![32768, 512]⟩
abbrev S512x32768 : Shape := ⟨2, ![512, 32768]⟩
abbrev S_ : Shape := ⟨0, ![]⟩
abbrev S4x128x32768 : Shape := ⟨3, ![4, 128, 32768]⟩
abbrev S4x1x32768 : Shape := ⟨3, ![4, 1, 32768]⟩
abbrev S4x32768 : Shape := ⟨2, ![4, 32768]⟩

class Facts : Prop where
  bitsLt_bf16_f32 : FTy.bits .bf16 < FTy.bits .f32
  bcast_S_S32768x512 : S_.BroadcastsInDim S32768x512 (![] : Fin 0 → Fin S32768x512.rank)
  reducesTo_S32768x512_S_d0_1 : S32768x512.ReducesTo [0, 1] S_
  h_S_ : 0 < S_.numel
  shapeCasts_S512x32768_S4x128x32768 : S512x32768.ShapeCasts S4x128x32768
  slices_S4x128x32768_S4x1x32768_0_64_0 : S4x128x32768.Slices ![0, 64, 0] S4x1x32768
  shapeCasts_S4x1x32768_S4x32768 : S4x1x32768.ShapeCasts S4x32768
  bcast_S_S4x32768 : S_.BroadcastsInDim S4x32768 (![] : Fin 0 → Fin S4x32768.rank)
  reducesTo_S4x32768_S_d0_1 : S4x32768.ReducesTo [0, 1] S_

variable [Facts]

def fn_part1 {F : FTy → Type} [FloatOps F] (main_v16 : IVec S_ 1) (main_v17 : IVec S_ 1) : IVec S_ 1 :=
  let main_v18 : IVec S_ 1 := andi main_v17 main_v16
  main_v18

def fn {F : FTy → Type} [FloatOps F] (main_arg0 : FVec F S32768x512 .bf16) (main_arg1 : FVec F S32768x512 .bf16) (main_arg2 : FVec F S512x32768 .bf16) : IVec S_ 1 :=
  let main_v0 : FVec F S32768x512 .f32 := (extf .f32 · bitsLt_bf16_f32) main_arg0
  let main_v1 : FVec F S32768x512 .f32 := Host.absf main_v0
  let main_cst : FVec F S_ .f32 := constant S_ .f32 0x7F800000#32
  let main_v2 : FVec F S32768x512 .f32 := broadcastInDim S32768x512 ![] bcast_S_S32768x512 main_cst
  let main_v3 : IVec S32768x512 1 := cmpf .olt main_v1 main_v2
  let main_c : IVec S_ 1 := constantI S_ 1 1#1
  let main_v4 : IVec S_ 1 := (fun x v => Host.reduce IntOp.andi x v reducesTo_S32768x512_S_d0_1 h_S_) main_v3 main_c
  let main_v5 : FVec F S32768x512 .f32 := (extf .f32 · bitsLt_bf16_f32) main_arg1
  let main_v6 : FVec F S32768x512 .f32 := Host.absf main_v5
  let main_cst_0 : FVec F S_ .f32 := constant S_ .f32 0x7F800000#32
  let main_v7 : FVec F S32768x512 .f32 := broadcastInDim S32768x512 ![] bcast_S_S32768x512 main_cst_0
  let main_v8 : IVec S32768x512 1 := cmpf .olt main_v6 main_v7
  let main_c_1 : IVec S_ 1 := constantI S_ 1 1#1
  let main_v9 : IVec S_ 1 := (fun x v => Host.reduce IntOp.andi x v reducesTo_S32768x512_S_d0_1 h_S_) main_v8 main_c_1
  let main_v10 : FVec F S512x32768 .f32 := (extf .f32 · bitsLt_bf16_f32) main_arg2
  let main_v11 : FVec F S4x128x32768 .f32 := shapeCast S4x128x32768 main_v10 shapeCasts_S512x32768_S4x128x32768
  let main_v12 : FVec F S4x1x32768 .f32 := (extractStridedSlice S4x1x32768 ![0, 64, 0] · slices_S4x128x32768_S4x1x32768_0_64_0) main_v11
  let main_v13 : FVec F S4x32768 .f32 := shapeCast S4x32768 main_v12 shapeCasts_S4x1x32768_S4x32768
  let main_cst_2 : FVec F S_ .f32 := constant S_ .f32 0x3F800000#32
  let main_v14 : FVec F S4x32768 .f32 := broadcastInDim S4x32768 ![] bcast_S_S4x32768 main_cst_2
  let main_v15 : IVec S4x32768 1 := cmpf .oeq main_v13 main_v14
  let main_c_3 : IVec S_ 1 := constantI S_ 1 1#1
  let main_v16 : IVec S_ 1 := (fun x v => Host.reduce IntOp.andi x v reducesTo_S4x32768_S_d0_1 h_S_) main_v15 main_c_3
  let main_v17 : IVec S_ 1 := andi main_v4 main_v9
  fn_part1 (F := F) main_v16 main_v17
-- ==== Pre_in_range.lean ====
abbrev S544 : Shape := ⟨1, ![544]⟩
abbrev S33 : Shape := ⟨1, ![33]⟩
abbrev S1114112x128 : Shape := ⟨2, ![1114112, 128]⟩
abbrev S2x32x1024x2048 : Shape := ⟨4, ![2, 32, 1024, 2048]⟩
abbrev S2x32x1x2048 : Shape := ⟨4, ![2, 32, 1, 2048]⟩
abbrev S2x32x1024x1024 : Shape := ⟨4, ![2, 32, 1024, 1024]⟩
abbrev S2x32x1x1024 : Shape := ⟨4, ![2, 32, 1, 1024]⟩
abbrev S_ : Shape := ⟨0, ![]⟩
abbrev S1 : Shape := ⟨1, ![1]⟩

class Facts : Prop where
  bcast_S_S544 : S_.BroadcastsInDim S544 (![] : Fin 0 → Fin S544.rank)
  reducesTo_S544_S_d0 : S544.ReducesTo [0] S_
  h_S_ : 0 < S_.numel
  slices_S33_S1_32 : S33.Slices ![32] S1
  shapeCasts_S1_S_ : S1.ShapeCasts S_

variable [Facts]

def fn {F : FTy → Type} [FloatOps F] (main_arg0 : IVec S544 32) (main_arg1 : IVec S33 32) (main_arg2 : FVec F S1114112x128 .f32) (main_arg3 : FVec F S2x32x1024x2048 .f32) (main_arg4 : FVec F S2x32x1x2048 .f32) (main_arg5 : FVec F S2x32x1024x1024 .f32) (main_arg6 : FVec F S2x32x1x1024 .f32) : IVec S_ 1 :=
  let main_c : IVec S_ 32 := constantI S_ 32 0#32
  let main_v0 : IVec S544 32 := broadcastInDim S544 ![] bcast_S_S544 main_c
  let main_v1 : IVec S544 1 := cmpi .sge main_arg0 main_v0
  let main_c_0 : IVec S_ 32 := constantI S_ 32 32#32
  let main_v2 : IVec S544 32 := broadcastInDim S544 ![] bcast_S_S544 main_c_0
  let main_v3 : IVec S544 1 := cmpi .slt main_arg0 main_v2
  let main_v4 : IVec S544 1 := andi main_v1 main_v3
  let main_c_1 : IVec S_ 1 := constantI S_ 1 1#1
  let main_v5 : IVec S_ 1 := (fun x v => Host.reduce IntOp.andi x v reducesTo_S544_S_d0 h_S_) main_v4 main_c_1
  let main_v6 : IVec S1 32 := (extractStridedSlice S1 ![32] · slices_S33_S1_32) main_arg1
  let main_v7 : IVec S_ 32 := shapeCast S_ main_v6 shapeCasts_S1_S_
  let main_c_2 : IVec S_ 32 := constantI S_ 32 1#32
  let main_v8 : IVec S_ 1 := cmpi .sge main_v7 main_c_2
  let main_v9 : IVec S_ 1 := andi main_v5 main_v8
  let main_v10 : IVec S1 32 := (extractStridedSlice S1 ![32] · slices_S33_S1_32) main_arg1
  let main_v11 : IVec S_ 32 := shapeCast S_ main_v10 shapeCasts_S1_S_
  let main_c_3 : IVec S_ 32 := constantI S_ 32 544#32
  let main_v12 : IVec S_ 1 := cmpi .sle main_v11 main_c_3
  let main_v13 : IVec S_ 1 := andi main_v9 main_v12
  main_v13
-- ==== Pre_padded_heads.lean ====
abbrev S32768x512 : Shape := ⟨2, ![32768, 512]⟩
abbrev S32768x128 : Shape := ⟨2, ![32768, 128]⟩
abbrev S256x32768 : Shape := ⟨2, ![256, 32768]⟩
abbrev S_ : Shape := ⟨0, ![]⟩
abbrev S32768x4x128 : Shape := ⟨3, ![32768, 4, 128]⟩
abbrev S32768x2x64 : Shape := ⟨3, ![32768, 2, 64]⟩
abbrev S2x128x32768 : Shape := ⟨3, ![2, 128, 32768]⟩
abbrev S2x1x32768 : Shape := ⟨3, ![2, 1, 32768]⟩
abbrev S2x32768 : Shape := ⟨2, ![2, 32768]⟩

class Facts : Prop where
  bitsLt_bf16_f32 : FTy.bits .bf16 < FTy.bits .f32
  bcast_S_S32768x512 : S_.BroadcastsInDim S32768x512 (![] : Fin 0 → Fin S32768x512.rank)
  reducesTo_S32768x512_S_d0_1 : S32768x512.ReducesTo [0, 1] S_
  h_S_ : 0 < S_.numel
  bcast_S_S32768x128 : S_.BroadcastsInDim S32768x128 (![] : Fin 0 → Fin S32768x128.rank)
  reducesTo_S32768x128_S_d0_1 : S32768x128.ReducesTo [0, 1] S_
  shapeCasts_S32768x512_S32768x4x128 : S32768x512.ShapeCasts S32768x4x128
  slices_S32768x4x128_S32768x2x64_0_0_64 : S32768x4x128.Slices ![0, 0, 64] S32768x2x64
  bcast_S_S32768x2x64 : S_.BroadcastsInDim S32768x2x64 (![] : Fin 0 → Fin S32768x2x64.rank)
  reducesTo_S32768x2x64_S_d0_1_2 : S32768x2x64.ReducesTo [0, 1, 2] S_
  slices_S32768x4x128_S32768x2x64_0_2_0 : S32768x4x128.Slices ![0, 2, 0] S32768x2x64
  shapeCasts_S256x32768_S2x128x32768 : S256x32768.ShapeCasts S2x128x32768
  slices_S2x128x32768_S2x1x32768_0_64_0 : S2x128x32768.Slices ![0, 64, 0] S2x1x32768
  shapeCasts_S2x1x32768_S2x32768 : S2x1x32768.ShapeCasts S2x32768
  bcast_S_S2x32768 : S_.BroadcastsInDim S2x32768 (![] : Fin 0 → Fin S2x32768.rank)
  reducesTo_S2x32768_S_d0_1 : S2x32768.ReducesTo [0, 1] S_

variable [Facts]

def fn_part1 {F : FTy → Type} [FloatOps F] (main_arg2 : FVec F S256x32768 .bf16) (main_v4 : IVec S_ 1) (main_v9 : IVec S_ 1) (main_v15 : IVec S_ 1) (main_v16 : FVec F S32768x2x64 .f32) (main_cst_4 : FVec F S_ .f32) : IVec S_ 1 :=
  let main_v17 : FVec F S32768x2x64 .f32 := broadcastInDim S32768x2x64 ![] bcast_S_S32768x2x64 main_cst_4
  let main_v18 : IVec S32768x2x64 1 := cmpf .oeq main_v16 main_v17
  let main_c_5 : IVec S_ 1 := constantI S_ 1 1#1
  let main_v19 : IVec S_ 1 := (fun x v => Host.reduce IntOp.andi x v reducesTo_S32768x2x64_S_d0_1_2 h_S_) main_v18 main_c_5
  let main_v20 : IVec S_ 1 := andi main_v15 main_v19
  let main_v21 : FVec F S256x32768 .f32 := (extf .f32 · bitsLt_bf16_f32) main_arg2
  let main_v22 : FVec F S2x128x32768 .f32 := shapeCast S2x128x32768 main_v21 shapeCasts_S256x32768_S2x128x32768
  let main_v23 : FVec F S2x1x32768 .f32 := (extractStridedSlice S2x1x32768 ![0, 64, 0] · slices_S2x128x32768_S2x1x32768_0_64_0) main_v22
  let main_v24 : FVec F S2x32768 .f32 := shapeCast S2x32768 main_v23 shapeCasts_S2x1x32768_S2x32768
  let main_cst_6 : FVec F S_ .f32 := constant S_ .f32 0x3F800000#32
  let main_v25 : FVec F S2x32768 .f32 := broadcastInDim S2x32768 ![] bcast_S_S2x32768 main_cst_6
  let main_v26 : IVec S2x32768 1 := cmpf .oeq main_v24 main_v25
  let main_c_7 : IVec S_ 1 := constantI S_ 1 1#1
  let main_v27 : IVec S_ 1 := (fun x v => Host.reduce IntOp.andi x v reducesTo_S2x32768_S_d0_1 h_S_) main_v26 main_c_7
  let main_v28 : IVec S_ 1 := andi main_v4 main_v9
  let main_v29 : IVec S_ 1 := andi main_v28 main_v20
  let main_v30 : IVec S_ 1 := andi main_v29 main_v27
  main_v30

def fn {F : FTy → Type} [FloatOps F] (main_arg0 : FVec F S32768x512 .bf16) (main_arg1 : FVec F S32768x128 .bf16) (main_arg2 : FVec F S256x32768 .bf16) : IVec S_ 1 :=
  let main_v0 : FVec F S32768x512 .f32 := (extf .f32 · bitsLt_bf16_f32) main_arg0
  let main_v1 : FVec F S32768x512 .f32 := Host.absf main_v0
  let main_cst : FVec F S_ .f32 := constant S_ .f32 0x7F800000#32
  let main_v2 : FVec F S32768x512 .f32 := broadcastInDim S32768x512 ![] bcast_S_S32768x512 main_cst
  let main_v3 : IVec S32768x512 1 := cmpf .olt main_v1 main_v2
  let main_c : IVec S_ 1 := constantI S_ 1 1#1
  let main_v4 : IVec S_ 1 := (fun x v => Host.reduce IntOp.andi x v reducesTo_S32768x512_S_d0_1 h_S_) main_v3 main_c
  let main_v5 : FVec F S32768x128 .f32 := (extf .f32 · bitsLt_bf16_f32) main_arg1
  let main_v6 : FVec F S32768x128 .f32 := Host.absf main_v5
  let main_cst_0 : FVec F S_ .f32 := constant S_ .f32 0x7F800000#32
  let main_v7 : FVec F S32768x128 .f32 := broadcastInDim S32768x128 ![] bcast_S_S32768x128 main_cst_0
  let main_v8 : IVec S32768x128 1 := cmpf .olt main_v6 main_v7
  let main_c_1 : IVec S_ 1 := constantI S_ 1 1#1
  let main_v9 : IVec S_ 1 := (fun x v => Host.reduce IntOp.andi x v reducesTo_S32768x128_S_d0_1 h_S_) main_v8 main_c_1
  let main_v10 : FVec F S32768x512 .f32 := (extf .f32 · bitsLt_bf16_f32) main_arg0
  let main_v11 : FVec F S32768x4x128 .f32 := shapeCast S32768x4x128 main_v10 shapeCasts_S32768x512_S32768x4x128
  let main_v12 : FVec F S32768x2x64 .f32 := (extractStridedSlice S32768x2x64 ![0, 0, 64] · slices_S32768x4x128_S32768x2x64_0_0_64) main_v11
  let main_cst_2 : FVec F S_ .f32 := constant S_ .f32 0x00000000#32
  let main_v13 : FVec F S32768x2x64 .f32 := broadcastInDim S32768x2x64 ![] bcast_S_S32768x2x64 main_cst_2
  let main_v14 : IVec S32768x2x64 1 := cmpf .oeq main_v12 main_v13
  let main_c_3 : IVec S_ 1 := constantI S_ 1 1#1
  let main_v15 : IVec S_ 1 := (fun x v => Host.reduce IntOp.andi x v reducesTo_S32768x2x64_S_d0_1_2 h_S_) main_v14 main_c_3
  let main_v16 : FVec F S32768x2x64 .f32 := (extractStridedSlice S32768x2x64 ![0, 2, 0] · slices_S32768x4x128_S32768x2x64_0_2_0) main_v11
  let main_cst_4 : FVec F S_ .f32 := constant S_ .f32 0x00000000#32
  fn_part1 (F := F) main_arg2 main_v4 main_v9 main_v15 main_v16 main_cst_4
-- ==== Kernel2.lean ====
abbrev S544 : Shape := ⟨1, ![544]⟩
abbrev S33 : Shape := ⟨1, ![33]⟩
abbrev S1114112x128 : Shape := ⟨2, ![1114112, 128]⟩
abbrev S2x32x1024x2048 : Shape := ⟨4, ![2, 32, 1024, 2048]⟩
abbrev S2x32x1x2048 : Shape := ⟨4, ![2, 32, 1, 2048]⟩
abbrev S2x32x1024x1024 : Shape := ⟨4, ![2, 32, 1024, 1024]⟩
abbrev S2x32x1x1024 : Shape := ⟨4, ![2, 32, 1, 1024]⟩
abbrev S2048x128 : Shape := ⟨2, ![2048, 128]⟩
abbrev S1 : Shape := ⟨1, ![1]⟩
abbrev S1x1x1024x2048 : Shape := ⟨4, ![1, 1, 1024, 2048]⟩
abbrev S1x1x1x2048 : Shape := ⟨4, ![1, 1, 1, 2048]⟩
abbrev S1x1x1024x1024 : Shape := ⟨4, ![1, 1, 1024, 1024]⟩
abbrev S1x1x1x1024 : Shape := ⟨4, ![1, 1, 1, 1024]⟩
abbrev S1024x2048 : Shape := ⟨2, ![1024, 2048]⟩
abbrev S1024x1024 : Shape := ⟨2, ![1024, 1024]⟩
abbrev S256x1024 : Shape := ⟨2, ![256, 1024]⟩
abbrev S256x128 : Shape := ⟨2, ![256, 128]⟩
abbrev S1024x256 : Shape := ⟨2, ![1024, 256]⟩
abbrev S256x256 : Shape := ⟨2, ![256, 256]⟩
abbrev S1x1x1x256 : Shape := ⟨4, ![1, 1, 1, 256]⟩
abbrev S1x256 : Shape := ⟨2, ![1, 256]⟩

abbrev nBuf : Space → Nat
  | .hbm => 6
  | .vmem => 15
  | .smem => 2
  | _ => 0

abbrev bufTy : (tb : Table) → Fin (tcTables nBuf tb) → BufTy
  | .hbm, ⟨0, _⟩ => ⟨S1114112x128, .f32⟩
  | .hbm, ⟨1, _⟩ => ⟨S2x32x1024x2048, .f32⟩
  | .hbm, ⟨2, _⟩ => ⟨S2x32x1x2048, .f32⟩
  | .hbm, ⟨3, _⟩ => ⟨S2x32x1024x1024, .f32⟩
  | .hbm, ⟨4, _⟩ => ⟨S2x32x1x1024, .f32⟩
  | .hbm, ⟨5, _⟩ => ⟨S1114112x128, .f32⟩
  | .local _ .vmem, ⟨0, _⟩ => ⟨S2048x128, .f32⟩
  | .local _ .vmem, ⟨1, _⟩ => ⟨S2048x128, .f32⟩
  | .local _ .vmem, ⟨2, _⟩ => ⟨S1x1x1024x2048, .f32⟩
  | .local _ .vmem, ⟨3, _⟩ => ⟨S1x1x1024x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x1x1024x1024, .f32⟩
  | .local _ .vmem, ⟨7, _⟩ => ⟨S1x1x1024x1024, .f32⟩
  | .local _ .vmem, ⟨8, _⟩ => ⟨S1x1x1x1024, .f32⟩
  | .local _ .vmem, ⟨9, _⟩ => ⟨S1x1x1x1024, .f32⟩
  | .local _ .vmem, ⟨10, _⟩ => ⟨S2048x128, .f32⟩
  | .local _ .vmem, ⟨11, _⟩ => ⟨S2048x128, .f32⟩
  | .local _ .vmem, ⟨12, _⟩ => ⟨S1024x2048, .bf16⟩
  | .local _ .vmem, ⟨13, _⟩ => ⟨S1024x1024, .bf16⟩
  | .local _ .vmem, ⟨14, _⟩ => ⟨S256x1024, .bf16⟩
  | .local _ .smem, ⟨0, _⟩ => ⟨S544, .i32⟩
  | .local _ .smem, ⟨1, _⟩ => ⟨S33, .i32⟩
  | _, _ => ⟨S1114112x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![544], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32_0 : BitVec 32 := 0#32
  let v4 : BitVec 32 := Scalar.maxsi v3 c0_i32_0
  let v5 : Index := Scalar.indexCast v4
  ![v5.toNat]
def k0_cond2 (i : grid0.Coords) (v11 : BitVec 32) : BitVec 1 :=
  let arg0 : BitVec 32 := BitVec.ofNat 32 (i 0).val
  let v12 : BitVec 1 := Scalar.cmpi .slt arg0 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg0 : BitVec 32 := BitVec.ofNat 32 (i 0).val
  let v16 : BitVec 1 := Scalar.cmpi .sge arg0 v15
  let v17 : BitVec 32 := Scalar.extui v16
  let c0_i32_4 : BitVec 32 := 0#32
  let v18 : BitVec 1 := Scalar.cmpi .ne v17 c0_i32_4
  v18

def cc0_transform_0 (inb_S33_S1_32 : ∀ a, (![32] : Fin 1 → Nat) a + S1.size a ≤ S33.size a) (numel1_S1 : S1.numel = 1) (pf : pre0.Contents (Elt F)) (i : grid0.Coords) : Fin 2 → Nat :=
  let arg0 : BitVec 32 := BitVec.ofNat 32 (i 0).val
  let c32 : Index := 32#32
  let v0 : BitVec 32 := pf.at 1 (Rect.unit (s := S33) ![32] S1.size inb_S33_S1_32) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S544.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S544.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S544.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (k0_off1_inb : ∀ i : grid0.Coords, ∀ a, (k0_off1 i) a + S1.size a ≤ S544.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S544 : Shape := ⟨1, ![544]⟩
abbrev S33 : Shape := ⟨1, ![33]⟩
abbrev S1114112x128 : Shape := ⟨2, ![1114112, 128]⟩
abbrev S2x32x1024x2048 : Shape := ⟨4, ![2, 32, 1024, 2048]⟩
abbrev S2x32x1x2048 : Shape := ⟨4, ![2, 32, 1, 2048]⟩
abbrev S2x32x1024x1024 : Shape := ⟨4, ![2, 32, 1024, 1024]⟩
abbrev S2x32x1x1024 : Shape := ⟨4, ![2, 32, 1, 1024]⟩
abbrev S544x256x1024 : Shape := ⟨3, ![544, 256, 1024]⟩
abbrev S1x32x1024x2048 : Shape := ⟨4, ![1, 32, 1024, 2048]⟩
abbrev S32x1024x2048 : Shape := ⟨3, ![32, 1024, 2048]⟩
abbrev S_ : Shape := ⟨0, ![]⟩
abbrev S544x1 : Shape := ⟨2, ![544, 1]⟩
abbrev S544x1024x2048 : Shape := ⟨3, ![544, 1024, 2048]⟩
abbrev S544x256x2048 : Shape := ⟨3, ![544, 256, 2048]⟩
abbrev S1x32x1x2048 : Shape := ⟨4, ![1, 32, 1, 2048]⟩
abbrev S32x1x2048 : Shape := ⟨3, ![32, 1, 2048]⟩
abbrev S544x1x2048 : Shape := ⟨3, ![544, 1, 2048]⟩
abbrev S1x32x1024x1024 : Shape := ⟨4, ![1, 32, 1024, 1024]⟩
abbrev S32x1024x1024 : Shape := ⟨3, ![32, 1024, 1024]⟩
abbrev S544x1024x1024 : Shape := ⟨3, ![544, 1024, 1024]⟩
abbrev S1x32x1x1024 : Shape := ⟨4, ![1, 32, 1, 1024]⟩
abbrev S32x1x1024 : Shape := ⟨3, ![32, 1, 1024]⟩
abbrev S544x1x1024 : Shape := ⟨3, ![544, 1, 1024]⟩
abbrev S1 : Shape := ⟨1, ![1]⟩
abbrev S544x1x1 : Shape := ⟨3, ![544, 1, 1]⟩

abbrev nBuf : Space → Nat
  | .hbm => 99
  | .vmem => 0
  | .smem => 0
  | _ => 0

abbrev bufTy : (tb : Table) → Fin (tcTables nBuf tb) → BufTy
  | .hbm, ⟨0, _⟩ => ⟨S544, .i32⟩
  | .hbm, ⟨1, _⟩ => ⟨S33, .i32⟩
  | .hbm, ⟨2, _⟩ => ⟨S1114112x128, .f32⟩
  | .hbm, ⟨3, _⟩ => ⟨S2x32x1024x2048, .f32⟩
  | .hbm, ⟨4, _⟩ => ⟨S2x32x1x2048, .f32⟩
  | .hbm, ⟨5, _⟩ => ⟨S2x32x1024x1024, .f32⟩
  | .hbm, ⟨6, _⟩ => ⟨S2x32x1x1024, .f32⟩
  | .hbm, ⟨7, _⟩ => ⟨S544x256x1024, .f32⟩
  | .hbm, ⟨8, _⟩ => ⟨S1x32x1024x2048, .f32⟩
  | .hbm, ⟨9, _⟩ => ⟨S32x1024x2048, .f32⟩
  | .hbm, ⟨10, _⟩ => ⟨S_, .i32⟩
  | .hbm, ⟨11, _⟩ => ⟨S544, .i32⟩
  | .hbm, ⟨12, _⟩ => ⟨S544, .i1⟩
  | .hbm, ⟨13, _⟩ => ⟨S_, .i32⟩
  | .hbm, ⟨14, _⟩ => ⟨S544, .i32⟩
  | .hbm, ⟨15, _⟩ => ⟨S544, .i32⟩
  | .hbm, ⟨16, _⟩ => ⟨S544, .i32⟩
  | .hbm, ⟨17, _⟩ => ⟨S544x1, .i32⟩
  | .hbm, ⟨18, _⟩ => ⟨S544x1024x2048, .f32⟩
  | .hbm, ⟨19, _⟩ => ⟨S544x256x2048, .f32⟩
  | .hbm, ⟨20, _⟩ => ⟨S1x32x1x2048, .f32⟩
  | .hbm, ⟨21, _⟩ => ⟨S32x1x2048, .f32⟩
  | .hbm, ⟨22, _⟩ => ⟨S_, .i32⟩
  | .hbm, ⟨23, _⟩ => ⟨S544, .i32⟩
  | .hbm, ⟨24, _⟩ => ⟨S544, .i1⟩
  | .hbm, ⟨25, _⟩ => ⟨S_, .i32⟩
  | .hbm, ⟨26, _⟩ => ⟨S544, .i32⟩
  | .hbm, ⟨27, _⟩ => ⟨S544, .i32⟩
  | .hbm, ⟨28, _⟩ => ⟨S544, .i32⟩
  | .hbm, ⟨29, _⟩ => ⟨S544x1, .i32⟩
  | .hbm, ⟨30, _⟩ => ⟨S544x1x2048, .f32⟩
  | .hbm, ⟨31, _⟩ => ⟨S544x256x2048, .f32⟩
  | .hbm, ⟨32, _⟩ => ⟨S544x256x2048, .f32⟩
  | .hbm, ⟨33, _⟩ => ⟨S544x256x1024, .f32⟩
  | .hbm, ⟨34, _⟩ => ⟨S544x256x1024, .f32⟩
  | .hbm, ⟨35, _⟩ => ⟨S_, .f32⟩
  | .hbm, ⟨36, _⟩ => ⟨S544x256x1024, .f32⟩
  | .hbm, ⟨37, _⟩ => ⟨S544x256x1024, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S544x256x1024, .f32⟩
  | .hbm, ⟨42, _⟩ => ⟨S544x256x1024, .f32⟩
  | .hbm, ⟨43, _⟩ => ⟨S_, .f32⟩
  | .hbm, ⟨44, _⟩ => ⟨S544x256x1024, .f32⟩
  | .hbm, ⟨45, _⟩ => ⟨S544x256x1024, .f32⟩
  | .hbm, ⟨46, _⟩ => ⟨S_, .f32⟩
  | .hbm, ⟨47, _⟩ => ⟨S544x256x1024, .f32⟩
  | .hbm, ⟨48, _⟩ => ⟨S544x256x1024, .f32⟩
  | .hbm, ⟨49, _⟩ => ⟨S_, .f32⟩
  | .hbm, ⟨50, _⟩ => ⟨S544x256x1024, .f32⟩
  | .hbm, ⟨51, _⟩ => ⟨S544x256x1024, .f32⟩
  | .hbm, ⟨52, _⟩ => ⟨S544x256x1024, .f32⟩
  | .hbm, ⟨53, _⟩ => ⟨S544x256x1024, .f32⟩
  | .hbm, ⟨54, _⟩ => ⟨S_, .f32⟩
  | .hbm, ⟨55, _⟩ => ⟨S544x256x1024, .f32⟩
  | .hbm, ⟨56, _⟩ => ⟨S544x256x1024, .f32⟩
  | .hbm, ⟨57, _⟩ => ⟨S_, .f32⟩
  | .hbm, ⟨58, _⟩ => ⟨S544x256x1024, .f32⟩
  | .hbm, ⟨59, _⟩ => ⟨S544x256x1024, .f32⟩
  | .hbm, ⟨60, _⟩ => ⟨S544x256x1024, .f32⟩
  | .hbm, ⟨61, _⟩ => ⟨S544x256x1024, .f32⟩
  | .hbm, ⟨62, _⟩ => ⟨S1x32x1024x1024, .f32⟩
  | .hbm, ⟨63, _⟩ => ⟨S32x1024x1024, .f32⟩
  | .hbm, ⟨64, _⟩ => ⟨S_, .i32⟩
  | .hbm, ⟨65, _⟩ => ⟨S544, .i32⟩
  | .hbm, ⟨66, _⟩ => ⟨S544, .i1⟩
  | .hbm, ⟨67, _⟩ => ⟨S_, .i32⟩
  | .hbm, ⟨68, _⟩ => ⟨S544, .i32⟩
  | .hbm, ⟨69, _⟩ => ⟨S544, .i32⟩
  | .hbm, ⟨70, _⟩ => ⟨S544, .i32⟩
  | .hbm, ⟨71, _⟩ => ⟨S544x1, .i32⟩
  | .hbm, ⟨72, _⟩ => ⟨S544x1024x1024, .f32⟩
  | .hbm, ⟨73, _⟩ => ⟨S544x256x1024, .f32⟩
  | .hbm, ⟨74, _⟩ => ⟨S1x32x1x1024, .f32⟩
  | .hbm, ⟨75, _⟩ => ⟨S32x1x1024, .f32⟩
  | .hbm, ⟨76, _⟩ => ⟨S_, .i32⟩
  | .hbm, ⟨77, _⟩ => ⟨S544, .i32⟩
  | .hbm, ⟨78, _⟩ => ⟨S544, .i1⟩
  | .hbm, ⟨79, _⟩ => ⟨S_, .i32⟩
  | .hbm, ⟨80, _⟩ => ⟨S544, .i32⟩
  | .hbm, ⟨81, _⟩ => ⟨S544, .i32⟩
  | .hbm, ⟨82, _⟩ => ⟨S544, .i32⟩
  | .hbm, ⟨83, _⟩ => ⟨S544x1, .i32⟩
  | .hbm, ⟨84, _⟩ => ⟨S544x1x1024, .f32⟩
  | .hbm, ⟨85, _⟩ => ⟨S544x256x1024, .f32⟩
  | .hbm, ⟨86, _⟩ => ⟨S544x256x1024, .f32⟩
  | .hbm, ⟨87, _⟩ => ⟨S544, .i32⟩
  | .hbm, ⟨88, _⟩ => ⟨S1, .i32⟩
  | .hbm, ⟨89, _⟩ => ⟨S_, .i32⟩
  | .hbm, ⟨90, _⟩ => ⟨S544, .i32⟩
  | .hbm, ⟨91, _⟩ => ⟨S544, .i1⟩
  | .hbm, ⟨92, _⟩ => ⟨S544x1x1, .i1⟩
  | .hbm, ⟨93, _⟩ => ⟨S_, .f32⟩
  | .hbm, ⟨94, _⟩ => ⟨S_, .f32⟩
  | .hbm, ⟨95, _⟩ => ⟨S544x256x1024, .i1⟩
  | .hbm, ⟨96, _⟩ => ⟨S544x256x1024, .f32⟩
  | .hbm, ⟨97, _⟩ => ⟨S544x256x1024, .f32⟩
  | .hbm, ⟨98, _⟩ => ⟨S1114112x128, .f32⟩
  | _, _ => ⟨S544, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_cst_4 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_v26 : Ref sig .tc := ⟨.hbm, 45, rfl⟩
abbrev main_cst_5 : Ref sig .tc := ⟨.hbm, 46, rfl⟩
abbrev main_v27 : Ref sig .tc := ⟨.hbm, 47, rfl⟩
abbrev main_v28 : Ref sig .tc := ⟨.hbm, 48, rfl⟩
abbrev main_cst_6 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_7 : Ref sig .tc := ⟨.hbm, 54, rfl⟩
abbrev main_v33 : Ref sig .tc := ⟨.hbm, 55, rfl⟩
abbrev main_v34 : Ref sig .tc := ⟨.hbm, 56, rfl⟩
abbrev main_cst_8 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_c_9 : Ref sig .tc := ⟨.hbm, 64, rfl⟩
abbrev main_v41 : Ref sig .tc := ⟨.hbm, 65, rfl⟩
abbrev main_v42 : Ref sig .tc := ⟨.hbm, 66, rfl⟩
abbrev main_c_10 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_c_11 : Ref sig .tc := ⟨.hbm, 76, rfl⟩
abbrev main_v51 : Ref sig .tc := ⟨.hbm, 77, rfl⟩
abbrev main_v52 : Ref sig .tc := ⟨.hbm, 78, rfl⟩
abbrev main_c_12 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_13 : Ref sig .tc := ⟨.hbm, 93, rfl⟩
abbrev main_call1_v0 : Ref sig .tc := ⟨.hbm, 94, rfl⟩
abbrev main_call1_v1 : Ref sig .tc := ⟨.hbm, 95, rfl⟩
abbrev main_call1_v2 : Ref sig .tc := ⟨.hbm, 96, rfl⟩
abbrev main_v66 : Ref sig .tc := ⟨.hbm, 97, rfl⟩
abbrev main_v67 : Ref sig .tc := ⟨.hbm, 98, rfl⟩

abbrev nD : Nat := 1
abbrev τ : Topo := Topo.v7x

variable {F : FTy → Type} [FloatOps F]
-- ==== Kernel.lean ====
abbrev S32768x512 : Shape := ⟨2, ![32768, 512]⟩
abbrev S512x32768 : Shape := ⟨2, ![512, 32768]⟩
abbrev S4x8192x512 : Shape := ⟨3, ![4, 8192, 512]⟩
abbrev S4x8192x256 : Shape := ⟨3, ![4, 8192, 256]⟩
abbrev S1x1024x512 : Shape := ⟨3, ![1, 1024, 512]⟩
abbrev S1x8192x512 : Shape := ⟨3, ![1, 8192, 512]⟩
abbrev S512x8192 : Shape := ⟨2, ![512, 8192]⟩
abbrev S1x1024x256 : Shape := ⟨3, ![1, 1024, 256]⟩
abbrev S2048x1024 : Shape := ⟨2, ![2048, 1024]⟩
abbrev S1x1024x128 : Shape := ⟨3, ![1, 1024, 128]⟩
abbrev S1024x128 : Shape := ⟨2, ![1024, 128]⟩
abbrev S1x1024 : Shape := ⟨2, ![1, 1024]⟩
abbrev S128x1024 : Shape := ⟨2, ![128, 1024]⟩
abbrev S1x2048x128 : Shape := ⟨3, ![1, 2048, 128]⟩
abbrev S2048x128 : Shape := ⟨2, ![2048, 128]⟩
abbrev S128x2048 : Shape := ⟨2, ![128, 2048]⟩
abbrev S1024 : Shape := ⟨1, ![1024]⟩
abbrev S64x1024 : Shape := ⟨2, ![64, 1024]⟩
abbrev S256x1024 : Shape := ⟨2, ![256, 1024]⟩
abbrev S1024x256 : Shape := ⟨2, ![1024, 256]⟩

abbrev nBuf : Space → Nat
  | .hbm => 6
  | .vmem => 8
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S512x32768, .bf16⟩
  | .hbm, ⟨3, _⟩ => ⟨S4x8192x512, .bf16⟩
  | .hbm, ⟨4, _⟩ => ⟨S4x8192x512, .bf16⟩
  | .hbm, ⟨5, _⟩ => ⟨S4x8192x256, .f32⟩
  | .local _ .vmem, ⟨0, _⟩ => ⟨S1x1024x512, .bf16⟩
  | .local _ .vmem, ⟨1, _⟩ => ⟨S1x1024x512, .bf16⟩
  | .local _ .vmem, ⟨2, _⟩ => ⟨S1x8192x512, .bf16⟩
  | .local _ .vmem, ⟨3, _⟩ => ⟨S512x8192, .bf16⟩
  | .local _ .vmem, ⟨4, _⟩ => ⟨S1x1024x256, .f32⟩
  | .local _ .vmem, ⟨5, _⟩ => ⟨S1x1024x256, .f32⟩
  | .local _ .vmem, ⟨6, _⟩ => ⟨S2048x1024, .f32⟩
  | .local _ .vmem, ⟨7, _⟩ => ⟨S2048x1024, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x8192x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S512x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S32768x512 : Shape := ⟨2, ![32768, 512]⟩
abbrev S512x32768 : Shape := ⟨2, ![512, 32768]⟩
abbrev S4x8192x4x128 : Shape := ⟨4, ![4, 8192, 4, 128]⟩
abbrev S4x128x4x8192 : Shape := ⟨4, ![4, 128, 4, 8192]⟩
abbrev S4x64x4x8192 : Shape := ⟨4, ![4, 64, 4, 8192]⟩
abbrev S4x4x8192x8192 : Shape := ⟨4, ![4, 4, 8192, 8192]⟩
abbrev S_ : Shape := ⟨0, ![]⟩
abbrev S4x4x8192 : Shape := ⟨3, ![4, 4, 8192]⟩
abbrev S4x4x8192x1 : Shape := ⟨4, ![4, 4, 8192, 1]⟩
abbrev S4x4x64x8192 : Shape := ⟨4, ![4, 4, 64, 8192]⟩
abbrev S4x8192x4x64 : Shape := ⟨4, ![4, 8192, 4, 64]⟩
abbrev S4x8192x256 : Shape := ⟨3, ![4, 8192, 256]⟩

abbrev nBuf : Space → Nat
  | .hbm => 32
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S512x32768, .bf16⟩
  | .hbm, ⟨3, _⟩ => ⟨S32768x512, .f32⟩
  | .hbm, ⟨4, _⟩ => ⟨S4x8192x4x128, .f32⟩
  | .hbm, ⟨5, _⟩ => ⟨S32768x512, .f32⟩
  | .hbm, ⟨6, _⟩ => ⟨S4x8192x4x128, .f32⟩
  | .hbm, ⟨7, _⟩ => ⟨S512x32768, .f32⟩
  | .hbm, ⟨8, _⟩ => ⟨S4x128x4x8192, .f32⟩
  | .hbm, ⟨9, _⟩ => ⟨S4x64x4x8192, .f32⟩
  | .hbm, ⟨10, _⟩ => ⟨S4x4x8192x8192, .f32⟩
  | .hbm, ⟨11, _⟩ => ⟨S_, .f32⟩
  | .hbm, ⟨12, _⟩ => ⟨S_, .f32⟩
  | .hbm, ⟨13, _⟩ => ⟨S4x4x8192x8192, .f32⟩
  | .hbm, ⟨14, _⟩ => ⟨S4x4x8192x8192, .f32⟩
  | .hbm, ⟨15, _⟩ => ⟨S_, .f32⟩
  | .hbm, ⟨16, _⟩ => ⟨S4x4x8192, .f32⟩
  | .hbm, ⟨17, _⟩ => ⟨S_, .f32⟩
  | .hbm, ⟨18, _⟩ => ⟨S4x4x8192, .f32⟩
  | .hbm, ⟨19, _⟩ => ⟨S4x4x8192, .f32⟩
  | .hbm, ⟨20, _⟩ => ⟨S4x4x8192x1, .f32⟩
  | .hbm, ⟨21, _⟩ => ⟨S4x4x8192x8192, .f32⟩
  | .hbm, ⟨22, _⟩ => ⟨S4x4x8192x8192, .f32⟩
  | .hbm, ⟨23, _⟩ => ⟨S4x4x8192x8192, .f32⟩
  | .hbm, ⟨24, _⟩ => ⟨S_, .f32⟩
  | .hbm, ⟨25, _⟩ => ⟨S4x4x8192, .f32⟩
  | .hbm, ⟨26, _⟩ => ⟨S4x4x8192x1, .f32⟩
  | .hbm, ⟨27, _⟩ => ⟨S4x4x8192x8192, .f32⟩
  | .hbm, ⟨28, _⟩ => ⟨S4x4x8192x8192, .f32⟩
  | .hbm, ⟨29, _⟩ => ⟨S4x4x64x8192, .f32⟩
  | .hbm, ⟨30, _⟩ => ⟨S4x8192x4x64, .f32⟩
  | .hbm, ⟨31, _⟩ => ⟨S4x8192x256, .f32⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== Kernel3.lean ====
abbrev S32768x512 : Shape := ⟨2, ![32768, 512]⟩
abbrev S32768x128 : Shape := ⟨2, ![32768, 128]⟩
abbrev S256x32768 : Shape := ⟨2, ![256, 32768]⟩
abbrev S4x8192x512 : Shape := ⟨3, ![4, 8192, 512]⟩
abbrev S4x8192x128 : Shape := ⟨3, ![4, 8192, 128]⟩
abbrev S4x8192x256 : Shape := ⟨3, ![4, 8192, 256]⟩
abbrev S1x1024x512 : Shape := ⟨3, ![1, 1024, 512]⟩
abbrev S1x8192x128 : Shape := ⟨3, ![1, 8192, 128]⟩
abbrev S256x8192 : Shape := ⟨2, ![256, 8192]⟩
abbrev S1x1024x256 : Shape := ⟨3, ![1, 1024, 256]⟩
abbrev S2048x1024 : Shape := ⟨2, ![2048, 1024]⟩
abbrev S1x1024x128 : Shape := ⟨3, ![1, 1024, 128]⟩
abbrev S1024x128 : Shape := ⟨2, ![1024, 128]⟩
abbrev S1x1024 : Shape := ⟨2, ![1, 1024]⟩
abbrev S128x1024 : Shape := ⟨2, ![128, 1024]⟩
abbrev S1x2048x128 : Shape := ⟨3, ![1, 2048, 128]⟩
abbrev S2048x128 : Shape := ⟨2, ![2048, 128]⟩
abbrev S128x2048 : Shape := ⟨2, ![128, 2048]⟩
abbrev S1024 : Shape := ⟨1, ![1024]⟩
abbrev S64x1024 : Shape := ⟨2, ![64, 1024]⟩
abbrev S256x1024 : Shape := ⟨2, ![256, 1024]⟩
abbrev S1024x256 : Shape := ⟨2, ![1024, 256]⟩

abbrev nBuf : Space → Nat
  | .hbm => 6
  | .vmem => 8
  | .smem => 0
  | _ => 0

abbrev bufTy : (tb : Table) → Fin (tcTables nBuf tb) → BufTy
  | .hbm, ⟨0, _⟩ => ⟨S32768x512, .bf16⟩
  | .hbm, ⟨1, _⟩ => ⟨S32768x128, .bf16⟩
  | .hbm, ⟨2, _⟩ => ⟨S256x32768, .bf16⟩
  | .hbm, ⟨3, _⟩ => ⟨S4x8192x512, .bf16⟩
  | .hbm, ⟨4, _⟩ => ⟨S4x8192x128, .bf16⟩
  | .hbm, ⟨5, _⟩ => ⟨S4x8192x256, .f32⟩
  | .local _ .vmem, ⟨0, _⟩ => ⟨S1x1024x512, .bf16⟩
  | .local _ .vmem, ⟨1, _⟩ => ⟨S1x1024x512, .bf16⟩
  | .local _ .vmem, ⟨2, _⟩ => ⟨S1x8192x128, .bf16⟩
  | .local _ .vmem, ⟨3, _⟩ => ⟨S256x8192, .bf16⟩
  | .local _ .vmem, ⟨4, _⟩ => ⟨S1x1024x256, .f32⟩
  | .local _ .vmem, ⟨5, _⟩ => ⟨S1x1024x256, .f32⟩
  | .local _ .vmem, ⟨6, _⟩ => ⟨S2048x1024, .f32⟩
  | .local _ .vmem, ⟨7, _⟩ => ⟨S2048x1024, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x8192x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S256x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S32768x512 : Shape := ⟨2, ![32768, 512]⟩
abbrev S32768x128 : Shape := ⟨2, ![32768, 128]⟩
abbrev S256x32768 : Shape := ⟨2, ![256, 32768]⟩
abbrev S4x8192x4x128 : Shape := ⟨4, ![4, 8192, 4, 128]⟩
abbrev S4 : Shape := ⟨1, ![4]⟩
abbrev S4x1 : Shape := ⟨2, ![4, 1]⟩
abbrev S_ : Shape := ⟨0, ![]⟩
abbrev S4x8192x4x64 : Shape := ⟨4, ![4, 8192, 4, 64]⟩
abbrev S4x8192x2x2x64 : Shape := ⟨5, ![4, 8192, 2, 2, 64]⟩
abbrev S4x8192x2x64 : Shape := ⟨4, ![4, 8192, 2, 64]⟩
abbrev S2x128x4x8192 : Shape := ⟨4, ![2, 128, 4, 8192]⟩
abbrev S2x64x4x8192 : Shape := ⟨4, ![2, 64, 4, 8192]⟩
abbrev S4x2x8192x8192x2 : Shape := ⟨5, ![4, 2, 8192, 8192, 2]⟩
abbrev S4x2x2x8192x8192 : Shape := ⟨5, ![4, 2, 2, 8192, 8192]⟩
abbrev S4x2x2x8192 : Shape := ⟨4, ![4, 2, 2, 8192]⟩
abbrev S4x2x2x8192x1 : Shape := ⟨5, ![4, 2, 2, 8192, 1]⟩
abbrev S4x2x64x2x8192 : Shape := ⟨5, ![4, 2, 64, 2, 8192]⟩
abbrev S4x8192x256 : Shape := ⟨3, ![4, 8192, 256]⟩

abbrev nBuf : Space → Nat
  | .hbm => 43
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x128, .bf16⟩
  | .hbm, ⟨2, _⟩ => ⟨S256x32768, .bf16⟩
  | .hbm, ⟨3, _⟩ => ⟨S32768x512, .f32⟩
  | .hbm, ⟨4, _⟩ => ⟨S4x8192x4x128, .f32⟩
  | .hbm, ⟨5, _⟩ => ⟨S4, .i32⟩
  | .hbm, ⟨6, _⟩ => ⟨S4x1, .i32⟩
  | .hbm, ⟨7, _⟩ => ⟨S_, .i32⟩
  | .hbm, ⟨8, _⟩ => ⟨S4x1, .i32⟩
  | .hbm, ⟨9, _⟩ => ⟨S4x1, .i1⟩
  | .hbm, ⟨10, _⟩ => ⟨S4x8192x4x64, .f32⟩
  | .hbm, ⟨11, _⟩ => ⟨S4x8192x4x64, .f32⟩
  | .hbm, ⟨12, _⟩ => ⟨S4x8192x4x64, .i1⟩
  | .hbm, ⟨13, _⟩ => ⟨S4x8192x4x64, .f32⟩
  | .hbm, ⟨14, _⟩ => ⟨S4x8192x2x2x64, .f32⟩
  | .hbm, ⟨15, _⟩ => ⟨S32768x128, .f32⟩
  | .hbm, ⟨16, _⟩ => ⟨S4x8192x2x64, .f32⟩
  | .hbm, ⟨17, _⟩ => ⟨S256x32768, .f32⟩
  | .hbm, ⟨18, _⟩ => ⟨S2x128x4x8192, .f32⟩
  | .hbm, ⟨19, _⟩ => ⟨S2x64x4x8192, .f32⟩
  | .hbm, ⟨20, _⟩ => ⟨S4x2x8192x8192x2, .f32⟩
  | .hbm, ⟨21, _⟩ => ⟨S4x2x2x8192x8192, .f32⟩
  | .hbm, ⟨22, _⟩ => ⟨S_, .f32⟩
  | .hbm, ⟨23, _⟩ => ⟨S_, .f32⟩
  | .hbm, ⟨24, _⟩ => ⟨S4x2x2x8192x8192, .f32⟩
  | .hbm, ⟨25, _⟩ => ⟨S4x2x2x8192x8192, .f32⟩
  | .hbm, ⟨26, _⟩ => ⟨S_, .f32⟩
  | .hbm, ⟨27, _⟩ => ⟨S4x2x2x8192, .f32⟩
  | .hbm, ⟨28, _⟩ => ⟨S_, .f32⟩
  | .hbm, ⟨29, _⟩ => ⟨S4x2x2x8192, .f32⟩
  | .hbm, ⟨30, _⟩ => ⟨S4x2x2x8192, .f32⟩
  | .hbm, ⟨31, _⟩ => ⟨S4x2x2x8192x1, .f32⟩
  | .hbm, ⟨32, _⟩ => ⟨S4x2x2x8192x8192, .f32⟩
  | .hbm, ⟨33, _⟩ => ⟨S4x2x2x8192x8192, .f32⟩
  | .hbm, ⟨34, _⟩ => ⟨S4x2x2x8192x8192, .f32⟩
  | .hbm, ⟨35, _⟩ => ⟨S_, .f32⟩
  | .hbm, ⟨36, _⟩ => ⟨S4x2x2x8192, .f32⟩
  | .hbm, ⟨37, _⟩ => ⟨S4x2x2x8192x1, .f32⟩
  | .hbm, ⟨38, _⟩ => ⟨S4x2x2x8192x8192, .f32⟩
  | .hbm, ⟨39, _⟩ => ⟨S4x2x2x8192x8192, .f32⟩
  | .hbm, ⟨40, _⟩ => ⟨S4x2x64x2x8192, .f32⟩
  | .hbm, ⟨41, _⟩ => ⟨S4x8192x2x2x64, .f32⟩
  | .hbm, ⟨42, _⟩ => ⟨S4x8192x256, .f32⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_v0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_v20 : Ref sig .tc := ⟨.hbm, 27, rfl⟩
abbrev main_cst_1 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩

abbrev nD : Nat := 1
abbrev τ : Topo := Topo.v7x

variable {F : FTy → Type} [FloatOps F]
-- ==== Kernel4.lean ====
abbrev S4x8192x1024 : Shape := ⟨3, ![4, 8192, 1024]⟩
abbrev S1024x1024 : Shape := ⟨2, ![1024, 1024]⟩
abbrev S4x256x1024 : Shape := ⟨3, ![4, 256, 1024]⟩
abbrev S1x1024 : Shape := ⟨2, ![1, 1024]⟩
abbrev S262144x128 : Shape := ⟨2, ![262144, 128]⟩
abbrev S1x256x1024 : Shape := ⟨3, ![1, 256, 1024]⟩
abbrev S2048x128 : Shape := ⟨2, ![2048, 128]⟩
abbrev S256x1024 : Shape := ⟨2, ![256, 1024]⟩
abbrev S256x256 : Shape := ⟨2, ![256, 256]⟩
abbrev S1x256x256 : Shape := ⟨3, ![1, 256, 256]⟩
abbrev S256 : Shape := ⟨1, ![256]⟩
abbrev S256x1 : Shape := ⟨2, ![256, 1]⟩
abbrev S256x128 : Shape := ⟨2, ![256, 128]⟩

abbrev nBuf : Space → Nat
  | .hbm => 9
  | .vmem => 14
  | .smem => 0
  | _ => 0

abbrev bufTy : (tb : Table) → Fin (tcTables nBuf tb) → BufTy
  | .hbm, ⟨0, _⟩ => ⟨S4x8192x1024, .f32⟩
  | .hbm, ⟨1, _⟩ => ⟨S1024x1024, .bf16⟩
  | .hbm, ⟨2, _⟩ => ⟨S4x256x1024, .bf16⟩
  | .hbm, ⟨3, _⟩ => ⟨S4x256x1024, .bf16⟩
  | .hbm, ⟨4, _⟩ => ⟨S1024x1024, .bf16⟩
  | .hbm, ⟨5, _⟩ => ⟨S1x1024, .f32⟩
  | .hbm, ⟨6, _⟩ => ⟨S1x1024, .f32⟩
  | .hbm, ⟨7, _⟩ => ⟨S4x8192x1024, .f32⟩
  | .hbm, ⟨8, _⟩ => ⟨S262144x128, .f32⟩
  | .local _ .vmem, ⟨0, _⟩ => ⟨S1x256x1024, .f32⟩
  | .local _ .vmem, ⟨1, _⟩ => ⟨S1x256x1024, .f32⟩
  | .local _ .vmem, ⟨2, _⟩ => ⟨S1024x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x256x1024, .bf16⟩
  | .local _ .vmem, ⟨7, _⟩ => ⟨S1024x1024, .bf16⟩
  | .local _ .vmem, ⟨8, _⟩ => ⟨S1x1024, .f32⟩
  | .local _ .vmem, ⟨9, _⟩ => ⟨S1x1024, .f32⟩
  | .local _ .vmem, ⟨10, _⟩ => ⟨S1x256x1024, .f32⟩
  | .local _ .vmem, ⟨11, _⟩ => ⟨S1x256x1024, .f32⟩
  | .local _ .vmem, ⟨12, _⟩ => ⟨S2048x128, .f32⟩
  | .local _ .vmem, ⟨13, _⟩ => ⟨S2048x128, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference4Ideal.lean ====
abbrev S4x8192x1024 : Shape := ⟨3, ![4, 8192, 1024]⟩
abbrev S1024x1024 : Shape := ⟨2, ![1024, 1024]⟩
abbrev S4x256x1024 : Shape := ⟨3, ![4, 256, 1024]⟩
abbrev S1x1024 : Shape := ⟨2, ![1, 1024]⟩
abbrev S4x8192x4x256 : Shape := ⟨4, ![4, 8192, 4, 256]⟩
abbrev S4x256x4x256 : Shape := ⟨4, ![4, 256, 4, 256]⟩
abbrev S4x4x8192x256 : Shape := ⟨4, ![4, 4, 8192, 256]⟩
abbrev S_ : Shape := ⟨0, ![]⟩
abbrev S4x4x8192 : Shape := ⟨3, ![4, 4, 8192]⟩
abbrev S4x4x8192x1 : Shape := ⟨4, ![4, 4, 8192, 1]⟩
abbrev S4x4x256x8192 : Shape := ⟨4, ![4, 4, 256, 8192]⟩
abbrev S4x8192 : Shape := ⟨2, ![4, 8192]⟩
abbrev S4x8192x1 : Shape := ⟨3, ![4, 8192, 1]⟩
abbrev S1024 : Shape := ⟨1, ![1024]⟩
abbrev S1x1x1024 : Shape := ⟨3, ![1, 1, 1024]⟩
abbrev S262144x128 : Shape := ⟨2, ![262144, 128]⟩

abbrev nBuf : Space → Nat
  | .hbm => 73
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024x1024, .bf16⟩
  | .hbm, ⟨2, _⟩ => ⟨S4x256x1024, .bf16⟩
  | .hbm, ⟨3, _⟩ => ⟨S4x256x1024, .bf16⟩
  | .hbm, ⟨4, _⟩ => ⟨S1024x1024, .bf16⟩
  | .hbm, ⟨5, _⟩ => ⟨S1x1024, .f32⟩
  | .hbm, ⟨6, _⟩ => ⟨S1x1024, .f32⟩
  | .hbm, ⟨7, _⟩ => ⟨S1024x1024, .f32⟩
  | .hbm, ⟨8, _⟩ => ⟨S4x8192x1024, .f32⟩
  | .hbm, ⟨9, _⟩ => ⟨S4x8192x4x256, .f32⟩
  | .hbm, ⟨10, _⟩ => ⟨S4x256x1024, .f32⟩
  | .hbm, ⟨11, _⟩ => ⟨S4x256x4x256, .f32⟩
  | .hbm, ⟨12, _⟩ => ⟨S4x256x1024, .f32⟩
  | .hbm, ⟨13, _⟩ => ⟨S4x256x4x256, .f32⟩
  | .hbm, ⟨14, _⟩ => ⟨S4x4x8192x256, .f32⟩
  | .hbm, ⟨15, _⟩ => ⟨S_, .f32⟩
  | .hbm, ⟨16, _⟩ => ⟨S4x4x8192x256, .f32⟩
  | .hbm, ⟨17, _⟩ => ⟨S4x4x8192x256, .f32⟩
  | .hbm, ⟨18, _⟩ => ⟨S_, .f32⟩
  | .hbm, ⟨19, _⟩ => ⟨S4x4x8192, .f32⟩
  | .hbm, ⟨20, _⟩ => ⟨S_, .f32⟩
  | .hbm, ⟨21, _⟩ => ⟨S4x4x8192, .f32⟩
  | .hbm, ⟨22, _⟩ => ⟨S4x4x8192, .f32⟩
  | .hbm, ⟨23, _⟩ => ⟨S4x4x8192x1, .f32⟩
  | .hbm, ⟨24, _⟩ => ⟨S4x4x8192x256, .f32⟩
  | .hbm, ⟨25, _⟩ => ⟨S4x4x8192x256, .f32⟩
  | .hbm, ⟨26, _⟩ => ⟨S4x4x8192x256, .f32⟩
  | .hbm, ⟨27, _⟩ => ⟨S_, .f32⟩
  | .hbm, ⟨28, _⟩ => ⟨S4x4x8192, .f32⟩
  | .hbm, ⟨29, _⟩ => ⟨S4x4x8192x1, .f32⟩
  | .hbm, ⟨30, _⟩ => ⟨S4x4x8192x256, .f32⟩
  | .hbm, ⟨31, _⟩ => ⟨S4x4x8192x256, .f32⟩
  | .hbm, ⟨32, _⟩ => ⟨S4x4x256x8192, .f32⟩
  | .hbm, ⟨33, _⟩ => ⟨S4x8192x4x256, .f32⟩
  | .hbm, ⟨34, _⟩ => ⟨S4x8192x1024, .f32⟩
  | .hbm, ⟨35, _⟩ => ⟨S1024x1024, .f32⟩
  | .hbm, ⟨36, _⟩ => ⟨S4x8192x1024, .f32⟩
  | .hbm, ⟨37, _⟩ => ⟨S_, .f32⟩
  | .hbm, ⟨38, _⟩ => ⟨S4x8192x1024, .f32⟩
  | .hbm, ⟨39, _⟩ => ⟨S4x8192x1024, .f32⟩
  | .hbm, ⟨40, _⟩ => ⟨S4x8192x1024, .f32⟩
  | .hbm, ⟨41, _⟩ => ⟨S_, .f32⟩
  | .hbm, ⟨42, _⟩ => ⟨S4x8192, .f32⟩
  | .hbm, ⟨43, _⟩ => ⟨S4x8192x1, .f32⟩
  | .hbm, ⟨44, _⟩ => ⟨S_, .f32⟩
  | .hbm, ⟨45, _⟩ => ⟨S4x8192x1, .f32⟩
  | .hbm, ⟨46, _⟩ => ⟨S4x8192x1, .f32⟩
  | .hbm, ⟨47, _⟩ => ⟨S4x8192x1024, .f32⟩
  | .hbm, ⟨48, _⟩ => ⟨S4x8192x1024, .f32⟩
  | .hbm, ⟨49, _⟩ => ⟨S4x8192x1024, .f32⟩
  | .hbm, ⟨50, _⟩ => ⟨S_, .f32⟩
  | .hbm, ⟨51, _⟩ => ⟨S4x8192, .f32⟩
  | .hbm, ⟨52, _⟩ => ⟨S4x8192x1, .f32⟩
  | .hbm, ⟨53, _⟩ => ⟨S_, .f32⟩
  | .hbm, ⟨54, _⟩ => ⟨S4x8192x1, .f32⟩
  | .hbm, ⟨55, _⟩ => ⟨S4x8192x1, .f32⟩
  | .hbm, ⟨56, _⟩ => ⟨S4x8192x1024, .f32⟩
  | .hbm, ⟨57, _⟩ => ⟨S4x8192x1024, .f32⟩
  | .hbm, ⟨58, _⟩ => ⟨S_, .f32⟩
  | .hbm, ⟨59, _⟩ => ⟨S4x8192x1, .f32⟩
  | .hbm, ⟨60, _⟩ => ⟨S4x8192x1, .f32⟩
  | .hbm, ⟨61, _⟩ => ⟨S4x8192x1, .f32⟩
  | .hbm, ⟨62, _⟩ => ⟨S4x8192x1024, .f32⟩
  | .hbm, ⟨63, _⟩ => ⟨S4x8192x1024, .f32⟩
  | .hbm, ⟨64, _⟩ => ⟨S1024, .f32⟩
  | .hbm, ⟨65, _⟩ => ⟨S1x1x1024, .f32⟩
  | .hbm, ⟨66, _⟩ => ⟨S4x8192x1024, .f32⟩
  | .hbm, ⟨67, _⟩ => ⟨S4x8192x1024, .f32⟩
  | .hbm, ⟨68, _⟩ => ⟨S1024, .f32⟩
  | .hbm, ⟨69, _⟩ => ⟨S1x1x1024, .f32⟩
  | .hbm, ⟨70, _⟩ => ⟨S4x8192x1024, .f32⟩
  | .hbm, ⟨71, _⟩ => ⟨S4x8192x1024, .f32⟩
  | .hbm, ⟨72, _⟩ => ⟨S262144x128, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩

abbrev nD : Nat := 1
abbrev τ : Topo := Topo.v7x

variable {F : FTy → Type} [FloatOps F]
-- ==== Kernel5.lean ====
abbrev S32768x256 : Shape := ⟨2, ![32768, 256]⟩
abbrev S32768x1024 : Shape := ⟨2, ![32768, 1024]⟩
abbrev S4x256 : Shape := ⟨2, ![4, 256]⟩
abbrev S1024x1024 : Shape := ⟨2, ![1024, 1024]⟩
abbrev S1x1024 : Shape := ⟨2, ![1, 1024]⟩
abbrev S512x256 : Shape := ⟨2, ![512, 256]⟩
abbrev S512x1024 : Shape := ⟨2, ![512, 1024]⟩
abbrev S1x256 : Shape := ⟨2, ![1, 256]⟩
abbrev S512 : Shape := ⟨1, ![512]⟩
abbrev S512x1 : Shape := ⟨2, ![512, 1]⟩

abbrev nBuf : Space → Nat
  | .hbm => 10
  | .vmem => 16
  | .smem => 0
  | _ => 0

abbrev bufTy : (tb : Table) → Fin (tcTables nBuf tb) → BufTy
  | .hbm, ⟨0, _⟩ => ⟨S32768x256, .f32⟩
  | .hbm, ⟨1, _⟩ => ⟨S32768x256, .f32⟩
  | .hbm, ⟨2, _⟩ => ⟨S32768x256, .f32⟩
  | .hbm, ⟨3, _⟩ => ⟨S32768x256, .f32⟩
  | .hbm, ⟨4, _⟩ => ⟨S32768x1024, .f32⟩
  | .hbm, ⟨5, _⟩ => ⟨S4x256, .f32⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S32768x1024, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x1024, .f32⟩
  | .local _ .vmem, ⟨9, _⟩ => ⟨S512x1024, .f32⟩
  | .local _ .vmem, ⟨10, _⟩ => ⟨S4x256, .f32⟩
  | .local _ .vmem, ⟨11, _⟩ => ⟨S1024x1024, .bf16⟩
  | .local _ .vmem, ⟨12, _⟩ => ⟨S1x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | _, _ => ⟨S32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference5Ideal.lean ====
abbrev S32768x256 : Shape := ⟨2, ![32768, 256]⟩
abbrev S32768x1024 : Shape := ⟨2, ![32768, 1024]⟩
abbrev S4x256 : Shape := ⟨2, ![4, 256]⟩
abbrev S1024x1024 : Shape := ⟨2, ![1024, 1024]⟩
abbrev S1x1024 : Shape := ⟨2, ![1, 1024]⟩
abbrev S32768x1x256 : Shape := ⟨3, ![32768, 1, 256]⟩
abbrev S32768x4x256 : Shape := ⟨3, ![32768, 4, 256]⟩
abbrev S_ : Shape := ⟨0, ![]⟩
abbrev S32768x4 : Shape := ⟨2, ![32768, 4]⟩
abbrev S32768x4x1 : Shape := ⟨3, ![32768, 4, 1]⟩
abbrev S1x4x256 : Shape := ⟨3, ![1, 4, 256]⟩
abbrev S32768 : Shape := ⟨1, ![32768]⟩
abbrev S32768x1 : Shape := ⟨2, ![32768, 1]⟩
abbrev S1024 : Shape := ⟨1, ![1024]⟩

abbrev nBuf : Space → Nat
  | .hbm => 68
  | .vmem => 0
  | .smem => 0
  | _ => 0

abbrev bufTy : (tb : Table) → Fin (tcTables nBuf tb) → BufTy
  | .hbm, ⟨0, _⟩ => ⟨S32768x256, .f32⟩
  | .hbm, ⟨1, _⟩ => ⟨S32768x256, .f32⟩
  | .hbm, ⟨2, _⟩ => ⟨S32768x256, .f32⟩
  | .hbm, ⟨3, _⟩ => ⟨S32768x256, .f32⟩
  | .hbm, ⟨4, _⟩ => ⟨S32768x1024, .f32⟩
  | .hbm, ⟨5, _⟩ => ⟨S4x256, .f32⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S32768x1x256, .f32⟩
  | .hbm, ⟨10, _⟩ => ⟨S32768x1x256, .f32⟩
  | .hbm, ⟨11, _⟩ => ⟨S32768x1x256, .f32⟩
  | .hbm, ⟨12, _⟩ => ⟨S32768x1x256, .f32⟩
  | .hbm, ⟨13, _⟩ => ⟨S32768x4x256, .f32⟩
  | .hbm, ⟨14, _⟩ => ⟨S32768x4x256, .f32⟩
  | .hbm, ⟨15, _⟩ => ⟨S_, .f32⟩
  | .hbm, ⟨16, _⟩ => ⟨S32768x4, .f32⟩
  | .hbm, ⟨17, _⟩ => ⟨S32768x4x1, .f32⟩
  | .hbm, ⟨18, _⟩ => ⟨S_, .f32⟩
  | .hbm, ⟨19, _⟩ => ⟨S32768x4x1, .f32⟩
  | .hbm, ⟨20, _⟩ => ⟨S32768x4x1, .f32⟩
  | .hbm, ⟨21, _⟩ => ⟨S_, .f32⟩
  | .hbm, ⟨22, _⟩ => ⟨S32768x4x1, .f32⟩
  | .hbm, ⟨23, _⟩ => ⟨S32768x4x1, .f32⟩
  | .hbm, ⟨24, _⟩ => ⟨S32768x4x1, .f32⟩
  | .hbm, ⟨25, _⟩ => ⟨S_, .f32⟩
  | .hbm, ⟨26, _⟩ => ⟨S32768x1024, .f32⟩
  | .hbm, ⟨27, _⟩ => ⟨S32768x1024, .f32⟩
  | .hbm, ⟨28, _⟩ => ⟨S32768x4x256, .f32⟩
  | .hbm, ⟨29, _⟩ => ⟨S32768x4x256, .f32⟩
  | .hbm, ⟨30, _⟩ => ⟨S1x4x256, .f32⟩
  | .hbm, ⟨31, _⟩ => ⟨S32768x4x256, .f32⟩
  | .hbm, ⟨32, _⟩ => ⟨S32768x4x256, .f32⟩
  | .hbm, ⟨33, _⟩ => ⟨S32768x1024, .f32⟩
  | .hbm, ⟨34, _⟩ => ⟨S1024x1024, .f32⟩
  | .hbm, ⟨35, _⟩ => ⟨S32768x1024, .f32⟩
  | .hbm, ⟨36, _⟩ => ⟨S32768x1024, .f32⟩
  | .hbm, ⟨37, _⟩ => ⟨S_, .f32⟩
  | .hbm, ⟨38, _⟩ => ⟨S32768, .f32⟩
  | .hbm, ⟨39, _⟩ => ⟨S32768x1, .f32⟩
  | .hbm, ⟨40, _⟩ => ⟨S_, .f32⟩
  | .hbm, ⟨41, _⟩ => ⟨S32768x1, .f32⟩
  | .hbm, ⟨42, _⟩ => ⟨S32768x1, .f32⟩
  | .hbm, ⟨43, _⟩ => ⟨S32768x1024, .f32⟩
  | .hbm, ⟨44, _⟩ => ⟨S32768x1024, .f32⟩
  | .hbm, ⟨45, _⟩ => ⟨S32768x1024, .f32⟩
  | .hbm, ⟨46, _⟩ => ⟨S_, .f32⟩
  | .hbm, ⟨47, _⟩ => ⟨S32768, .f32⟩
  | .hbm, ⟨48, _⟩ => ⟨S32768x1, .f32⟩
  | .hbm, ⟨49, _⟩ => ⟨S_, .f32⟩
  | .hbm, ⟨50, _⟩ => ⟨S32768x1, .f32⟩
  | .hbm, ⟨51, _⟩ => ⟨S32768x1, .f32⟩
  | .hbm, ⟨52, _⟩ => ⟨S32768x1024, .f32⟩
  | .hbm, ⟨53, _⟩ => ⟨S32768x1024, .f32⟩
  | .hbm, ⟨54, _⟩ => ⟨S_, .f32⟩
  | .hbm, ⟨55, _⟩ => ⟨S32768x1, .f32⟩
  | .hbm, ⟨56, _⟩ => ⟨S32768x1, .f32⟩
  | .hbm, ⟨57, _⟩ => ⟨S32768x1, .f32⟩
  | .hbm, ⟨58, _⟩ => ⟨S32768x1024, .f32⟩
  | .hbm, ⟨59, _⟩ => ⟨S32768x1024, .f32⟩
  | .hbm, ⟨60, _⟩ => ⟨S1024, .f32⟩
  | .hbm, ⟨61, _⟩ => ⟨S1x1024, .f32⟩
  | .hbm, ⟨62, _⟩ => ⟨S32768x1024, .f32⟩
  | .hbm, ⟨63, _⟩ => ⟨S32768x1024, .f32⟩
  | .hbm, ⟨64, _⟩ => ⟨S1024, .f32⟩
  | .hbm, ⟨65, _⟩ => ⟨S1x1024, .f32⟩
  | .hbm, ⟨66, _⟩ => ⟨S32768x1024, .f32⟩
  | .hbm, ⟨67, _⟩ => ⟨S32768x1024, .f32⟩
  | _, _ => ⟨S32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_cst_6 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩

abbrev nD : Nat := 1
abbrev τ : Topo := Topo.v7x

variable {F : FTy → Type} [FloatOps F]
-- ==== Proof.Attn.lean ====
/- The attention body in words of its own: the operations one query tile's heads are computed with, for any float
   values, over the tiles they are loaded as. Both programs' bodies are these words at their own loads. -/
module

public import proofs.«01_k».proof.Proof.Gen.KernelIdeal

@[expose] public section

set_option maxRecDepth 16384

noncomputable section

namespace Cert.Attn

open Idealize.ShloMosaic

/-- A query tile of one head, as it is loaded. -/
abbrev SQ : Shape := ⟨3, ![1, 1024, 128]⟩
/-- A chunk of keys of one head, as it is loaded. -/
abbrev SK : Shape := ⟨3, ![1, 2048, 128]⟩
/-- A chunk of values (transposed). -/
abbrev SV : Shape := ⟨2, ![128, 2048]⟩
/-- Scores: key row, query column. -/
abbrev SS : Shape := ⟨2, ![2048, 1024]⟩
/-- One number per query. -/
abbrev SM : Shape := ⟨2, ![1, 1024]⟩
/-- The running sums: value row, query column. -/
abbrev SA : Shape := ⟨2, ![128, 1024]⟩
/-- One head's result. -/
abbrev SH : Shape := ⟨2, ![64, 1024]⟩

variable {F : FTy → Type} [FloatOps F]

/-- The scores of a chunk of keys against the query tile. -/
def score (q : Vec F SQ .bf16) (k : Vec F SK .bf16) : FVec F SS .f32 :=
  shapeCast SS (matmul (DotDims.transposedRhs 2048 128 1024) none
    (shapeCast ⟨2, ![2048, 128]⟩ k (by decide) : FVec F ⟨2, ![2048, 128]⟩ .bf16)
    (shapeCast ⟨2, ![1024, 128]⟩ q (by decide) : FVec F ⟨2, ![1024, 128]⟩ .bf16)
    (constant SS .f32 0x00000000#32)) (by decide)

/-- The running maximum before the first chunk. -/
def max0 : FVec F SM .f32 := broadcast SM (Scalar.ofBits .f32 0xF149F2CA#32)

/-- The running sums before the first chunk. -/
def acc0 : FVec F SA .f32 := broadcast SA (Scalar.ofBits .f32 0x00000000#32)

/-- The running maximum after one more chunk of scores. -/
def maxStep (m : FVec F SM .f32) (s : FVec F SS .f32) : FVec F SM .f32 :=
  maximumf m (shapeCast SM (multiReduction .maximumf [0] ⟨1, ![1024]⟩ s 0xFF800000#32 (by decide) (.inl rfl) rfl) (by decide))

/-- The running sums after one more chunk: the old ones rescaled to the new maximum, plus the chunk's values weighted. -/
def accStep (m m' : FVec F SM .f32) (a : FVec F SA .f32) (s : FVec F SS .f32) (v : Vec F SV .bf16) : FVec F SA .f32 :=
  addf (mulf (broadcastTo SA (exp2 (subf m m')) (by decide)) a)
    (matmul (DotDims.plain 128 2048 1024) none (v : FVec F SV .bf16)
      (truncf .bf16 (exp2 (subf s (broadcastTo SS m' (by decide)))) (by decide))
      (constant SA .f32 0x00000000#32))

/-- The running maximum after `c` chunks. -/
def maxAt (q : Vec F SQ .bf16) (k : Fin 4 → Vec F SK .bf16) : ℕ → FVec F SM .f32
  | 0 => max0
  | c + 1 => maxStep (maxAt q k c) (score q (k (Fin.ofNat 4 c)))

/-- The running sums after `c` chunks. -/
def accAt (q : Vec F SQ .bf16) (k : Fin 4 → Vec F SK .bf16) (v : Fin 4 → Vec F SV .bf16) : ℕ → FVec F SA .f32
  | 0 => acc0
  | c + 1 => accStep (maxAt q k c) (maxAt q k (c + 1)) (accAt q k v c) (score q (k (Fin.ofNat 4 c))) (v (Fin.ofNat 4 c))

/-- One head: the first 64 rows of the sums, divided by row 64. -/
def headOut (a : FVec F SA .f32) : FVec F SH .f32 :=
  divf (extractStridedSlice SH ![0, 0] a (by decide))
    (broadcastTo SH (extractStridedSlice SM ![64, 0] a (by decide) : FVec F SM .f32) (by decide))

/-- The block of the result: four heads side by side, a row per query. -/
def blockOut (h : Fin 4 → FVec F SH .f32) : FVec F ⟨3, ![1, 1024, 256]⟩ .f32 :=
  shapeCast ⟨3, ![1, 1024, 256]⟩ (transpose ⟨2, ![1024, 256]⟩ [1, 0]
    (concatenate ⟨2, ![256, 1024]⟩ 0 [⟨SH, h 0⟩, ⟨SH, h 1⟩, ⟨SH, h 2⟩, ⟨SH, h 3⟩]
      (show Shape.Concatenates [SH, SH, SH, SH] ⟨2, ![256, 1024]⟩ 0 by decide)) (by decide)) (by decide)

/-- The block from the tiles of each head. -/
def attnBlock (q : Fin 4 → Vec F SQ .bf16) (k : Fin 4 → Fin 4 → Vec F SK .bf16) (v : Fin 4 → Fin 4 → Vec F SV .bf16) :
    FVec F ⟨3, ![1, 1024, 256]⟩ .f32 :=
  blockOut fun h => headOut (accAt (q h) (k h) (v h) 4)

end Cert.Attn

end
-- ==== Proof.MlaBlock.lean ====
/- What a grid point of the multi-head latent attention leaves in its output block: the attention body's words at
   its loads. -/
module

public import proofs.«01_k».proof.Proof.Gen.KernelIdeal.Value
public import proofs.«01_k».proof.Proof.Attn

@[expose] public section

set_option maxRecDepth 16384

noncomputable section

namespace Cert.Mla

open Cert.KernelIdeal Cert.KernelIdeal.Gen Cert.Attn
open Idealize.ShloMosaic Idealize.ShloMosaic.TcCoe Idealize.SL.Sem Idealize.ShloMosaic.Tactic

variable {F : FTy → Type} [FloatOps F]

/-- Head `h`'s query tile. -/
def qLoad (x0 : Vec F S1x1024x512 .bf16) (h : Fin 4) : Vec F SQ .bf16 :=
  View.ld x0 (Rect.unit (s := S1x1024x512) ![0, 0, 128 * h.val] ![1, 1024, 128] (by revert h; decide))

/-- Head `h`'s keys, chunk `c`. -/
def kLoad (x1 : Vec F S1x8192x512 .bf16) (h c : Fin 4) : Vec F SK .bf16 :=
  View.ld x1 (Rect.unit (s := S1x8192x512) ![0, 2048 * c.val, 128 * h.val] ![1, 2048, 128] (by revert h c; decide))

/-- Head `h`'s values, chunk `c`. -/
def vLoad (x2 : Vec F S512x8192 .bf16) (h c : Fin 4) : Vec F SV .bf16 :=
  View.ld x2 (Rect.unit (s := S512x8192) ![128 * h.val, 2048 * c.val] ![128, 2048] (by revert h c; decide))

/-- The body's one store, in words. -/
theorem run_eq (c : Dev nD) (i : grid0.Coords) (arg2 : Memref sig .tc .vmem S1x1024x512 .bf16) (harg2 : arg2.IsWhole) (arg3 : Memref sig .tc .vmem S1x8192x512 .bf16) (harg3 : arg3.IsWhole) (arg4 : Memref sig .tc .vmem S512x8192 .bf16) (harg4 : arg4.IsWhole) (arg5 : Memref sig .tc .vmem S1x1024x256 .f32) (harg5 : arg5.IsWhole) (arg6 : Memref sig .tc .vmem S2048x1024 .f32) (harg6 : arg6.IsWhole) (arg7 : Memref sig .tc .vmem S2048x1024 .f32) (harg7 : arg7.IsWhole)
    (x0 : Vec F S1x1024x512 .bf16) (x1 : Vec F S1x8192x512 .bf16) (x2 : Vec F S512x8192 .bf16) :
    (kernelRun0_A c i arg2 harg2 arg3 harg3 arg4 harg4 arg5 harg5 arg6 harg6 arg7 harg7 x0 x1 x2).1
      = [⟨Rect.unit ![0, 0, 0] ![1, 1024, 256] inb_S1x1024x256_S1x1024x256_0_0_0,
          attnBlock (qLoad x0) (kLoad x1) (vLoad x2)⟩] := by
  unfold kernelRun0_A
  dsimp only
  sl_unfold_words
  simp only [View.readAt_eq_ld, harg2.read_unread, harg3.read_unread, harg4.read_unread, View.readCov_cons_toLoadRect]
  rfl

end Cert.Mla

end
-- ==== Proof.AttnMath.lean ====
/- Softmax over a list of real scores, its weights summed against extended-real values: the running form (a maximum
   and rescaled sums, chunk by chunk, in powers of two) and the textbook form (exponentials of the scores times the
   logarithm of two, normalized before the sum) both come to `soft`. -/
module

public import Idealize.ShloMosaic.PureOps.Ideal.Laws
public import Idealize.ShloMosaic.Lib.ValueIdx

@[expose] public section

noncomputable section

namespace Cert.AttnMath

open Idealize.ShloMosaic

/-- A nonnegative real factor moves into a finite sum. -/
theorem coe_mul_sum {ι : Type*} (S : Finset ι) (a : ℝ) (ha : 0 ≤ a) (f : ι → EReal) :
    (a : EReal) * ∑ i ∈ S, f i = ∑ i ∈ S, (a : EReal) * f i := by
  classical
  induction S using Finset.induction_on with
  | empty => simp
  | insert i S hi ih =>
    rw [Finset.sum_insert hi, Finset.sum_insert hi,
      EReal.left_distrib_of_nonneg_of_ne_top (by exact_mod_cast ha) (EReal.coe_ne_top a), ih]

/-- A real is neither infinity. -/
theorem exists_coe {x : EReal} (h1 : x ≠ ⊥) (h2 : x ≠ ⊤) : ∃ r : ℝ, x = (r : EReal) :=
  ⟨x.toReal, (EReal.coe_toReal h2 h1).symm⟩

/-- A sum of reals, in the extended reals. -/
theorem coe_sum {ι : Type*} (S : Finset ι) (f : ι → ℝ) : ((∑ i ∈ S, f i : ℝ) : EReal) = ∑ i ∈ S, (f i : EReal) := by
  classical
  induction S using Finset.induction_on with
  | empty => simp
  | insert i S hi ih => rw [Finset.sum_insert hi, Finset.sum_insert hi, EReal.coe_add, ih]

/-- The maximum of a real and finitely many reals (from minus infinity) is a real. -/
theorem max_fold_coe {ι : Type*} (S : Finset ι) (m : ℝ) (f : ι → ℝ) :
    ∃ r : ℝ, max (m : EReal) (S.fold max ⊥ fun i => (f i : EReal)) = (r : EReal) := by
  refine exists_coe (ne_of_gt ?_) (ne_of_lt ?_)
  · exact lt_of_lt_of_le (EReal.bot_lt_coe m) (le_max_left _ _)
  · refine max_lt (EReal.coe_lt_top m) ?_
    rw [Finset.fold_max_lt]
    exact ⟨bot_lt_top, fun i _ => EReal.coe_lt_top _⟩

/-- The maximum of finitely many reals, at least one, is a real. -/
theorem fold_coe {ι : Type*} (S : Finset ι) (i₀ : ι) (hi : i₀ ∈ S) (f : ι → ℝ) :
    ∃ r : ℝ, (S.fold max ⊥ fun i => (f i : EReal)) = (r : EReal) := by
  refine exists_coe (ne_of_gt ?_) (ne_of_lt ?_)
  · rw [Finset.lt_fold_max]
    exact Or.inr ⟨i₀, hi, EReal.bot_lt_coe _⟩
  · rw [Finset.fold_max_lt]
    exact ⟨bot_lt_top, fun i _ => EReal.coe_lt_top _⟩

/-- Two to the power of a real. -/
def p2 (x : ℝ) : ℝ := Real.rpow 2 x

theorem p2_pos (x : ℝ) : 0 < p2 x := Real.rpow_pos_of_pos two_pos x
theorem p2_add (x y : ℝ) : p2 (x + y) = p2 x * p2 y := Real.rpow_add two_pos x y
theorem p2_eq_exp (x : ℝ) : Real.exp (x * Real.log 2) = p2 x := by
  show _ = (2 : ℝ) ^ x
  rw [Real.rpow_def_of_pos two_pos, mul_comm]

/-- Softmax of the scores `s` in base two, weighing the values `v`. -/
def soft {n : ℕ} (s : Fin n → ℝ) (v : Fin n → EReal) : EReal :=
  (∑ k, v k * (p2 (s k) : EReal)) * (((∑ k, p2 (s k))⁻¹ : ℝ) : EReal)

/-- THE RUNNING FORM: after `c` chunks the sums are the weights' sums over the chunks done, scaled by the maximum. -/
theorem running {w : ℕ} (s : ℕ → Fin w → ℝ) (v : ℕ → Fin w → EReal) (μ : ℕ → ℝ) (a : ℕ → EReal) (h0 : a 0 = 0)
    (hs : ∀ c, a (c + 1) = Ideal.exp2 ((μ c : EReal) - (μ (c + 1) : EReal)) * a c
      + ∑ r, v c r * Ideal.exp2 ((s c r : EReal) - (μ (c + 1) : EReal))) (c : ℕ) :
    a c = (p2 (-(μ c)) : EReal) * ∑ c' ∈ Finset.range c, ∑ r, v c' r * (p2 (s c' r) : EReal) := by
  induction c with
  | zero => simp [h0]
  | succ c ih =>
    have e1 : Ideal.exp2 ((μ c : EReal) - (μ (c + 1) : EReal)) = ((p2 (-(μ (c + 1))) * p2 (μ c) : ℝ) : EReal) := by
      rw [← EReal.coe_sub, Ideal.exp2_coe, ← p2_add]
      exact congrArg (fun x : ℝ => ((p2 x : ℝ) : EReal)) (by ring)
    have e2 : ∀ r, v c r * Ideal.exp2 ((s c r : EReal) - (μ (c + 1) : EReal))
        = (p2 (-(μ (c + 1))) : EReal) * (v c r * (p2 (s c r) : EReal)) := fun r => by
      rw [← EReal.coe_sub, Ideal.exp2_coe]
      have : Real.rpow 2 (s c r - μ (c + 1)) = p2 (-(μ (c + 1))) * p2 (s c r) := by
        rw [← p2_add]; exact congrArg p2 (by ring)
      rw [this, EReal.coe_mul]; exact mul_left_comm _ _ _
    rw [hs c, ih, Finset.sum_range_succ, EReal.left_distrib_of_nonneg_of_ne_top
      (by exact_mod_cast (p2_pos _).le) (EReal.coe_ne_top _), coe_mul_sum _ (p2 (-(μ (c + 1)))) (p2_pos _).le (fun r => v c r * (p2 (s c r) : EReal))]
    refine congrArg₂ (· + ·) ?_ (Finset.sum_congr rfl fun r _ => e2 r)
    rw [e1, ← mul_assoc, ← EReal.coe_mul]
    refine congrArg (fun x : ℝ => (x : EReal) * _) ?_
    rw [mul_assoc, ← p2_add]
    simp [p2]

/-- Chunks of `w` numbers are one list. -/
theorem sum_chunks {n w : ℕ} {M : Type*} [AddCommMonoid M] (f : ℕ → M) :
    ∑ c ∈ Finset.range n, ∑ r : Fin w, f (c * w + r.val) = ∑ k : Fin (n * w), f k.val := by
  rw [Finset.sum_range fun c => ∑ r : Fin w, f (c * w + r.val), ← Fintype.sum_prod_type', ← finProdFinEquiv.sum_comp]
  refine Finset.sum_congr rfl fun x _ => congrArg f ?_
  simp [finProdFinEquiv, mul_comm, add_comm]

/-- So the quotient of the values' sums by the sum of the weights is `soft`. -/
theorem running_soft {n w : ℕ} (hn : 0 < n * w) (s : ℕ → ℝ) (v v1 : ℕ → EReal) (hv1 : ∀ k, k < n * w → v1 k = 1) (μ : ℕ → ℝ) (a b : ℕ → EReal)
    (ha0 : a 0 = 0) (hb0 : b 0 = 0)
    (ha : ∀ c, a (c + 1) = Ideal.exp2 ((μ c : EReal) - (μ (c + 1) : EReal)) * a c
      + ∑ r : Fin w, v (c * w + r.val) * Ideal.exp2 ((s (c * w + r.val) : EReal) - (μ (c + 1) : EReal)))
    (hb : ∀ c, b (c + 1) = Ideal.exp2 ((μ c : EReal) - (μ (c + 1) : EReal)) * b c
      + ∑ r : Fin w, v1 (c * w + r.val) * Ideal.exp2 ((s (c * w + r.val) : EReal) - (μ (c + 1) : EReal))) :
    Ideal.div (a n) (b n) = soft (n := n * w) (fun k => s k.val) (fun k => v k.val) := by
  rw [running (fun c r => s (c * w + r.val)) (fun c r => v (c * w + r.val)) μ a ha0 ha n,
    running (fun c r => s (c * w + r.val)) (fun c r => v1 (c * w + r.val)) μ b hb0 hb n,
    sum_chunks (fun k => v k * (p2 (s k) : EReal)), sum_chunks (fun k => v1 k * (p2 (s k) : EReal))]
  have hZ : ∑ k : Fin (n * w), v1 k.val * (p2 (s k.val) : EReal) = ((∑ k : Fin (n * w), p2 (s k.val) : ℝ) : EReal) := by
    rw [coe_sum]
    exact Finset.sum_congr rfl fun k _ => by rw [hv1 k.val k.isLt, one_mul]
  have hpos : 0 < ∑ k : Fin (n * w), p2 (s k.val) := Finset.sum_pos (fun k _ => p2_pos _) ⟨⟨0, hn⟩, Finset.mem_univ _⟩
  have hm := p2_pos (-(μ n))
  rw [hZ, ← EReal.coe_mul, Ideal.div_coe (mul_pos hm hpos).ne', mul_comm (p2 (-(μ n)) : EReal), mul_assoc, ← EReal.coe_mul]
  unfold soft
  refine congrArg (fun x : ℝ => _ * (x : EReal)) ?_
  field_simp

/-- THE TEXTBOOK FORM: exponentials of the scores times log 2 less any real, normalized, weighing the values. -/
theorem textbook {n : ℕ} (hn : 0 < n) (s : Fin n → ℝ) (v : Fin n → EReal) (μ : ℝ) :
    ∑ k, v k * Ideal.div (Ideal.exp (((s k * Real.log 2 : ℝ) : EReal) - (μ : EReal)))
      (0 + ∑ k', Ideal.exp (((s k' * Real.log 2 : ℝ) : EReal) - (μ : EReal))) = soft s v := by
  have e : ∀ k, Ideal.exp (((s k * Real.log 2 : ℝ) : EReal) - (μ : EReal)) = ((p2 (s k) * Real.exp (-μ) : ℝ) : EReal) := fun k => by
    rw [← EReal.coe_sub, Ideal.exp_coe, sub_eq_add_neg, Real.exp_add, p2_eq_exp]
  have hpos : 0 < ∑ k, p2 (s k) := Finset.sum_pos (fun k _ => p2_pos _) ⟨⟨0, hn⟩, Finset.mem_univ _⟩
  have hZ : 0 + ∑ k', Ideal.exp (((s k' * Real.log 2 : ℝ) : EReal) - (μ : EReal)) = (((∑ k, p2 (s k)) * Real.exp (-μ) : ℝ) : EReal) := by
    rw [zero_add, Finset.sum_congr rfl fun k _ => e k, ← coe_sum, Finset.sum_mul]
  unfold soft
  rw [mul_comm, coe_mul_sum _ _ (inv_pos.2 hpos).le, hZ]
  refine Finset.sum_congr rfl fun k _ => ?_
  have hE := Real.exp_pos (-μ)
  rw [e k, Ideal.div_coe (mul_pos hpos hE).ne', ← EReal.coe_mul,
    show p2 (s k) * Real.exp (-μ) * (1 / ((∑ k, p2 (s k)) * Real.exp (-μ))) = (∑ k, p2 (s k))⁻¹ * p2 (s k) by field_simp,
    EReal.coe_mul]
  exact mul_left_comm _ _ _

end Cert.AttnMath

end
-- ==== Proof.AttnRead.lean ====
/- The attention body's words read at an index, at the ideal values: one head's result at a query is `soft` of the
   query's scores against the head's values. -/
module

public import proofs.«01_k».proof.Proof.Attn
public import proofs.«01_k».proof.Proof.AttnMath
public import Idealize.ShloMosaic.Lib.MatmulPlain
public import Idealize.ShloMosaic.Lib.ValueLayout
public import Idealize.ShloMosaic.Lib.Pipeline.Value

@[expose] public section

set_option maxRecDepth 16384

noncomputable section

namespace Cert.Attn

open Idealize.ShloMosaic Idealize.ShloMosaic.ValueIdx Cert.AttnMath

theorem ofBits_neg_inf : Ideal.ofBits .f32 0xFF800000#32 = ⊥ := by simp [Ideal.ofBits, Ideal.ieee]
theorem ofBits_pos_inf : Ideal.ofBits .f32 0x7F800000#32 = ⊤ := by simp [Ideal.ofBits, Ideal.ieee]

/-- The maximum the body starts from is a real. -/
theorem ofBits_big : ∃ r : ℝ, Ideal.ofBits .f32 0xF149F2CA#32 = (r : EReal) := by
  unfold Ideal.ofBits Ideal.ieee
  dsimp only
  rw [if_neg (by decide), if_neg (by decide)]
  exact ⟨_, rfl⟩

theorem score_apply (q : Vec Ideal SQ .bf16) (k : Vec Ideal SK .bf16) (r : Fin 2048) (t : Fin 1024) :
    score q k (ix2 r t) = ∑ d : Fin 128, k (ix3 (0 : Fin 1) r d) * q (ix3 (0 : Fin 1) t d) := by
  unfold score
  rw [shapeCast_self]
  simp only [matmul]
  rw [Ideal.matmul_transposedRhs_apply]
  show Ideal.ofBits .f32 0x00000000#32 + _ = _
  rw [Ideal.ofBits_zero_f32, zero_add]
  refine Finset.sum_congr rfl fun d _ => ?_
  rw [shapeCast_dropUnit_apply, shapeCast_dropUnit_apply]
  refine congrArg₂ (fun a b => k a * q b) ?_ ?_ <;>
    (funext a; match a with | ⟨0, _⟩ => rfl | ⟨1, _⟩ => rfl | ⟨2, _⟩ => rfl)

theorem maxStep_apply (m : FVec Ideal SM .f32) (s : FVec Ideal SS .f32) (t : Fin 1024) :
    maxStep m s (ix2 (0 : Fin 1) t)
      = max (m (ix2 (0 : Fin 1) t)) ((Finset.univ : Finset (Fin 2048)).fold max ⊥ fun r => s (ix2 r t)) := by
  unfold maxStep
  rw [maximumf_apply]
  refine congrArg (max _) ?_
  refine (shapeCast_addUnit_apply (n := 1) ![1024] _ _ (ix2 (0 : Fin 1) t)).trans ?_
  have e0 : (fun a : Fin 1 => (ix2 (0 : Fin 1) t) a.succ : (⟨1, ![1024]⟩ : Shape).Idx) = ix1 t := by
    funext a; match a with | ⟨0, _⟩ => rfl
  refine (congrArg _ e0).trans ((Ideal.multiReduction_maximumf_single s 0xFF800000#32 (by decide) (.inl rfl) rfl (ix1 t)).trans ?_)
  show Finset.fold max (Ideal.ofBits .f32 0xFF800000#32) _ _ = _
  rw [ofBits_neg_inf]
  refine congrArg (fun f => Finset.fold max ⊥ f _) (funext fun r => congrArg s ?_)
  funext a; match a with | ⟨0, _⟩ => rfl | ⟨1, _⟩ => rfl

theorem accStep_apply (m m' : FVec Ideal SM .f32) (a : FVec Ideal SA .f32) (s : FVec Ideal SS .f32) (v : Vec Ideal SV .bf16)
    (j : Fin 128) (t : Fin 1024) :
    accStep m m' a s v (ix2 j t)
      = Ideal.exp2 (m (ix2 (0 : Fin 1) t) - m' (ix2 (0 : Fin 1) t)) * a (ix2 j t)
        + ∑ r : Fin 2048, v (ix2 j r) * Ideal.exp2 (s (ix2 r t) - m' (ix2 (0 : Fin 1) t)) := by
  unfold accStep
  rw [addf_apply, mulf_apply, broadcastTo_1b_ab_apply]
  simp only [matmul]
  rw [Ideal.matmul_plain_apply]
  refine congrArg₂ (· + ·) rfl ?_
  show Ideal.ofBits .f32 0x00000000#32 + _ = _
  rw [Ideal.ofBits_zero_f32, zero_add]
  refine Finset.sum_congr rfl fun r _ => congrArg (v (ix2 j r) * ·) ?_
  show Ideal.exp2 (s (ix2 r t) - broadcastTo SS m' _ (ix2 r t)) = _
  rw [broadcastTo_1b_ab_apply]

/-- Four chunks of 2048 numbers as one list. -/
def lift {α : Type} (f : Fin 4 → Fin 2048 → α) (n : ℕ) : α := f (Fin.ofNat 4 (n / 2048)) (Fin.ofNat 2048 n)

theorem lift_chunk {α : Type} (f : Fin 4 → Fin 2048 → α) (c : ℕ) (r : Fin 2048) :
    lift f (c * 2048 + r.val) = f (Fin.ofNat 4 c) r := by
  have := r.isLt
  have h1 : (c * 2048 + r.val) / 2048 = c := by omega
  unfold lift
  rw [h1]
  congr 1
  apply Fin.ext
  show (c * 2048 + r.val) % 2048 = r.val
  omega

theorem headOut_apply (a : FVec Ideal SA .f32) (j : Fin 64) (t : Fin 1024) :
    headOut a (ix2 j t) = Ideal.div (a (ix2 (⟨j.val, by omega⟩ : Fin 128) t)) (a (ix2 (64 : Fin 128) t)) := by
  unfold headOut
  rw [divf_apply, broadcastTo_1b_ab_apply]
  congr 1
  · refine extractStridedSlice_apply _ _ _ _ _ fun a => ?_
    match a with
    | ⟨0, _⟩ => exact (Nat.zero_add _).symm
    | ⟨1, _⟩ => exact (Nat.zero_add _).symm
  · refine extractStridedSlice_apply _ _ _ _ _ fun a => ?_
    match a with
    | ⟨0, _⟩ => rfl
    | ⟨1, _⟩ => exact (Nat.zero_add _).symm

/-- Two rows of the sums, one of them over ones: their quotient is softmax of the query's scores, weighing the values. -/
theorem rows_apply (q : Vec Ideal SQ .bf16) (k : Fin 4 → Vec Ideal SK .bf16) (v : Fin 4 → Vec Ideal SV .bf16)
    (t : Fin 1024) (J O : Fin 128) (s : Fin 4 → Fin 2048 → ℝ) (hs : ∀ c r, score q (k c) (ix2 r t) = (s c r : EReal))
    (h1 : ∀ c r, v c (ix2 O r) = 1) :
    Ideal.div (accAt q k v 4 (ix2 J t)) (accAt q k v 4 (ix2 O t))
      = soft (n := 4 * 2048) (fun n => lift s n.val) (fun n => lift (fun c r => v c (ix2 J r)) n.val) := by
  have hμ : ∀ c, ∃ r : ℝ, maxAt q k c (ix2 (0 : Fin 1) t) = (r : EReal) := fun c => by
    induction c with
    | zero => exact ofBits_big
    | succ c ih =>
      obtain ⟨r, hr⟩ := ih
      show ∃ r : ℝ, maxStep (maxAt q k c) (score q (k (Fin.ofNat 4 c))) (ix2 (0 : Fin 1) t) = _
      rw [maxStep_apply, hr]
      simp only [hs]
      exact max_fold_coe _ _ _
  choose μ hμ using hμ
  have step : ∀ (j : Fin 128) c, accAt q k v (c + 1) (ix2 j t)
      = Ideal.exp2 ((μ c : EReal) - (μ (c + 1) : EReal)) * accAt q k v c (ix2 j t)
        + ∑ r : Fin 2048, lift (fun c r => v c (ix2 j r)) (c * 2048 + r.val)
          * Ideal.exp2 (((lift s (c * 2048 + r.val) : ℝ) : EReal) - (μ (c + 1) : EReal)) := fun j c => by
    show accStep (maxAt q k c) (maxAt q k (c + 1)) (accAt q k v c) (score q (k (Fin.ofNat 4 c))) (v (Fin.ofNat 4 c)) (ix2 j t) = _
    rw [accStep_apply, hμ, hμ]
    simp only [hs, lift_chunk]
  have one : ∀ n, n < 4 * 2048 → lift (fun c r => v c (ix2 O r)) n = 1 := fun n _ => by unfold lift; exact h1 _ _
  have z : ∀ j : Fin 128, accAt q k v 0 (ix2 j t) = 0 := fun j => Ideal.ofBits_zero_f32
  exact running_soft (n := 4) (w := 2048) (by decide) (lift s) (lift fun c r => v c (ix2 J r))
    (lift fun c r => v c (ix2 O r)) one μ (fun c => accAt q k v c (ix2 J t))
    (fun c => accAt q k v c (ix2 O t)) (z J) (z O) (step J) (step O)

/-- ONE HEAD AT A QUERY: softmax of the query's scores, weighing the values. -/
theorem head_apply (q : Vec Ideal SQ .bf16) (k : Fin 4 → Vec Ideal SK .bf16) (v : Fin 4 → Vec Ideal SV .bf16)
    (t : Fin 1024) (j : Fin 64) (s : Fin 4 → Fin 2048 → ℝ) (hs : ∀ c r, score q (k c) (ix2 r t) = (s c r : EReal))
    (h1 : ∀ c r, v c (ix2 (64 : Fin 128) r) = 1) :
    headOut (accAt q k v 4) (ix2 j t)
      = soft (n := 4 * 2048) (fun n => lift s n.val) (fun n => lift (fun c r => v c (ix2 (⟨j.val, by omega⟩ : Fin 128) r)) n.val) := by
  rw [headOut_apply]
  exact rows_apply q k v t _ _ s hs h1

theorem blockOut_apply (h : Fin 4 → FVec Ideal SH .f32) (t : Fin 1024) (g : Fin 4) (j : Fin 64) :
    blockOut h (ix3 (0 : Fin 1) t (⟨64 * g.val + j.val, by omega⟩ : Fin 256)) = h g (ix2 j t) := by
  unfold blockOut
  refine (shapeCast_addUnit_apply (n := 2) ![1024, 256] _ _ (ix3 (0 : Fin 1) t (⟨64 * g.val + j.val, by omega⟩ : Fin 256))).trans ?_
  refine (transpose_apply _ _ _ _ (ix2 (⟨64 * g.val + j.val, by omega⟩ : Fin 256) t) ?_).trans ?_
  rotate_left
  · refine concatenate_ofFn_apply (t := ⟨2, ![256, 1024]⟩) (s₁ := SH) 0 (N := 4) h
      (show Shape.Concatenates [SH, SH, SH, SH] ⟨2, ![256, 1024]⟩ 0 by decide) rfl 64 rfl _ g ?_ _ ?_ ?_
    · show (64 * g.val + j.val) / 64 = g.val
      have := j.isLt; omega
    · show j.val = (64 * g.val + j.val) % 64
      have := j.isLt; omega
    · intro b hb
      match b with
      | ⟨0, _⟩ => exact absurd rfl hb
      | ⟨1, _⟩ => rfl
  · intro b
    match b with
    | ⟨0, _⟩ => rfl
    | ⟨1, _⟩ => rfl

end Cert.Attn

end
-- ==== Proof.MlaOut.lean ====
/- Multi-head latent attention as a function of its three arrays: what both programs compute. -/
module

public import proofs.«01_k».proof.Proof.AttnRead

@[expose] public section

set_option maxRecDepth 16384

noncomputable section

namespace Cert.Mla

open Idealize.ShloMosaic Idealize.ShloMosaic.ValueIdx Cert.AttnMath

/-- Queries and keys: 32768 tokens (4 sequences of 8192) by 4 heads of 128 lanes. -/
abbrev ST : Shape := ⟨2, ![32768, 512]⟩
/-- Values: 4 heads of 128 rows by 32768 tokens. -/
abbrev STv : Shape := ⟨2, ![512, 32768]⟩
/-- The result: 4 sequences of 8192 queries by 4 heads of 64 columns. -/
abbrev SO : Shape := ⟨3, ![4, 8192, 256]⟩

/-- Head `h`'s lane `d`. -/
def lane (h : Fin 4) (d : Fin 128) : Fin 512 := ⟨128 * h.val + d.val, by omega⟩
/-- Sequence `b`'s token `s`. -/
def row (b : Fin 4) (s : Fin 8192) : Fin 32768 := ⟨8192 * b.val + s.val, by omega⟩
/-- Output column `j` of a head, among the head's 128 rows of values. -/
def wide (j : Fin 64) : Fin 128 := ⟨j.val, by omega⟩
/-- Head `h`'s output column `j`. -/
def col (h : Fin 4) (j : Fin 64) : Fin 256 := ⟨64 * h.val + j.val, by omega⟩

/-- The score of query `Q` against key `K`. -/
def score (q k : Vec Ideal ST .bf16) (b h : Fin 4) (Q K : Fin 8192) : EReal :=
  ∑ d : Fin 128, k (ix2 (row b K) (lane h d)) * q (ix2 (row b Q) (lane h d))

/-- One number of the result: softmax of the query's scores, weighing the head's values. -/
def outAt (q k : Vec Ideal ST .bf16) (v : Vec Ideal STv .bf16) (b : Fin 4) (Q : Fin 8192) (h : Fin 4) (j : Fin 64) : EReal :=
  soft (n := 8192) (fun K => (score q k b h Q K).toReal) (fun K => v (ix2 (lane h (wide j)) (row b K)))

/-- The whole result. -/
def out (q k : Vec Ideal ST .bf16) (v : Vec Ideal STv .bf16) : Vec Ideal SO .f32 := fun i =>
  outAt q k v (i 0) (i 1) ⟨(i 2).val / 64, by have h : (i 2).val < 256 := (i 2).isLt; omega⟩
    ⟨(i 2).val % 64, by omega⟩

/-- What the precondition says of the three arrays. -/
structure Ok (q k : Vec Ideal ST .bf16) (v : Vec Ideal STv .bf16) : Prop where
  q_real : ∀ i, ∃ r : ℝ, q i = (r : EReal)
  k_real : ∀ i, ∃ r : ℝ, k i = (r : EReal)
  one : ∀ h n, v (ix2 (lane h 64) n) = 1

variable {q k : Vec Ideal ST .bf16} {v : Vec Ideal STv .bf16}

/-- Under the precondition the scores are reals. -/
theorem score_real (H : Ok q k v) (b h : Fin 4) (Q K : Fin 8192) :
    score q k b h Q K = ((score q k b h Q K).toReal : EReal) := by
  choose fq hq using H.q_real
  choose fk hk using H.k_real
  have e : score q k b h Q K = ((∑ d : Fin 128, fk (ix2 (row b K) (lane h d)) * fq (ix2 (row b Q) (lane h d)) : ℝ) : EReal) := by
    rw [coe_sum]
    unfold score
    exact Finset.sum_congr rfl fun d _ => by rw [hq, hk, EReal.coe_mul]
  rw [e, EReal.toReal_coe]

theorem out_apply (b : Fin 4) (Q : Fin 8192) (h : Fin 4) (j : Fin 64) :
    out q k v (ix3 b Q (col h j)) = outAt q k v b Q h j := by
  unfold out
  have e1 : (64 * h.val + j.val) / 64 = h.val := by have := j.isLt; omega
  have e2 : (64 * h.val + j.val) % 64 = j.val := by have := j.isLt; omega
  have e3 : (⟨(64 * h.val + j.val) / 64, by omega⟩ : Fin 4) = h := Fin.ext e1
  have e4 : (⟨(64 * h.val + j.val) % 64, by omega⟩ : Fin 64) = j := Fin.ext e2
  show outAt q k v b Q ⟨(64 * h.val + j.val) / 64, _⟩ ⟨(64 * h.val + j.val) % 64, _⟩ = _
  rw [e3, e4]

/-- Every index of the result is a head's column. -/
theorem exists_col (n : Fin 256) : ∃ h j, n = col h j :=
  ⟨⟨n.val / 64, by omega⟩, ⟨n.val % 64, by omega⟩, Fin.ext (by show _ = 64 * (n.val / 64) + n.val % 64; omega)⟩

end Cert.Mla

end
-- ==== Proof.MlaFinal.lean ====
/- The kernel's result array after the run is the attention of its arguments. -/
module

public import proofs.«01_k».proof.Proof.MlaBlock
public import proofs.«01_k».proof.Proof.MlaOut
public import Idealize.ShloMosaic.Lib.Pipeline.ValueKit

@[expose] public section

set_option maxRecDepth 16384

noncomputable section

namespace Cert.Mla

open Cert.KernelIdeal Cert.KernelIdeal.Gen Cert.AttnMath
open Idealize.ShloMosaic hiding ix1 ix2 ix3 ix4 ix5
open Idealize.ShloMosaic.TcCoe Idealize.ShloMosaic.ValueIdx Idealize.SL.Sem
open Idealize.ShloMosaic.Pipeline (Dat)

variable (m : (ℓ : Loc nD τ sig) → Buf (Elt Ideal) ℓ)

abbrev argQ (c : Dev nD) : Vec Ideal ST .bf16 := m ((c : Thread nD τ).loc main_arg0)
abbrev argK (c : Dev nD) : Vec Ideal ST .bf16 := m ((c : Thread nD τ).loc main_arg1)
abbrev argV (c : Dev nD) : Vec Ideal STv .bf16 := m ((c : Thread nD τ).loc main_arg2)

/-- The windows' index maps, at every grid point. -/
theorem idx : ∀ t : Fin cfg0.N, win0_0.index t = ![t.val / 8, t.val % 8, 0] ∧ win0_1.index t = ![t.val / 8, 0, 0]
    ∧ win0_2.index t = ![0, t.val / 8] ∧ win0_3.index t = ![t.val / 8, t.val % 8, 0] ∧ t.val / 8 < 4 :=
  (by decide +kernel : ∀ t : Fin grid0.N, _)

/-- The sequence of grid point `t`. -/
def seq (t : Fin cfg0.N) : Fin 4 := ⟨t.val / 8, (idx t).2.2.2.2⟩
/-- The query a block's row `u` is, at grid point `t`. -/
def qry (t : Fin cfg0.N) (u : Fin 1024) : Fin 8192 := ⟨1024 * (t.val % 8) + u.val, by omega⟩
/-- Chunk `c`'s key `r`. -/
def key (c : Fin 4) (r : Fin 2048) : Fin 8192 := ⟨2048 * c.val + r.val, by omega⟩

theorem q_read (c : Dev nD) (t : Fin cfg0.N) (u : Fin 1024) (l : Fin 512) :
    (iblk m c 0 t : Vec Ideal S1x1024x512 .bf16) (ix3 (0 : Fin 1) u l) = argQ m c (ix2 (row (seq t) (qry t u)) l) := by
  blk_simp [iblk]
  entry_read
  refine (shapeCast_apply _ _ _ (ix2 (row (seq t) (qry t u)) l) ?_).trans rfl
  refine (rowMajor_val2 _ 512 rfl).trans (Eq.trans ?_ (rowMajor_val3 _ (8192 * 512) 512 rfl rfl).symm)
  blk_simp [idx t]
  simp only [row, seq, qry]
  show _ * 512 + l.val = _ * (8192 * 512) + (_ + u.val) * 512 + l.val
  omega

theorem k_read (c : Dev nD) (t : Fin cfg0.N) (K : Fin 8192) (l : Fin 512) :
    (iblk m c 1 t : Vec Ideal S1x8192x512 .bf16) (ix3 (0 : Fin 1) K l) = argK m c (ix2 (row (seq t) K) l) := by
  blk_simp [iblk]
  entry_read
  refine (shapeCast_apply _ _ _ (ix2 (row (seq t) K) l) ?_).trans rfl
  refine (rowMajor_val2 _ 512 rfl).trans (Eq.trans ?_ (rowMajor_val3 _ (8192 * 512) 512 rfl rfl).symm)
  blk_simp [idx t]
  simp only [row, seq]
  show _ * 512 + l.val = _ * (8192 * 512) + K.val * 512 + l.val
  omega

theorem v_read (c : Dev nD) (t : Fin cfg0.N) (l : Fin 512) (K : Fin 8192) :
    (iblk m c 2 t : Vec Ideal S512x8192 .bf16) (ix2 l K) = argV m c (ix2 l (row (seq t) K)) := by
  blk_ext! [iblk, V, idx t, row, seq]
  show _ + K.val = _
  omega

theorem qLoad_apply {x0 : Vec Ideal S1x1024x512 .bf16} (h : Fin 4) (u : Fin 1024) (d : Fin 128) :
    qLoad x0 h (ix3 (0 : Fin 1) u d) = x0 (ix3 (0 : Fin 1) u (lane h d)) := by
  unfold qLoad
  refine View.ld_unit_apply_of _ _ _ _ _ _ fun a => ?_
  match a with
  | ⟨0, _⟩ => rfl
  | ⟨1, _⟩ => exact (Nat.zero_add _).symm
  | ⟨2, _⟩ => rfl

theorem kLoad_apply {x1 : Vec Ideal S1x8192x512 .bf16} (h c : Fin 4) (r : Fin 2048) (d : Fin 128) :
    kLoad x1 h c (ix3 (0 : Fin 1) r d) = x1 (ix3 (0 : Fin 1) (key c r) (lane h d)) := by
  unfold kLoad
  refine View.ld_unit_apply_of _ _ _ _ _ _ fun a => ?_
  match a with
  | ⟨0, _⟩ => rfl
  | ⟨1, _⟩ => rfl
  | ⟨2, _⟩ => rfl

theorem vLoad_apply {x2 : Vec Ideal S512x8192 .bf16} (h c : Fin 4) (j : Fin 128) (r : Fin 2048) :
    vLoad x2 h c (ix2 j r) = x2 (ix2 (lane h j) (key c r)) := by
  unfold vLoad
  refine View.ld_unit_apply_of _ _ _ _ _ _ fun a => ?_
  match a with
  | ⟨0, _⟩ => rfl
  | ⟨1, _⟩ => rfl

theorem key_ofNat (K : Fin 8192) : key (Fin.ofNat 4 (K.val / 2048)) (Fin.ofNat 2048 K.val) = K := by
  apply Fin.ext
  show 2048 * (K.val / 2048 % 4) + K.val % 2048 = K.val
  omega

/-- A block's number: the attention at the block's query. -/
theorem point (c : Dev nD) (t : Fin cfg0.N) (H : Ok (argQ m c) (argK m c) (argV m c)) (u : Fin 1024) (g : Fin 4) (j : Fin 64) :
    Cert.Attn.attnBlock (qLoad (iblk m c 0 t)) (kLoad (iblk m c 1 t)) (vLoad (iblk m c 2 t)) (ix3 (0 : Fin 1) u (col g j))
      = outAt (argQ m c) (argK m c) (argV m c) (seq t) (qry t u) g j := by
  unfold Cert.Attn.attnBlock
  refine (Cert.Attn.blockOut_apply _ u g j).trans ?_
  refine (Cert.Attn.head_apply _ _ _ u j
    (fun c' r => (score (argQ m c) (argK m c) (seq t) g (qry t u) (key c' r)).toReal) (fun c' r => ?_) (fun c' r => ?_)).trans ?_
  · rw [Cert.Attn.score_apply]
    refine Eq.trans ?_ (score_real H (seq t) g (qry t u) (key c' r))
    unfold score
    refine Finset.sum_congr rfl fun d _ => ?_
    rw [kLoad_apply, qLoad_apply, k_read, q_read]
  · rw [vLoad_apply, v_read]
    exact H.one _ _
  · unfold outAt
    show soft (n := 8192) _ _ = soft (n := 8192) _ _
    refine congrArg₂ (soft (n := 8192)) (funext fun K => ?_) (funext fun K => ?_)
    · show (score _ _ _ _ _ (key (Fin.ofNat 4 (K.val / 2048)) (Fin.ofNat 2048 K.val))).toReal = _
      rw [key_ofNat]
    · show vLoad (iblk m c 2 t) g (Fin.ofNat 4 (K.val / 2048)) (ix2 (wide j) (Fin.ofNat 2048 K.val)) = _
      rw [vLoad_apply, key_ofNat, v_read]

/-- What a grid point leaves in its output block. -/
theorem outs_eq (c : Dev nD) (t : Fin cfg0.N) :
    outsAt0 m c t = Cert.Attn.attnBlock (qLoad (iblk m c 0 t)) (kLoad (iblk m c 1 t)) (vLoad (iblk m c 2 t)) := by
  unfold outsAt0 out0_A_3
  rw [View.read_writes_eq_canon _ _ _ (cover0_A_3 c _ _ _ _ _ _ _ _ _ _ _ _ _ _ _ _), run_eq]
  exact View.canon_unit_zero (by funext a; match a with | ⟨0, _⟩ => rfl | ⟨1, _⟩ => rfl | ⟨2, _⟩ => rfl) _ _

/-- THE KERNEL'S RESULT. -/
theorem final (c : Dev nD) (H : Ok (argQ m c) (argK m c) (argV m c)) :
    (dats m 0 c).arrAt 3 (cfgs 0).N = out (argQ m c) (argK m c) (argV m c) := by
  refine (dats m 0 c).arrAt_eq_of_covers 3 _ (by decide +kernel) fun t _ y => ?_
  blk_simp
  rw [after0_3, outs_eq]
  obtain ⟨g, j, e⟩ := exists_col (y 2)
  have ey : y = ix3 (0 : Fin 1) (y 1) (col g j) := by
    refine (ValueIdx.eq_ix3 y).trans ?_
    rw [← e]
    exact congrArg (fun z : Fin 1 => ix3 z (y 1) (y 2)) (Subsingleton.elim _ _)
  rw [ey]
  refine (point m c t H (y 1) g j).trans ?_
  refine (out_apply _ _ _ _).symm.trans (congrArg _ ?_)
  blk_ext [idx t, seq, qry, col]
  show _ = _ + (y 1).val
  omega

end Cert.Mla

end
-- ==== Proof.MlaRef.lean ====
/- The reference's result is the attention of its arguments. -/
module

public import proofs.«01_k».proof.Proof.MlaOut
public import proofs.«01_k».proof.Proof.Gen.ReferenceIdeal.Read

@[expose] public section

set_option maxRecDepth 16384

noncomputable section

namespace Cert.Mla.Ref

open Cert.ReferenceIdeal Cert.ReferenceIdeal.Gen Cert.ReferenceIdeal.Read Cert.AttnMath
open Idealize.ShloMosaic Idealize.ShloMosaic.ValueIdx

theorem ofBits_two : Ideal.ofBits .f32 0x40000000#32 = ((2 : ℝ) : EReal) := by
  simp [Ideal.ofBits, Ideal.ieee, -EReal.coe_mul]; norm_num

/-- The factor the scores are multiplied by. -/
theorem log_two : Ideal.log ((2 : ℝ) : EReal) = ((Real.log 2 : ℝ) : EReal) := by
  rw [Ideal.log_coe, if_neg (by norm_num)]

variable (q k : Vec Ideal ST .bf16) (v : Vec Ideal STv .bf16)

theorem q_at (b : Fin 4) (Q : Fin 8192) (h : Fin 4) (d : Fin 128) :
    val_main_v1 (F := Ideal) q (ix4 b Q h d) = q (ix2 (row b Q) (lane h d)) := by
  rw [val_main_v1_apply, val_main_v0_apply]
  refine congrArg q (funext fun a => Fin.ext ?_)
  match a with
  | ⟨0, _⟩ => show (((b.val * 8192 + Q.val) * 4 + h.val) * 128 + d.val) / 512 = 8192 * b.val + Q.val; omega
  | ⟨1, _⟩ => show (((b.val * 8192 + Q.val) * 4 + h.val) * 128 + d.val) % 512 = 128 * h.val + d.val; omega

theorem k_at (b : Fin 4) (K : Fin 8192) (h : Fin 4) (d : Fin 128) :
    val_main_v3 (F := Ideal) k (ix4 b K h d) = k (ix2 (row b K) (lane h d)) := q_at k b K h d

theorem v_at (h : Fin 4) (j : Fin 64) (b : Fin 4) (K : Fin 8192) :
    val_main_v6 (F := Ideal) v (ix4 h j b K) = v (ix2 (lane h (wide j)) (row b K)) := by
  rw [val_main_v6_apply, val_main_v5_apply, val_main_v4_apply]
  refine congrArg v (funext fun a => Fin.ext ?_)
  match a with
  | ⟨0, _⟩ => show (((h.val * 128 + (j.val)) * 4 + b.val) * 8192 + K.val) / 32768 = 128 * h.val + j.val; omega
  | ⟨1, _⟩ => show (((h.val * 128 + (j.val)) * 4 + b.val) * 8192 + K.val) % 32768 = 8192 * b.val + K.val; omega

theorem score_at (b h : Fin 4) (Q K : Fin 8192) :
    val_main_v7 (F := Ideal) q k (ix4 b h Q K) = score q k b h Q K := by
  rw [val_main_v7_apply]
  unfold score
  refine Finset.sum_congr rfl fun d _ => ?_
  have el : lidx_main_v7 (ix4 b h Q K) d = ix4 b Q h d := by
    funext a; match a with | ⟨0, _⟩ => rfl | ⟨1, _⟩ => rfl | ⟨2, _⟩ => rfl | ⟨3, _⟩ => rfl
  have er : ridx_main_v7 (ix4 b h Q K) d = ix4 b K h d := by
    funext a; match a with | ⟨0, _⟩ => rfl | ⟨1, _⟩ => rfl | ⟨2, _⟩ => rfl | ⟨3, _⟩ => rfl
  rw [el, er, q_at, k_at, mul_comm]

variable {q k v}

/-- The scaled scores. -/
theorem scaled_at (H : Ok q k v) (b h : Fin 4) (Q K : Fin 8192) :
    val_main_v10 (F := Ideal) q k (ix4 b h Q K) = (((score q k b h Q K).toReal * Real.log 2 : ℝ) : EReal) := by
  rw [val_main_v10_apply, score_at, val_main_v9_apply, val_main_v8_apply, val_main_cst_apply, EReal.coe_mul, ← score_real H,
    ← log_two, ← ofBits_two]
  rfl

/-- Every query's maximum is a real. -/
theorem max_at (H : Ok q k v) (b h : Fin 4) (Q : Fin 8192) :
    ∃ μ : ℝ, ∀ K, val_main_v15 (F := Ideal) q k (ix4 b h Q K) = (μ : EReal) := by
  obtain ⟨μ, hμ⟩ := fold_coe (Finset.univ : Finset (Fin 8192)) 0 (Finset.mem_univ _)
    (fun K => (score q k b h Q K).toReal * Real.log 2)
  refine ⟨μ, fun K => ?_⟩
  have e11 : val_main_v11 (F := Ideal) q k (ix3 b h Q) = (μ : EReal) := by
    unfold val_main_v11
    dsimp only
    refine (Host.reduce_eq_fold_single (FloatOps.maximumf (F := Ideal) (φ := .f32)) _ _ _ (by decide) _ (ix3 b h Q)).trans ?_
    refine Eq.trans ?_ hμ
    show Finset.fold _ (Ideal.ofBits .f32 0xFF800000#32) _ _ = _
    rw [Cert.Attn.ofBits_neg_inf]
    refine congrArg (fun f => Finset.fold max ⊥ f (Finset.univ : Finset (Fin 8192))) (funext fun K' => ?_)
    refine Eq.trans (congrArg (val_main_v10 (F := Ideal) q k) (?_ : _ = ix4 b h Q K')) (scaled_at H b h Q K')
    funext a; match a with | ⟨0, _⟩ => rfl | ⟨1, _⟩ => rfl | ⟨2, _⟩ => rfl | ⟨3, _⟩ => rfl
  rw [val_main_v15_apply, val_main_v14_apply, val_main_v13_apply, val_main_v12_apply, val_main_cst_1_apply]
  have e : idx_main_v14 (idx_main_v15 (ix4 b h Q K)) = ix3 b h Q := by
    funext a; match a with | ⟨0, _⟩ => rfl | ⟨1, _⟩ => rfl | ⟨2, _⟩ => rfl
  rw [e, e11]
  show max (Ideal.ofBits .f32 0xFF800000#32) (μ : EReal) = _
  rw [Cert.Attn.ofBits_neg_inf]
  exact max_eq_right bot_le

/-- THE REFERENCE'S RESULT. -/
theorem result (H : Ok q k v) : val_main_v24 (F := Ideal) q k v = out q k v := by
  funext i
  obtain ⟨h, j, e⟩ := exists_col (i 2)
  obtain ⟨b, hb⟩ : ∃ b : Fin 4, b = i 0 := ⟨_, rfl⟩
  obtain ⟨Q, hQ⟩ : ∃ Q : Fin 8192, Q = i 1 := ⟨_, rfl⟩
  have ei : i = ix3 b Q (col h j) := by
    rw [hb, hQ, ← e]
    exact eq_ix3 i
  rw [ei, out_apply, val_main_v24_apply, val_main_v23_apply, val_main_v22_apply]
  obtain ⟨μ, hμ⟩ := max_at H b h Q
  have e17 : ∀ K, val_main_v17 (F := Ideal) q k (ix4 b h Q K)
      = Ideal.exp ((((score q k b h Q K).toReal * Real.log 2 : ℝ) : EReal) - (μ : EReal)) := fun K => by
    rw [val_main_v17_apply, val_main_v16_apply, scaled_at H, hμ]
    rfl
  have e20 : ∀ K, val_main_v20 (F := Ideal) q k (ix4 b h Q K)
      = 0 + ∑ K', Ideal.exp ((((score q k b h Q K').toReal * Real.log 2 : ℝ) : EReal) - (μ : EReal)) := fun K => by
    rw [val_main_v20_apply, val_main_v19_apply, val_main_v18_apply]
    refine congrArg₂ (· + ·) Ideal.ofBits_zero_f32 (Finset.sum_congr rfl fun K' _ => ?_)
    refine Eq.trans (congrArg _ ?_) (e17 K')
    funext a; match a with | ⟨0, _⟩ => rfl | ⟨1, _⟩ => rfl | ⟨2, _⟩ => rfl | ⟨3, _⟩ => rfl
  unfold outAt
  refine Eq.trans ?_ (textbook (n := 8192) (by decide) (fun K => (score q k b h Q K).toReal) _ μ)
  refine Finset.sum_congr rfl fun K _ => ?_
  have e24 : idx_main_v24 (ix3 b Q (col h j)) = ix4 b Q h j := by
    funext a
    apply Fin.ext
    match a with
    | ⟨0, _⟩ => show ((b.val * 8192 + Q.val) * 256 + (64 * h.val + j.val)) / 2097152 = b.val; omega
    | ⟨1, _⟩ => show ((b.val * 8192 + Q.val) * 256 + (64 * h.val + j.val)) / 256 % 8192 = Q.val; omega
    | ⟨2, _⟩ => show ((b.val * 8192 + Q.val) * 256 + (64 * h.val + j.val)) / 64 % 4 = h.val; omega
    | ⟨3, _⟩ => show ((b.val * 8192 + Q.val) * 256 + (64 * h.val + j.val)) % 64 = j.val; omega
  rw [e24]
  have el : lidx_main_v22 (idx_main_v23 (ix4 b Q h j)) K = ix4 h j b K := by
    funext a; match a with | ⟨0, _⟩ => rfl | ⟨1, _⟩ => rfl | ⟨2, _⟩ => rfl | ⟨3, _⟩ => rfl
  have er : ridx_main_v22 (idx_main_v23 (ix4 b Q h j)) K = ix4 b h Q K := by
    funext a; match a with | ⟨0, _⟩ => rfl | ⟨1, _⟩ => rfl | ⟨2, _⟩ => rfl | ⟨3, _⟩ => rfl
  rw [el, er, v_at, val_main_v21_apply, e17, e20]
  rfl

end Cert.Mla.Ref

end
-- ==== Proof.MlaPre.lean ====
/- The precondition, read: real queries and keys, and the row of ones. -/
module

public import proofs.«01_k».proof.Proof.MlaOut
public import proofs.«01_k».proof.Proof.Gen.Pre_finite_and_ones
public import Idealize.ShloMosaic.Lib.ReduceAll
public import Idealize.ShloMosaic.Lib.Pointwise
public import Idealize.ShloMosaic.Lib.IdealHost

@[expose] public section

set_option maxRecDepth 16384

noncomputable section

namespace Cert.Mla

open Cert.Pre_finite_and_ones Cert.Pre_finite_and_ones.Gen Cert.AttnMath
open Idealize.ShloMosaic hiding ix1 ix2 ix3 ix4 ix5
open Idealize.ShloMosaic.ValueIdx

/-- A number whose absolute value is below infinity is a real. -/
theorem real_of_abs {x : EReal} (h : Ideal.cmp .olt (max x (-x)) ⊤ = 1#1) : ∃ r : ℝ, x = (r : EReal) := by
  have h' : max x (-x) < ⊤ := by
    by_contra hn
    simp [Ideal.cmp, hn] at h
  obtain ⟨h1, h2⟩ := max_lt_iff.mp h'
  refine exists_coe ?_ (ne_of_lt h1)
  rintro rfl
  simp at h2

theorem and_split {a b : BitVec 1} (h : IntOp.andi a b = 1#1) : a = 1#1 ∧ b = 1#1 := by
  revert a b; decide

theorem ok_of_pre {q k : Vec Ideal ST .bf16} {v : Vec Ideal STv .bf16}
    (h : Cert.Pre_finite_and_ones.fn (F := Ideal) q k v = fun _ => 1#1) : Ok q k v := by
  have h0 := congrFun h (fun a => a.elim0)
  unfold Cert.Pre_finite_and_ones.fn Cert.Pre_finite_and_ones.fn_part1 at h0
  dsimp only at h0
  obtain ⟨h12, h3⟩ := and_split h0
  obtain ⟨h1, h2⟩ := and_split h12
  haveI : Subsingleton S_.Idx := ⟨fun a b => funext fun i => i.elim0⟩
  refine ⟨fun i => ?_, fun i => ?_, fun g n => ?_⟩
  · have e := Host.reduce_andi_all _ _ _ _ _ h1 i
    refine real_of_abs ?_
    rw [← Cert.Attn.ofBits_pos_inf]
    exact e
  · have e := Host.reduce_andi_all _ _ _ _ _ h2 i
    refine real_of_abs ?_
    rw [← Cert.Attn.ofBits_pos_inf]
    exact e
  · have e := Host.reduce_andi_all _ _ _ _ _ h3 (ix2 g n)
    have e' : Ideal.cmp .oeq (v (ix2 (lane g 64) n)) (Ideal.ofBits .f32 0x3F800000#32) = 1#1 := by
      refine Eq.trans ?_ e
      refine congrArg (fun z => Ideal.cmp .oeq z (Ideal.ofBits .f32 0x3F800000#32)) ?_
      symm
      refine (shapeCast_apply _ _ (ix2 g n) (ix3 g (0 : Fin 1) n) ?_).trans ?_
      · refine (rowMajor_val3 _ 32768 32768 rfl rfl).trans (Eq.trans ?_ (rowMajor_val2 _ 32768 rfl).symm)
        show g.val * 32768 + 0 * 32768 + n.val = g.val * 32768 + n.val
        omega
      refine (extractStridedSlice_apply _ _ _ _ (ix3 g (64 : Fin 128) n) fun a => ?_).trans ?_
      · match a with
        | ⟨0, _⟩ => exact (Nat.zero_add _).symm
        | ⟨1, _⟩ => rfl
        | ⟨2, _⟩ => exact (Nat.zero_add _).symm
      refine (shapeCast_apply _ _ _ (ix2 (lane g 64) n) ?_).trans rfl
      refine (rowMajor_val2 _ 32768 rfl).trans (Eq.trans ?_ (rowMajor_val3 _ (128 * 32768) 32768 rfl rfl).symm)
      show (128 * g.val + 64) * 32768 + n.val = g.val * (128 * 32768) + 64 * 32768 + n.val
      omega
    rw [Ideal.ofBits_one_f32] at e'
    by_contra hn
    simp [Ideal.cmp, hn] at e'

end Cert.Mla

end
-- ==== Proof.RoutedRuns.lean ====
/- The routed experts' kernel body, run once along each of its four control paths: the weights of the block's expert
   are cast into the scratch buffers or the ones the point before left are kept; the block holds tokens or is filled
   with zeros. Each run is stated over the words the body reads from the two tables, so it holds at any tables. -/
module

public import proofs.«01_k».proof.Defs
public import proofs.«01_k».proof.Proof.Gen.Kernel2Ideal.Skeleton
public import proofs.«01_k».proof.Proof.Gen.Kernel2Ideal.Launch
public import Idealize.ShloMosaic.Lib.Pipeline.Kit
public import Idealize.ShloMosaic.Lib.Pipeline.TableIdle
public import Idealize.ShloMosaic.Lib.Pipeline.FrameBody
public import Idealize.ShloMosaic.Lib.Pipeline.StridedRows
public import Idealize.ShloMosaic.Lib.Writes
public import Idealize.ShloMosaic.Lib.Ring
public import Idealize.ShloMosaic.Lib.Exec
public import Idealize.ShloMosaic.Lib.Affine
public import Idealize.ShloMosaic.Lib.Tactic

@[expose] public section

set_option maxRecDepth 16384
set_option Elab.async false

noncomputable section

namespace Cert.Kernel2Ideal.Routed

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The two tables and the three scratch buffers the body is handed, whole. -/
abbrev tab0 : Memref sig .tc .smem S544 .i32 := Memref.whole main_arg0
abbrev tab1 : Memref sig .tc .smem S33 .i32 := Memref.whole main_arg1
abbrev scr0 : Memref sig .tc .vmem S1024x2048 .bf16 := Memref.whole cc0_scratch0
abbrev scr1 : Memref sig .tc .vmem S1024x1024 .bf16 := Memref.whole cc0_scratch1
abbrev scr2 : Memref sig .tc .vmem S256x1024 .bf16 := Memref.whole cc0_scratch2

/-- The expert of the point's own block, of the block before it, and the number of used blocks, as the body reads
    them. -/
abbrev word0 (i : grid0.Coords) (T0 : S544.Idx → Elt F .i32) : BitVec 32 :=
  View.readAt (Elt F) tab0.view (Rect.unit (s := S544) (k0_off1 i) S1.size (k0_off1_inb i)).toLoadRect T0 (Shape.Idx.first (numel1_S1.symm ▸ Nat.one_pos))
abbrev word1 (i : grid0.Coords) (T0 : S544.Idx → Elt F .i32) : BitVec 32 :=
  View.readAt (Elt F) tab0.view (Rect.unit (s := S544) (k0_off2 i) S1.size (k0_off2_inb i)).toLoadRect T0 (Shape.Idx.first (numel1_S1.symm ▸ Nat.one_pos))
abbrev word2 (T1 : S33.Idx → Elt F .i32) : BitVec 32 :=
  View.readAt (Elt F) tab1.view (Rect.unit (s := S33) ![32] S1.size inb_S33_S1_32).toLoadRect T1 (Shape.Idx.first (numel1_S1.symm ▸ Nat.one_pos))

/-- The body casts the weights: at the first point, and where the expert differs from the point before. -/
abbrev Casts (i : grid0.Coords) (T0 : S544.Idx → Elt F .i32) : Prop :=
  (Scalar.cmpi .ne (Scalar.extui (Scalar.ori (Scalar.cmpi .eq (BitVec.ofNat 32 (i 0).val) 0#32) (Scalar.cmpi .ne (word0 i T0) (word1 i T0)))) 0#32) = 1#1
/-- The block holds tokens. -/
abbrev Used (i : grid0.Coords) (T1 : S33.Idx → Elt F .i32) : Prop := k0_cond2 i (word2 T1) = 1#1
/-- The block holds none. -/
abbrev Unused (i : grid0.Coords) (T1 : S33.Idx → Elt F .i32) : Prop := k0_cond3 i (word2 T1) = 1#1

section Runs

variable (c : Dev nD) (i : grid0.Coords)
  (arg3 : Memref sig .tc .vmem S2048x128 .f32) (harg3 : arg3.IsWhole)
  (arg4 : Memref sig .tc .vmem S1x1x1024x2048 .f32) (harg4 : arg4.IsWhole)
  (arg5 : Memref sig .tc .vmem S1x1x1x2048 .f32) (harg5 : arg5.IsWhole)
  (arg6 : Memref sig .tc .vmem S1x1x1024x1024 .f32) (harg6 : arg6.IsWhole)
  (arg7 : Memref sig .tc .vmem S1x1x1x1024 .f32) (harg7 : arg7.IsWhole)
  (arg8 : Memref sig .tc .vmem S2048x128 .f32) (harg8 : arg8.IsWhole)
  (T0 : S544.Idx → Elt F .i32) (T1 : S33.Idx → Elt F .i32)
  (x0 : S2048x128.Idx → Elt F .f32) (x1 : S1x1x1024x2048.Idx → Elt F .f32) (x2 : S1x1x1x2048.Idx → Elt F .f32)
  (x3 : S1x1x1024x1024.Idx → Elt F .f32) (x4 : S1x1x1x1024.Idx → Elt F .f32)

set_option backward.proofsInPublic true in
set_option maxHeartbeats 8000000 in
/-- The weights are cast and the block holds tokens. -/
noncomputable def runA  (hc0 : Casts i T0) (k0_h2 : Used i T1) (k0_h3 : ¬ Unused i T1) :
    Σ' (out0 : List (View.Piece (Elt F) S2048x128 .f32)) (out1 : Buf (Elt F) ((c : Thread nD τ).loc cc0_scratch0)) (out2 : Buf (Elt F) ((c : Thread nD τ).loc cc0_scratch1)), { out3 : Buf (Elt F) ((c : Thread nD τ).loc cc0_scratch2) //
      ∀ (xa0 : Buf (Elt F) ((c : Thread nD τ).loc cc0_scratch0)) (xa1 : Buf (Elt F) ((c : Thread nD τ).loc cc0_scratch1)) (xa2 : Buf (Elt F) ((c : Thread nD τ).loc cc0_scratch2)) (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (tab0.view.loc (c : Thread nD τ) ↦{fullShare.right} T0)
          ∗ (tab1.view.loc (c : Thread nD τ) ↦{fullShare.right} T1)
          ∗ (∃ d, owns (c : Thread nD τ) arg8 fullShare d)
          ∗ (scr0.view.loc (c : Thread nD τ) ↦{fullShare} xa0)
          ∗ (scr1.view.loc (c : Thread nD τ) ↦{fullShare} xa1)
          ∗ (scr2.view.loc (c : Thread nD τ) ↦{fullShare} xa2)
          ∗ (iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (tab0.view.loc (c : Thread nD τ) ↦{fullShare.right} T0)
          ∗ (tab1.view.loc (c : Thread nD τ) ↦{fullShare.right} T1)
          ∗ (∃ f, arg8.view.loc (c : Thread nD τ) ↦[arg8.view.set]{fullShare} arg8.view.writes (Elt F) f out0)
          ∗ (scr0.view.loc (c : Thread nD τ) ↦{fullShare} out1)
          ∗ (scr1.view.loc (c : Thread nD τ) ↦{fullShare} out2)
          ∗ (scr2.view.loc (c : Thread nD τ) ↦{fullShare} out3)) -∗ K ⟨⟩))
          ⊢ wp frame (wpE (defs₀ (F := F)) Variants.none c none) Set.univ (cc0_routed_experts i tab0 (Memref.isWhole_whole _) tab1 (Memref.isWhole_whole _) arg3 harg3 arg4 harg4 arg5 harg5 arg6 harg6 arg7 harg7 arg8 harg8 scr0 (Memref.isWhole_whole _) scr1 (Memref.isWhole_whole _) scr2 (Memref.isWhole_whole _)) K } :=
  ⟨_, _, _, _, fun (xa0 : Buf (Elt F) ((c : Thread nD τ).loc cc0_scratch0)) (xa1 : Buf (Elt F) ((c : Thread nD τ).loc cc0_scratch1)) (xa2 : Buf (Elt F) ((c : Thread nD τ).loc cc0_scratch2)) K => by
    unfold owns
    rw [cc0_routed_experts_eq_skeleton]; unfold cc0_routed_experts_skel
    iintro ⟨H0, H1, H2, H3, H4, HT0, HT1, ⟨%d5, %f5, -, HO5⟩, HS0, HS1, HS2, Hk⟩
    have hS0 : scr0.IsWhole := Memref.isWhole_whole _
    have hS1 : scr1.IsWhole := Memref.isWhole_whole _
    have hS2 : scr2.IsWhole := Memref.isWhole_whole _
    have hT0 : tab0.IsWhole := Memref.isWhole_whole _
    have hT1 : tab1.IsWhole := Memref.isWhole_whole _
    sl_exec! (disch := first | (guard_target = Scalar.cmpi = _; exact hc0) | (guard_target = k0_cond2 _ _ = _; exact k0_h2) | (guard_target = ¬(k0_cond3 _ _ = _); exact k0_h3))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO5]; · iexists _; iexact HO5
    isplitl [HS0]; · iexact HS0
    isplitl [HS1]; · iexact HS1
    iexact HS2⟩

set_option backward.proofsInPublic true in
set_option maxHeartbeats 8000000 in
/-- The weights are kept and the block holds tokens. -/
noncomputable def runB (xa0 : Buf (Elt F) ((c : Thread nD τ).loc cc0_scratch0)) (xa1 : Buf (Elt F) ((c : Thread nD τ).loc cc0_scratch1)) (hc0 : ¬ Casts i T0) (k0_h2 : Used i T1) (k0_h3 : ¬ Unused i T1) :
    Σ' (out0 : List (View.Piece (Elt F) S2048x128 .f32)) (out1 : Buf (Elt F) ((c : Thread nD τ).loc cc0_scratch0)) (out2 : Buf (Elt F) ((c : Thread nD τ).loc cc0_scratch1)), { out3 : Buf (Elt F) ((c : Thread nD τ).loc cc0_scratch2) //
      ∀ (xa2 : Buf (Elt F) ((c : Thread nD τ).loc cc0_scratch2)) (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (tab0.view.loc (c : Thread nD τ) ↦{fullShare.right} T0)
          ∗ (tab1.view.loc (c : Thread nD τ) ↦{fullShare.right} T1)
          ∗ (∃ d, owns (c : Thread nD τ) arg8 fullShare d)
          ∗ (scr0.view.loc (c : Thread nD τ) ↦{fullShare} xa0)
          ∗ (scr1.view.loc (c : Thread nD τ) ↦{fullShare} xa1)
          ∗ (scr2.view.loc (c : Thread nD τ) ↦{fullShare} xa2)
          ∗ (iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (tab0.view.loc (c : Thread nD τ) ↦{fullShare.right} T0)
          ∗ (tab1.view.loc (c : Thread nD τ) ↦{fullShare.right} T1)
          ∗ (∃ f, arg8.view.loc (c : Thread nD τ) ↦[arg8.view.set]{fullShare} arg8.view.writes (Elt F) f out0)
          ∗ (scr0.view.loc (c : Thread nD τ) ↦{fullShare} out1)
          ∗ (scr1.view.loc (c : Thread nD τ) ↦{fullShare} out2)
          ∗ (scr2.view.loc (c : Thread nD τ) ↦{fullShare} out3)) -∗ K ⟨⟩))
          ⊢ wp frame (wpE (defs₀ (F := F)) Variants.none c none) Set.univ (cc0_routed_experts i tab0 (Memref.isWhole_whole _) tab1 (Memref.isWhole_whole _) arg3 harg3 arg4 harg4 arg5 harg5 arg6 harg6 arg7 harg7 arg8 harg8 scr0 (Memref.isWhole_whole _) scr1 (Memref.isWhole_whole _) scr2 (Memref.isWhole_whole _)) K } :=
  ⟨_, _, _, _, fun (xa2 : Buf (Elt F) ((c : Thread nD τ).loc cc0_scratch2)) K => by
    unfold owns
    rw [cc0_routed_experts_eq_skeleton]; unfold cc0_routed_experts_skel
    iintro ⟨H0, H1, H2, H3, H4, HT0, HT1, ⟨%d5, %f5, -, HO5⟩, HS0, HS1, HS2, Hk⟩
    have hS0 : scr0.IsWhole := Memref.isWhole_whole _
    have hS1 : scr1.IsWhole := Memref.isWhole_whole _
    have hS2 : scr2.IsWhole := Memref.isWhole_whole _
    have hT0 : tab0.IsWhole := Memref.isWhole_whole _
    have hT1 : tab1.IsWhole := Memref.isWhole_whole _
    sl_exec! (disch := first | (guard_target = ¬(Scalar.cmpi = _); exact hc0) | (guard_target = k0_cond2 _ _ = _; exact k0_h2) | (guard_target = ¬(k0_cond3 _ _ = _); exact k0_h3))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO5]; · iexists _; iexact HO5
    isplitl [HS0]; · iexact HS0
    isplitl [HS1]; · iexact HS1
    iexact HS2⟩

set_option backward.proofsInPublic true in
set_option maxHeartbeats 8000000 in
/-- The weights are kept and the block holds none. -/
noncomputable def runC (xa0 : Buf (Elt F) ((c : Thread nD τ).loc cc0_scratch0)) (xa1 : Buf (Elt F) ((c : Thread nD τ).loc cc0_scratch1)) (xa2 : Buf (Elt F) ((c : Thread nD τ).loc cc0_scratch2)) (hc0 : ¬ Casts i T0) (k0_h2 : ¬ Used i T1) (k0_h3 : Unused i T1) :
    Σ' (out0 : List (View.Piece (Elt F) S2048x128 .f32)) (out1 : Buf (Elt F) ((c : Thread nD τ).loc cc0_scratch0)) (out2 : Buf (Elt F) ((c : Thread nD τ).loc cc0_scratch1)), { out3 : Buf (Elt F) ((c : Thread nD τ).loc cc0_scratch2) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (tab0.view.loc (c : Thread nD τ) ↦{fullShare.right} T0)
          ∗ (tab1.view.loc (c : Thread nD τ) ↦{fullShare.right} T1)
          ∗ (∃ d, owns (c : Thread nD τ) arg8 fullShare d)
          ∗ (scr0.view.loc (c : Thread nD τ) ↦{fullShare} xa0)
          ∗ (scr1.view.loc (c : Thread nD τ) ↦{fullShare} xa1)
          ∗ (scr2.view.loc (c : Thread nD τ) ↦{fullShare} xa2)
          ∗ (iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (tab0.view.loc (c : Thread nD τ) ↦{fullShare.right} T0)
          ∗ (tab1.view.loc (c : Thread nD τ) ↦{fullShare.right} T1)
          ∗ (∃ f, arg8.view.loc (c : Thread nD τ) ↦[arg8.view.set]{fullShare} arg8.view.writes (Elt F) f out0)
          ∗ (scr0.view.loc (c : Thread nD τ) ↦{fullShare} out1)
          ∗ (scr1.view.loc (c : Thread nD τ) ↦{fullShare} out2)
          ∗ (scr2.view.loc (c : Thread nD τ) ↦{fullShare} out3)) -∗ K ⟨⟩))
          ⊢ wp frame (wpE (defs₀ (F := F)) Variants.none c none) Set.univ (cc0_routed_experts i tab0 (Memref.isWhole_whole _) tab1 (Memref.isWhole_whole _) arg3 harg3 arg4 harg4 arg5 harg5 arg6 harg6 arg7 harg7 arg8 harg8 scr0 (Memref.isWhole_whole _) scr1 (Memref.isWhole_whole _) scr2 (Memref.isWhole_whole _)) K } :=
  ⟨_, _, _, _, fun K => by
    unfold owns
    rw [cc0_routed_experts_eq_skeleton]; unfold cc0_routed_experts_skel
    iintro ⟨H0, H1, H2, H3, H4, HT0, HT1, ⟨%d5, %f5, -, HO5⟩, HS0, HS1, HS2, Hk⟩
    have hS0 : scr0.IsWhole := Memref.isWhole_whole _
    have hS1 : scr1.IsWhole := Memref.isWhole_whole _
    have hS2 : scr2.IsWhole := Memref.isWhole_whole _
    have hT0 : tab0.IsWhole := Memref.isWhole_whole _
    have hT1 : tab1.IsWhole := Memref.isWhole_whole _
    sl_exec! (disch := first | (guard_target = ¬(Scalar.cmpi = _); exact hc0) | (guard_target = ¬(k0_cond2 _ _ = _); exact k0_h2) | (guard_target = k0_cond3 _ _ = _; exact k0_h3))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO5]; · iexists _; iexact HO5
    isplitl [HS0]; · iexact HS0
    isplitl [HS1]; · iexact HS1
    iexact HS2⟩

set_option backward.proofsInPublic true in
set_option maxHeartbeats 8000000 in
/-- The weights are cast and the block holds none. -/
noncomputable def runD (xa2 : Buf (Elt F) ((c : Thread nD τ).loc cc0_scratch2)) (hc0 : Casts i T0) (k0_h2 : ¬ Used i T1) (k0_h3 : Unused i T1) :
    Σ' (out0 : List (View.Piece (Elt F) S2048x128 .f32)) (out1 : Buf (Elt F) ((c : Thread nD τ).loc cc0_scratch0)) (out2 : Buf (Elt F) ((c : Thread nD τ).loc cc0_scratch1)), { out3 : Buf (Elt F) ((c : Thread nD τ).loc cc0_scratch2) //
      ∀ (xa0 : Buf (Elt F) ((c : Thread nD τ).loc cc0_scratch0)) (xa1 : Buf (Elt F) ((c : Thread nD τ).loc cc0_scratch1)) (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (tab0.view.loc (c : Thread nD τ) ↦{fullShare.right} T0)
          ∗ (tab1.view.loc (c : Thread nD τ) ↦{fullShare.right} T1)
          ∗ (∃ d, owns (c : Thread nD τ) arg8 fullShare d)
          ∗ (scr0.view.loc (c : Thread nD τ) ↦{fullShare} xa0)
          ∗ (scr1.view.loc (c : Thread nD τ) ↦{fullShare} xa1)
          ∗ (scr2.view.loc (c : Thread nD τ) ↦{fullShare} xa2)
          ∗ (iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (tab0.view.loc (c : Thread nD τ) ↦{fullShare.right} T0)
          ∗ (tab1.view.loc (c : Thread nD τ) ↦{fullShare.right} T1)
          ∗ (∃ f, arg8.view.loc (c : Thread nD τ) ↦[arg8.view.set]{fullShare} arg8.view.writes (Elt F) f out0)
          ∗ (scr0.view.loc (c : Thread nD τ) ↦{fullShare} out1)
          ∗ (scr1.view.loc (c : Thread nD τ) ↦{fullShare} out2)
          ∗ (scr2.view.loc (c : Thread nD τ) ↦{fullShare} out3)) -∗ K ⟨⟩))
          ⊢ wp frame (wpE (defs₀ (F := F)) Variants.none c none) Set.univ (cc0_routed_experts i tab0 (Memref.isWhole_whole _) tab1 (Memref.isWhole_whole _) arg3 harg3 arg4 harg4 arg5 harg5 arg6 harg6 arg7 harg7 arg8 harg8 scr0 (Memref.isWhole_whole _) scr1 (Memref.isWhole_whole _) scr2 (Memref.isWhole_whole _)) K } :=
  ⟨_, _, _, _, fun (xa0 : Buf (Elt F) ((c : Thread nD τ).loc cc0_scratch0)) (xa1 : Buf (Elt F) ((c : Thread nD τ).loc cc0_scratch1)) K => by
    unfold owns
    rw [cc0_routed_experts_eq_skeleton]; unfold cc0_routed_experts_skel
    iintro ⟨H0, H1, H2, H3, H4, HT0, HT1, ⟨%d5, %f5, -, HO5⟩, HS0, HS1, HS2, Hk⟩
    have hS0 : scr0.IsWhole := Memref.isWhole_whole _
    have hS1 : scr1.IsWhole := Memref.isWhole_whole _
    have hS2 : scr2.IsWhole := Memref.isWhole_whole _
    have hT0 : tab0.IsWhole := Memref.isWhole_whole _
    have hT1 : tab1.IsWhole := Memref.isWhole_whole _
    sl_exec! (disch := first | (guard_target = Scalar.cmpi = _; exact hc0) | (guard_target = ¬(k0_cond2 _ _ = _); exact k0_h2) | (guard_target = k0_cond3 _ _ = _; exact k0_h3))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO5]; · iexists _; iexact HO5
    isplitl [HS0]; · iexact HS0
    isplitl [HS1]; · iexact HS1
    iexact HS2⟩

end Runs

end Cert.Kernel2Ideal.Routed

end
-- ==== Proof.RoutedBlock.lean ====
/- What the routed experts' body leaves at one point, as functions of the blocks it is handed: the weights cast for the
   products, the block's rows gathered from the eight strided lanes, the hidden values chunk by chunk, and the output
   block with the rows put back lane by lane. -/
module

public import proofs.«01_k».proof.Proof.RoutedRuns
public import Idealize.ShloMosaic.Lib.Pipeline.ValueKit

@[expose] public section

set_option maxRecDepth 16384
set_option Elab.async false

noncomputable section

namespace Cert.Kernel2Ideal.Routed

open Cert.Kernel2Ideal Cert.Kernel2Ideal.Gen
open Idealize.ShloMosaic
open Idealize.ShloMosaic.TcCoe Idealize.ShloMosaic.Tactic

variable {F : FTy → Type} [FloatOps F]

/-! ## The values -/

/-- An expert's two weight matrices, cast. -/
def castIn (x1 : S1x1x1024x2048.Idx → Elt F .f32) : S1024x2048.Idx → Elt F .bf16 := k0_pay1 x1
def castOut (x3 : S1x1x1024x1024.Idx → Elt F .f32) : S1024x1024.Idx → Elt F .bf16 := k0_pay2 x3

/-- The block's rows, its eight strided lane groups side by side, cast. -/
def tokens (x0 : S2048x128.Idx → Elt F .f32) : S256x1024.Idx → Elt F .bf16 :=
  k0_pay4 (fun y => x0 ((⟨![0, 0], S256x128.size, ![8, 1], inb_S2048x128_S256x128_0_0_s_8_1⟩ : LoadRect S2048x128).idx y))
    (fun y => x0 ((⟨![1, 0], S256x128.size, ![8, 1], inb_S2048x128_S256x128_1_0_s_8_1⟩ : LoadRect S2048x128).idx y))
    (fun y => x0 ((⟨![2, 0], S256x128.size, ![8, 1], inb_S2048x128_S256x128_2_0_s_8_1⟩ : LoadRect S2048x128).idx y))
    (fun y => x0 ((⟨![3, 0], S256x128.size, ![8, 1], inb_S2048x128_S256x128_3_0_s_8_1⟩ : LoadRect S2048x128).idx y))
    (fun y => x0 ((⟨![4, 0], S256x128.size, ![8, 1], inb_S2048x128_S256x128_4_0_s_8_1⟩ : LoadRect S2048x128).idx y))
    (fun y => x0 ((⟨![5, 0], S256x128.size, ![8, 1], inb_S2048x128_S256x128_5_0_s_8_1⟩ : LoadRect S2048x128).idx y))
    (fun y => x0 ((⟨![6, 0], S256x128.size, ![8, 1], inb_S2048x128_S256x128_6_0_s_8_1⟩ : LoadRect S2048x128).idx y))
    (fun y => x0 ((⟨![7, 0], S256x128.size, ![8, 1], inb_S2048x128_S256x128_7_0_s_8_1⟩ : LoadRect S2048x128).idx y))

/-- A product with 256 columns, and its bias. -/
def dense (x : S256x1024.Idx → Elt F .bf16) (w : S1024x256.Idx → Elt F .bf16) (b : S1x1x1x256.Idx → Elt F .f32) :
    S256x256.Idx → Elt F .f32 :=
  addf (matmul dot_S256x1024_S1024x256_S256x256_1_0_0_1_n_n none x w (constant S256x256 .f32 0x00000000#32))
    (broadcastTo S256x256 (shapeCast S1x256 b shapeCasts_S1x1x1x256_S1x256) broadcasts_S1x256_S256x256)

/-- The clamped gated unit of a chunk of 256 hidden columns, cast. -/
def gated (g u : S256x256.Idx → Elt F .f32) : S256x256.Idx → Elt F .bf16 :=
  k0_pay8 (minimumf g (broadcast S256x256 (Scalar.ofBits .f32 0x40E00000#32)))
    (maximumf (broadcast S256x256 (Scalar.ofBits .f32 0xC0E00000#32)) u) k0_pay7

abbrev inCols (w : S1024x2048.Idx → Elt F .bf16) (o : ℕ) (h : ∀ a, (![0, o] : Fin 2 → ℕ) a + S1024x256.size a ≤ S1024x2048.size a) :
    S1024x256.Idx → Elt F .bf16 := fun y => w ((Rect.unit (s := S1024x2048) ![0, o] S1024x256.size h).toLoadRect.idx y)
abbrev inBias (b : S1x1x1x2048.Idx → Elt F .f32) (o : ℕ) (h : ∀ a, (![0, 0, 0, o] : Fin 4 → ℕ) a + S1x1x1x256.size a ≤ S1x1x1x2048.size a) :
    S1x1x1x256.Idx → Elt F .f32 := fun y => b ((Rect.unit (s := S1x1x1x2048) ![0, 0, 0, o] S1x1x1x256.size h).toLoadRect.idx y)
abbrev outCols (w : S1024x1024.Idx → Elt F .bf16) (o : ℕ) (h : ∀ a, (![0, o] : Fin 2 → ℕ) a + S1024x256.size a ≤ S1024x1024.size a) :
    S1024x256.Idx → Elt F .bf16 := fun y => w ((Rect.unit (s := S1024x1024) ![0, o] S1024x256.size h).toLoadRect.idx y)
abbrev outBias (b : S1x1x1x1024.Idx → Elt F .f32) (o : ℕ) (h : ∀ a, (![0, 0, 0, o] : Fin 4 → ℕ) a + S1x1x1x256.size a ≤ S1x1x1x1024.size a) :
    S1x1x1x256.Idx → Elt F .f32 := fun y => b ((Rect.unit (s := S1x1x1x1024) ![0, 0, 0, o] S1x1x1x256.size h).toLoadRect.idx y)

/-- The hidden values as the body stores them, the last chunk first. -/
def hiddenPieces (x : S256x1024.Idx → Elt F .bf16) (w : S1024x2048.Idx → Elt F .bf16) (b : S1x1x1x2048.Idx → Elt F .f32) :
    List (View.Piece (Elt F) S256x1024 .bf16) :=
  [⟨Rect.unit ![0, 768] S256x256.size inb_S256x1024_S256x256_0_768,
      gated (dense x (inCols w 768 inb_S1024x2048_S1024x256_0_768) (inBias b 768 inb_S1x1x1x2048_S1x1x1x256_0_0_0_768))
        (dense x (inCols w 1792 inb_S1024x2048_S1024x256_0_1792) (inBias b 1792 inb_S1x1x1x2048_S1x1x1x256_0_0_0_1792))⟩,
    ⟨Rect.unit ![0, 512] S256x256.size inb_S256x1024_S256x256_0_512,
      gated (dense x (inCols w 512 inb_S1024x2048_S1024x256_0_512) (inBias b 512 inb_S1x1x1x2048_S1x1x1x256_0_0_0_512))
        (dense x (inCols w 1536 inb_S1024x2048_S1024x256_0_1536) (inBias b 1536 inb_S1x1x1x2048_S1x1x1x256_0_0_0_1536))⟩,
    ⟨Rect.unit ![0, 256] S256x256.size inb_S256x1024_S256x256_0_256,
      gated (dense x (inCols w 256 inb_S1024x2048_S1024x256_0_256) (inBias b 256 inb_S1x1x1x2048_S1x1x1x256_0_0_0_256))
        (dense x (inCols w 1280 inb_S1024x2048_S1024x256_0_1280) (inBias b 1280 inb_S1x1x1x2048_S1x1x1x256_0_0_0_1280))⟩,
    ⟨Rect.unit ![0, 0] S256x256.size inb_S256x1024_S256x256_0_0,
      gated (dense x (inCols w 0 inb_S1024x2048_S1024x256_0_0) (inBias b 0 inb_S1x1x1x2048_S1x1x1x256_0_0_0_0))
        (dense x (inCols w 1024 inb_S1024x2048_S1024x256_0_1024) (inBias b 1024 inb_S1x1x1x2048_S1x1x1x256_0_0_0_1024))⟩]

/-- The hidden values, read back whole. -/
def hidden (x : S256x1024.Idx → Elt F .bf16) (w : S1024x2048.Idx → Elt F .bf16) (b : S1x1x1x2048.Idx → Elt F .f32) :
    S256x1024.Idx → Elt F .bf16 := fun j =>
  View.canon (hiddenPieces x w b) ((Rect.unit (s := S256x1024) ![0, 0] S256x1024.size inb_S256x1024_S256x1024_0_0).toLoadRect.idx j)

/-- The output block as the body stores it: lane group by lane group, the last first. -/
def outPieces (h : S256x1024.Idx → Elt F .bf16) (w : S1024x1024.Idx → Elt F .bf16) (b : S1x1x1x1024.Idx → Elt F .f32) :
    List (View.Piece (Elt F) S2048x128 .f32) :=
  [⟨⟨(⟨![7, 0], S256x128.size, ![8, 1], inb_S2048x128_S256x128_7_0_s_8_1⟩ : LoadRect S2048x128), spos_8_1⟩,
      extractStridedSlice S256x128 ![0, 128] (dense h (outCols w 768 inb_S1024x1024_S1024x256_0_768) (outBias b 768 inb_S1x1x1x1024_S1x1x1x256_0_0_0_768)) slices_S256x256_o0_128_S256x128⟩,
    ⟨⟨(⟨![6, 0], S256x128.size, ![8, 1], inb_S2048x128_S256x128_6_0_s_8_1⟩ : LoadRect S2048x128), spos_8_1⟩,
      extractStridedSlice S256x128 ![0, 0] (dense h (outCols w 768 inb_S1024x1024_S1024x256_0_768) (outBias b 768 inb_S1x1x1x1024_S1x1x1x256_0_0_0_768)) slices_S256x256_o0_0_S256x128⟩,
    ⟨⟨(⟨![5, 0], S256x128.size, ![8, 1], inb_S2048x128_S256x128_5_0_s_8_1⟩ : LoadRect S2048x128), spos_8_1⟩,
      extractStridedSlice S256x128 ![0, 128] (dense h (outCols w 512 inb_S1024x1024_S1024x256_0_512) (outBias b 512 inb_S1x1x1x1024_S1x1x1x256_0_0_0_512)) slices_S256x256_o0_128_S256x128⟩,
    ⟨⟨(⟨![4, 0], S256x128.size, ![8, 1], inb_S2048x128_S256x128_4_0_s_8_1⟩ : LoadRect S2048x128), spos_8_1⟩,
      extractStridedSlice S256x128 ![0, 0] (dense h (outCols w 512 inb_S1024x1024_S1024x256_0_512) (outBias b 512 inb_S1x1x1x1024_S1x1x1x256_0_0_0_512)) slices_S256x256_o0_0_S256x128⟩,
    ⟨⟨(⟨![3, 0], S256x128.size, ![8, 1], inb_S2048x128_S256x128_3_0_s_8_1⟩ : LoadRect S2048x128), spos_8_1⟩,
      extractStridedSlice S256x128 ![0, 128] (dense h (outCols w 256 inb_S1024x1024_S1024x256_0_256) (outBias b 256 inb_S1x1x1x1024_S1x1x1x256_0_0_0_256)) slices_S256x256_o0_128_S256x128⟩,
    ⟨⟨(⟨![2, 0], S256x128.size, ![8, 1], inb_S2048x128_S256x128_2_0_s_8_1⟩ : LoadRect S2048x128), spos_8_1⟩,
      extractStridedSlice S256x128 ![0, 0] (dense h (outCols w 256 inb_S1024x1024_S1024x256_0_256) (outBias b 256 inb_S1x1x1x1024_S1x1x1x256_0_0_0_256)) slices_S256x256_o0_0_S256x128⟩,
    ⟨⟨(⟨![1, 0], S256x128.size, ![8, 1], inb_S2048x128_S256x128_1_0_s_8_1⟩ : LoadRect S2048x128), spos_8_1⟩,
      extractStridedSlice S256x128 ![0, 128] (dense h (outCols w 0 inb_S1024x1024_S1024x256_0_0) (outBias b 0 inb_S1x1x1x1024_S1x1x1x256_0_0_0_0)) slices_S256x256_o0_128_S256x128⟩,
    ⟨⟨(⟨![0, 0], S256x128.size, ![8, 1], inb_S2048x128_S256x128_0_0_s_8_1⟩ : LoadRect S2048x128), spos_8_1⟩,
      extractStridedSlice S256x128 ![0, 0] (dense h (outCols w 0 inb_S1024x1024_S1024x256_0_0) (outBias b 0 inb_S1x1x1x1024_S1x1x1x256_0_0_0_0)) slices_S256x256_o0_0_S256x128⟩]

/-- The output block of a point with tokens. -/
def outBlock (x0 : S2048x128.Idx → Elt F .f32) (w0 : S1024x2048.Idx → Elt F .bf16) (x2 : S1x1x1x2048.Idx → Elt F .f32)
    (w1 : S1024x1024.Idx → Elt F .bf16) (x4 : S1x1x1x1024.Idx → Elt F .f32) : S2048x128.Idx → Elt F .f32 :=
  View.canon (outPieces (hidden (tokens x0) w0 x2) w1 x4)

/-! ## The lane groups cover the block: row r is in group r mod 8 -/

theorem mem_group (s : ℕ) (hs : s < 8) (inb : ∀ a, S256x128.size a = 0 ∨ (![s, 0] : Fin 2 → ℕ) a + (![8, 1] : Fin 2 → ℕ) a * (S256x128.size a - 1) < S2048x128.size a)
    (y : S2048x128.Idx) (hy : (y 0).val % 8 = s) :
    y ∈ ((⟨![s, 0], S256x128.size, ![8, 1], inb⟩ : LoadRect S2048x128)).set := by
  rw [LoadRect.mem_set]
  have h0 : (y 0).val < 2048 := (y 0).isLt
  have h1 : (y 1).val < 128 := (y 1).isLt
  intro a
  match a with
  | ⟨0, _⟩ => exact ⟨(y 0).val / 8, show (y 0).val / 8 < 256 by omega, show (y 0).val = s + 8 * ((y 0).val / 8) by omega⟩
  | ⟨1, _⟩ => exact ⟨(y 1).val, show (y 1).val < 128 by omega, show (y 1).val = 0 + 1 * (y 1).val by omega⟩

theorem outPieces_cover (h : S256x1024.Idx → Elt F .bf16) (w : S1024x1024.Idx → Elt F .bf16) (b : S1x1x1x1024.Idx → Elt F .f32)
    (y : S2048x128.Idx) : ∃ p ∈ outPieces h w b, y ∈ p.1.set := by
  have h8 : (y 0).val % 8 < 8 := Nat.mod_lt _ (by decide)
  unfold outPieces
  rcases (show (y 0).val % 8 = 0 ∨ (y 0).val % 8 = 1 ∨ (y 0).val % 8 = 2 ∨ (y 0).val % 8 = 3 ∨ (y 0).val % 8 = 4
      ∨ (y 0).val % 8 = 5 ∨ (y 0).val % 8 = 6 ∨ (y 0).val % 8 = 7 by omega) with e | e | e | e | e | e | e | e
  · exact ⟨_, .tail _ (.tail _ (.tail _ (.tail _ (.tail _ (.tail _ (.tail _ (.head _))))))), mem_group 0 (by decide) _ y e⟩
  · exact ⟨_, .tail _ (.tail _ (.tail _ (.tail _ (.tail _ (.tail _ (.head _)))))), mem_group 1 (by decide) _ y e⟩
  · exact ⟨_, .tail _ (.tail _ (.tail _ (.tail _ (.tail _ (.head _))))), mem_group 2 (by decide) _ y e⟩
  · exact ⟨_, .tail _ (.tail _ (.tail _ (.tail _ (.head _)))), mem_group 3 (by decide) _ y e⟩
  · exact ⟨_, .tail _ (.tail _ (.tail _ (.head _))), mem_group 4 (by decide) _ y e⟩
  · exact ⟨_, .tail _ (.tail _ (.head _)), mem_group 5 (by decide) _ y e⟩
  · exact ⟨_, .tail _ (.head _), mem_group 6 (by decide) _ y e⟩
  · exact ⟨_, .head _, mem_group 7 (by decide) _ y e⟩

/-! ## The runs leave them -/

section Eqs

variable (c : Dev nD) (i : grid0.Coords)
  (arg3 : Memref sig .tc .vmem S2048x128 .f32) (harg3 : arg3.IsWhole)
  (arg4 : Memref sig .tc .vmem S1x1x1024x2048 .f32) (harg4 : arg4.IsWhole)
  (arg5 : Memref sig .tc .vmem S1x1x1x2048 .f32) (harg5 : arg5.IsWhole)
  (arg6 : Memref sig .tc .vmem S1x1x1024x1024 .f32) (harg6 : arg6.IsWhole)
  (arg7 : Memref sig .tc .vmem S1x1x1x1024 .f32) (harg7 : arg7.IsWhole)
  (arg8 : Memref sig .tc .vmem S2048x128 .f32) (harg8 : arg8.IsWhole)
  (T0 : S544.Idx → Elt F .i32) (T1 : S33.Idx → Elt F .i32)
  (x0 : S2048x128.Idx → Elt F .f32) (x1 : S1x1x1024x2048.Idx → Elt F .f32) (x2 : S1x1x1x2048.Idx → Elt F .f32)
  (x3 : S1x1x1024x1024.Idx → Elt F .f32) (x4 : S1x1x1x1024.Idx → Elt F .f32)

theorem load_in (inb) : (fun y => x1 ((Rect.unit (s := S1x1x1024x2048) ![0, 0, 0, 0] S1x1x1024x2048.size inb).toLoadRect.idx y)) = x1 :=
  View.ld_unit_zero (by decide) inb x1
theorem load_out (inb) : (fun y => x3 ((Rect.unit (s := S1x1x1024x1024) ![0, 0, 0, 0] S1x1x1024x1024.size inb).toLoadRect.idx y)) = x3 :=
  View.ld_unit_zero (by decide) inb x3
theorem canon_in (inb) (p : (⟨2, ![1024, 2048]⟩ : Shape).Idx → Elt F .bf16) :
    View.canon [(⟨Rect.unit (s := S1024x2048) ![0, 0] ![1024, 2048] inb, p⟩ : View.Piece (Elt F) S1024x2048 .bf16)] = p :=
  View.canon_cons_unit_zero (by decide) inb p _
theorem canon_out (inb) (p : (⟨2, ![1024, 1024]⟩ : Shape).Idx → Elt F .bf16) :
    View.canon [(⟨Rect.unit (s := S1024x1024) ![0, 0] ![1024, 1024] inb, p⟩ : View.Piece (Elt F) S1024x1024 .bf16)] = p :=
  View.canon_cons_unit_zero (by decide) inb p _

theorem runB_out (hc0 : ¬ Casts i T0) (k0_h2 : Used i T1) (k0_h3 : ¬ Unused i T1) (w0 : S1024x2048.Idx → Elt F .bf16) (w1 : S1024x1024.Idx → Elt F .bf16) :
    (runB c i arg3 harg3 arg4 harg4 arg5 harg5 arg6 harg6 arg7 harg7 arg8 harg8 T0 T1 x0 x1 x2 x3 x4 (scr0.view.rep w0) (scr1.view.rep w1) hc0 k0_h2 k0_h3).1
      = outPieces (hidden (tokens x0) w0 x2) w1 x4 := by
  unfold runB
  dsimp only
  sl_unfold_words
  simp only [View.readCov_eq_canon', View.readAt_rep]
  rfl

theorem runA_out (hc0 : Casts i T0) (k0_h2 : Used i T1) (k0_h3 : ¬ Unused i T1) :
    (runA c i arg3 harg3 arg4 harg4 arg5 harg5 arg6 harg6 arg7 harg7 arg8 harg8 T0 T1 x0 x1 x2 x3 x4 hc0 k0_h2 k0_h3).1
      = outPieces (hidden (tokens x0) (castIn x1) x2) (castOut x3) x4 := by
  unfold runA
  dsimp only
  sl_unfold_words
  simp only [View.readCov_eq_canon', View.readAt_rep, load_in, load_out, castIn, castOut]
  generalize k0_pay1 x1 = w0
  generalize k0_pay2 x3 = w1
  simp only [canon_in, canon_out]
  rfl

/-- A whole store leaves exactly the stored value. -/
theorem rep_of_store {κ : Kind} {sp : Space} {S : Shape} {e : EltTy} (v : View sig κ sp S e) {off : Fin S.rank → ℕ} (h : off = fun _ => 0)
    (inb : ∀ a, off a + S.size a ≤ S.size a) (w : S.Idx → Elt F e) :
    v.writes (Elt F) v.junk [(⟨Rect.unit off S.size inb, w⟩ : View.Piece (Elt F) S e)] = v.rep w := by
  subst h; rfl

theorem runA_in (hc0 : Casts i T0) (k0_h2 : Used i T1) (k0_h3 : ¬ Unused i T1) :
    (runA c i arg3 harg3 arg4 harg4 arg5 harg5 arg6 harg6 arg7 harg7 arg8 harg8 T0 T1 x0 x1 x2 x3 x4 hc0 k0_h2 k0_h3).2.1
      = scr0.view.rep (castIn x1) := by
  unfold runA
  dsimp only
  sl_unfold_words
  simp only [View.readAt_rep, load_in]
  exact rep_of_store _ (by decide) _ _

theorem runA_down (hc0 : Casts i T0) (k0_h2 : Used i T1) (k0_h3 : ¬ Unused i T1) :
    (runA c i arg3 harg3 arg4 harg4 arg5 harg5 arg6 harg6 arg7 harg7 arg8 harg8 T0 T1 x0 x1 x2 x3 x4 hc0 k0_h2 k0_h3).2.2.1
      = scr1.view.rep (castOut x3) := by
  unfold runA
  dsimp only
  sl_unfold_words
  simp only [View.readAt_rep, load_out]
  exact rep_of_store _ (by decide) _ _

theorem runD_in (xa2 : Buf (Elt F) ((c : Thread nD τ).loc cc0_scratch2)) (hc0 : Casts i T0) (k0_h2 : ¬ Used i T1) (k0_h3 : Unused i T1) :
    (runD c i arg3 harg3 arg4 harg4 arg5 harg5 arg6 harg6 arg7 harg7 arg8 harg8 T0 T1 x0 x1 x2 x3 x4 xa2 hc0 k0_h2 k0_h3).2.1
      = scr0.view.rep (castIn x1) := by
  unfold runD
  dsimp only
  sl_unfold_words
  simp only [View.readAt_rep, load_in]
  exact rep_of_store _ (by decide) _ _

theorem runD_down (xa2 : Buf (Elt F) ((c : Thread nD τ).loc cc0_scratch2)) (hc0 : Casts i T0) (k0_h2 : ¬ Used i T1) (k0_h3 : Unused i T1) :
    (runD c i arg3 harg3 arg4 harg4 arg5 harg5 arg6 harg6 arg7 harg7 arg8 harg8 T0 T1 x0 x1 x2 x3 x4 xa2 hc0 k0_h2 k0_h3).2.2.1
      = scr1.view.rep (castOut x3) := by
  unfold runD
  dsimp only
  sl_unfold_words
  simp only [View.readAt_rep, load_out]
  exact rep_of_store _ (by decide) _ _

theorem runD_out (xa2 : Buf (Elt F) ((c : Thread nD τ).loc cc0_scratch2)) (hc0 : Casts i T0) (k0_h2 : ¬ Used i T1) (k0_h3 : Unused i T1) :
    (runD c i arg3 harg3 arg4 harg4 arg5 harg5 arg6 harg6 arg7 harg7 arg8 harg8 T0 T1 x0 x1 x2 x3 x4 xa2 hc0 k0_h2 k0_h3).1
      = [⟨Rect.unit ![0, 0] S2048x128.size inb_S2048x128_S2048x128_0_0, k0_pay3⟩] := by
  unfold runD
  dsimp only
  sl_unfold_words
  rfl

theorem runC_out (hc0 : ¬ Casts i T0) (k0_h2 : ¬ Used i T1) (k0_h3 : Unused i T1) (xa0 : Buf (Elt F) ((c : Thread nD τ).loc cc0_scratch0)) (xa1 : Buf (Elt F) ((c : Thread nD τ).loc cc0_scratch1)) (xa2 : Buf (Elt F) ((c : Thread nD τ).loc cc0_scratch2)) :
    (runC c i arg3 harg3 arg4 harg4 arg5 harg5 arg6 harg6 arg7 harg7 arg8 harg8 T0 T1 x0 x1 x2 x3 x4 xa0 xa1 xa2 hc0 k0_h2 k0_h3).1
      = [⟨Rect.unit ![0, 0] S2048x128.size inb_S2048x128_S2048x128_0_0, k0_pay3⟩] := by
  unfold runC
  dsimp only
  sl_unfold_words
  rfl

theorem runB_in (hc0 : ¬ Casts i T0) (k0_h2 : Used i T1) (k0_h3 : ¬ Unused i T1) (xa0 : Buf (Elt F) ((c : Thread nD τ).loc cc0_scratch0)) (xa1 : Buf (Elt F) ((c : Thread nD τ).loc cc0_scratch1)) :
    (runB c i arg3 harg3 arg4 harg4 arg5 harg5 arg6 harg6 arg7 harg7 arg8 harg8 T0 T1 x0 x1 x2 x3 x4 xa0 xa1 hc0 k0_h2 k0_h3).2.1 = xa0 := rfl
theorem runB_down (hc0 : ¬ Casts i T0) (k0_h2 : Used i T1) (k0_h3 : ¬ Unused i T1) (xa0 : Buf (Elt F) ((c : Thread nD τ).loc cc0_scratch0)) (xa1 : Buf (Elt F) ((c : Thread nD τ).loc cc0_scratch1)) :
    (runB c i arg3 harg3 arg4 harg4 arg5 harg5 arg6 harg6 arg7 harg7 arg8 harg8 T0 T1 x0 x1 x2 x3 x4 xa0 xa1 hc0 k0_h2 k0_h3).2.2.1 = xa1 := rfl
theorem runC_in (hc0 : ¬ Casts i T0) (k0_h2 : ¬ Used i T1) (k0_h3 : Unused i T1) (xa0 : Buf (Elt F) ((c : Thread nD τ).loc cc0_scratch0)) (xa1 : Buf (Elt F) ((c : Thread nD τ).loc cc0_scratch1)) (xa2 : Buf (Elt F) ((c : Thread nD τ).loc cc0_scratch2)) :
    (runC c i arg3 harg3 arg4 harg4 arg5 harg5 arg6 harg6 arg7 harg7 arg8 harg8 T0 T1 x0 x1 x2 x3 x4 xa0 xa1 xa2 hc0 k0_h2 k0_h3).2.1 = xa0 := rfl
theorem runC_down (hc0 : ¬ Casts i T0) (k0_h2 : ¬ Used i T1) (k0_h3 : Unused i T1) (xa0 : Buf (Elt F) ((c : Thread nD τ).loc cc0_scratch0)) (xa1 : Buf (Elt F) ((c : Thread nD τ).loc cc0_scratch1)) (xa2 : Buf (Elt F) ((c : Thread nD τ).loc cc0_scratch2)) :
    (runC c i arg3 harg3 arg4 harg4 arg5 harg5 arg6 harg6 arg7 harg7 arg8 harg8 T0 T1 x0 x1 x2 x3 x4 xa0 xa1 xa2 hc0 k0_h2 k0_h3).2.2.1 = xa1 := rfl
end Eqs

end Cert.Kernel2Ideal.Routed

end
-- ==== Proof.RoutedTab.lean ====
/- The routed experts' tables: the range they are taken in, what the body and the index maps read of them, the pipeline
   at them, and how a point's control follows from them. -/
module

public import proofs.«01_k».proof.Proof.RoutedBlock
public import proofs.«01_k».proof.Proof.Gen.Kernel2Ideal.Launch
public import Idealize.ShloMosaic.Lib.Pipeline.TableIdle

@[expose] public section

set_option maxRecDepth 16384
set_option Elab.async false

noncomputable section

namespace Cert.Kernel2Ideal.Routed

open Cert.Kernel2Ideal Cert.Kernel2Ideal.Gen
open Idealize.ShloMosaic hiding ix1 ix2 ix3 ix4 ix5
open Idealize.ShloMosaic.ValueIdx
open Idealize.ShloMosaic.TcCoe Idealize.ShloMosaic.Tactic

variable {F : FTy → Type} [FloatOps F]

/-- Every block's expert is one of the 32; at least one block, and at most all, are used. -/
def InRange (T0 : S544.Idx → BitVec 32) (T1 : S33.Idx → BitVec 32) : Prop :=
  (∀ i, (T0 i).toNat < 32) ∧ 1 ≤ (T1 (ix1 (32 : Fin 33))).toNat ∧ (T1 (ix1 (32 : Fin 33))).toNat ≤ 544

/-- Block `j`'s expert, and the number of used blocks. -/
def expert (T0 : S544.Idx → BitVec 32) (j : Fin 544) : BitVec 32 := T0 (ix1 j)
def used (T1 : S33.Idx → BitVec 32) : BitVec 32 := T1 (ix1 (32 : Fin 33))

/-! ## The words read -/

theorem off1_val (i : grid0.Coords) : k0_off1 i 0 = (i 0).val := by
  have h : (i 0).val < 544 := (i 0).isLt
  show (BitVec.ofNat 32 (i 0).val).toNat = _
  simp only [BitVec.toNat_ofNat]; omega

theorem sub_one_toInt (n : ℕ) (h : n < 544) (h0 : n ≠ 0) : (Scalar.maxsi (Scalar.subi (BitVec.ofNat 32 n) 1#32) 0#32).toNat = n - 1 := by
  have e : Scalar.subi (BitVec.ofNat 32 n) 1#32 = BitVec.ofNat 32 (n - 1) := by
    apply BitVec.eq_of_toNat_eq
    show (BitVec.ofNat 32 n - 1#32).toNat = _
    simp only [BitVec.toNat_sub, BitVec.toNat_ofNat]; omega
  rw [e]
  have hi : (BitVec.ofNat 32 (n - 1)).toInt = (n - 1 : ℕ) := by
    rw [BitVec.toInt_eq_toNat_of_lt] <;> simp only [BitVec.toNat_ofNat] <;> omega
  unfold Scalar.maxsi IntOp.maxsi
  split
  · simp only [BitVec.toNat_ofNat]; omega
  · rename_i hh
    simp [BitVec.slt, hi] at hh
    simp; omega

theorem off2_val (i : grid0.Coords) (h0 : (i 0).val ≠ 0) : k0_off2 i 0 = (i 0).val - 1 :=
  sub_one_toInt _ (i 0).isLt h0

theorem word0_eq (i : grid0.Coords) (T0 : S544.Idx → Elt F .i32) : word0 (F := F) i T0 = expert T0 (i 0) := by
  show T0 _ = T0 _
  congr 1
  funext a
  apply Fin.ext
  match a with
  | ⟨0, _⟩ => show k0_off1 i 0 + 1 * 0 = (i 0).val; rw [off1_val]; omega

theorem word1_eq (i : grid0.Coords) (h0 : (i 0).val ≠ 0) (T0 : S544.Idx → Elt F .i32) :
    word1 (F := F) i T0 = expert T0 ⟨(i 0).val - 1, by have : (i 0).val < 544 := (i 0).isLt; omega⟩ := by
  show T0 _ = T0 _
  congr 1
  funext a
  apply Fin.ext
  match a with
  | ⟨0, _⟩ => show k0_off2 i 0 + 1 * 0 = (i 0).val - 1; rw [off2_val i h0]; omega

theorem word2_eq (T1 : S33.Idx → Elt F .i32) : word2 (F := F) T1 = used T1 := by
  show T1 _ = T1 _
  congr 1
  funext a
  apply Fin.ext
  match a with
  | ⟨0, _⟩ => rfl

/-! ## A point's control -/

/-- The first point casts the weights. -/
theorem casts_zero (i : grid0.Coords) (h0 : (i 0).val = 0) (T0 : S544.Idx → Elt F .i32) : Casts (F := F) i T0 := by
  unfold Casts
  rw [h0]
  generalize (word0 (F := F) i T0) = a
  generalize (word1 (F := F) i T0) = b
  have : ∀ x : BitVec 1, (Scalar.cmpi .ne (Scalar.extui (Scalar.ori (Scalar.cmpi .eq (BitVec.ofNat 32 0) 0#32) x)) (0#32 : BitVec 32)) = 1#1 := by decide
  exact this _

theorem cmpi_ne_self (a : BitVec 32) : Scalar.cmpi .ne a a = 0#1 := by simp [Scalar.cmpi, IntOp.cmpi]

/-- A point that does not cast works for the expert of the point before. -/
theorem expert_of_not_casts (i : grid0.Coords) (h0 : (i 0).val ≠ 0) (T0 : S544.Idx → Elt F .i32) (h : ¬ Casts (F := F) i T0) :
    expert T0 (i 0) = expert T0 ⟨(i 0).val - 1, by have : (i 0).val < 544 := (i 0).isLt; omega⟩ := by
  rw [← word0_eq i T0, ← word1_eq i h0 T0]
  by_contra hne
  apply h
  unfold Casts
  have e : Scalar.cmpi .ne (word0 (F := F) i T0) (word1 (F := F) i T0) = 1#1 := by
    simp only [Scalar.cmpi, IntOp.cmpi]; rw [bne_iff_ne.2 hne]; rfl
  rw [e]
  have : ∀ x : BitVec 1, (Scalar.cmpi .ne (Scalar.extui (Scalar.ori x 1#1)) (0#32 : BitVec 32)) = 1#1 := by decide
  exact this _

/-- A block holds tokens exactly if it is one of the used ones. -/
theorem used_iff (i : grid0.Coords) (T1 : S33.Idx → Elt F .i32) (hu : (used T1).toNat ≤ 544) :
    Used (F := F) i T1 ↔ (i 0).val < (used T1).toNat := by
  unfold Used
  rw [word2_eq]
  have h : (i 0).val < 544 := (i 0).isLt
  have e1 : (BitVec.ofNat 32 (i 0).val).toInt = ((i 0).val : ℤ) := by
    rw [BitVec.toInt_eq_toNat_of_lt] <;> simp only [BitVec.toNat_ofNat] <;> omega
  have e2 : (used T1).toInt = ((used T1).toNat : ℤ) := BitVec.toInt_eq_toNat_of_lt (by omega)
  have k : ∀ x : BitVec 1, (Scalar.cmpi .ne (Scalar.extui x) (0#32 : BitVec 32)) = 1#1 ↔ x = 1#1 := by decide
  show Scalar.cmpi .ne (Scalar.extui (Scalar.cmpi .slt (BitVec.ofNat 32 (i 0).val) (used T1))) (0#32 : BitVec 32) = 1#1 ↔ _
  rw [k]
  simp only [Scalar.cmpi, IntOp.cmpi, BitVec.slt, e1, e2]
  by_cases hc : (i 0).val < (used T1).toNat <;> simp [hc]

theorem unused_iff (i : grid0.Coords) (T1 : S33.Idx → Elt F .i32) : Unused (F := F) i T1 ↔ ¬ Used (F := F) i T1 := by
  unfold Unused Used k0_cond2 k0_cond3
  generalize word2 (F := F) T1 = b
  generalize BitVec.ofNat 32 (i 0).val = a
  have k : ∀ x : BitVec 1, (Scalar.cmpi .ne (Scalar.extui x) (0#32 : BitVec 32)) = 1#1 ↔ x = 1#1 := by decide
  show Scalar.cmpi .ne (Scalar.extui (Scalar.cmpi .sge a b)) (0#32 : BitVec 32) = 1#1 ↔ ¬ Scalar.cmpi .ne (Scalar.extui (Scalar.cmpi .slt a b)) (0#32 : BitVec 32) = 1#1
  rw [k, k]
  simp only [Scalar.cmpi, IntOp.cmpi, BitVec.slt, BitVec.sle]
  by_cases hc : a.toInt < b.toInt
  · simp [hc, not_le.2 hc]
  · simp [hc, not_lt.1 hc]

/-! ## The pipeline at the tables -/

section At

variable (T0 : S544.Idx → Elt F .i32) (T1 : S33.Idx → Elt F .i32) (hT : InRange T0 T1)

set_option backward.proofsInPublic true in
/-- The prefetched tables' contents. -/
def pfN : pre0.Contents (Elt F) := fun
  | ⟨0, _⟩ => T0
  | ⟨1, _⟩ => T1
  | ⟨_ + 2, h⟩ => absurd h (by simp)

theorem at0_eq (i : grid0.Coords) (inb) : (pfN T0 T1).at 0 (Rect.unit (s := S544) (k0_off1 i) S1.size inb) numel1_S1 = expert T0 (i 0) :=
  word0_eq i T0
theorem at1_eq : (pfN T0 T1).at 1 (Rect.unit (s := S33) ![32] S1.size inb_S33_S1_32) numel1_S1 = used T1 :=
  word2_eq T1

theorem minsi_toNat (n : ℕ) (h : n < 544) (u : BitVec 32) (h1 : 1 ≤ u.toNat) (h2 : u.toNat ≤ 544) :
    (Scalar.minsi (BitVec.ofNat 32 n) (Scalar.subi u 1#32)).toNat = min n (u.toNat - 1) := by
  have e : (Scalar.subi u 1#32).toNat = u.toNat - 1 := by
    show (u - 1#32).toNat = _
    simp only [BitVec.toNat_sub, BitVec.toNat_ofNat]; omega
  have hi : (BitVec.ofNat 32 n).toInt = (n : ℤ) := by
    rw [BitVec.toInt_eq_toNat_of_lt] <;> simp only [BitVec.toNat_ofNat] <;> omega
  have hj : (Scalar.subi u 1#32).toInt = ((u.toNat - 1 : ℕ) : ℤ) := by
    rw [BitVec.toInt_eq_toNat_of_lt, e]; omega
  unfold Scalar.minsi IntOp.minsi
  split
  · rename_i hh
    simp [BitVec.slt, BitVec.sle, hi, hj] at hh
    simp only [BitVec.toNat_ofNat]; omega
  · rename_i hh
    simp [BitVec.slt, BitVec.sle, hi, hj] at hh
    rw [e]; omega

include hT in
/-- The index maps: a used block's own tokens, its expert's weights; past the used ones the last used block's. -/
theorem map0_eq (i : grid0.Coords) : cc0_transform_0 inb_S33_S1_32 numel1_S1 (pfN T0 T1) i = ![min (i 0).val ((used T1).toNat - 1), 0] := by
  show ![(Scalar.minsi (BitVec.ofNat 32 (i 0).val) (Scalar.subi ((pfN T0 T1).at 1 (Rect.unit (s := S33) ![32] S1.size inb_S33_S1_32) numel1_S1) 1#32)).toNat, (0#32 : BitVec 32).toNat] = _
  rw [at1_eq, minsi_toNat _ (i 0).isLt (used T1) hT.2.1 hT.2.2]
  rfl
theorem map1_eq (i : grid0.Coords) : cc0_transform_1 k0_off1_inb numel1_S1 (pfN T0 T1) i = ![0, (expert T0 (i 0)).toNat, 0, 0] :=
  (congrArg (fun v : BitVec 32 => (![0, v.toNat, 0, 0] : Fin 4 → ℕ)) (at0_eq T0 T1 i (k0_off1_inb i)))
theorem map2_eq (i : grid0.Coords) : cc0_transform_2 k0_off1_inb numel1_S1 (pfN T0 T1) i = ![0, (expert T0 (i 0)).toNat, 0, 0] :=
  map1_eq T0 T1 i
theorem map3_eq (i : grid0.Coords) : cc0_transform_3 k0_off1_inb numel1_S1 (pfN T0 T1) i = ![0, (expert T0 (i 0)).toNat, 0, 0] :=
  map1_eq T0 T1 i
theorem map4_eq (i : grid0.Coords) : cc0_transform_4 k0_off1_inb numel1_S1 (pfN T0 T1) i = ![0, (expert T0 (i 0)).toNat, 0, 0] :=
  map1_eq T0 T1 i

include hT in
/-- Every block lies inside its array. -/
theorem ok : ok0 (pfN T0 T1) := by
  have hE : ∀ i : grid0.Coords, (expert T0 (i 0)).toNat < 32 := fun i => hT.1 _
  refine ⟨fun i => ⟨?_, .inl rfl⟩, fun i => ⟨?_, .inl rfl⟩, fun i => ⟨?_, .inl rfl⟩, fun i => ⟨?_, .inl rfl⟩, fun i => ⟨?_, .inl rfl⟩⟩
  · rw [map0_eq T0 T1 hT]
    have h : (i 0).val < 544 := (i 0).isLt
    intro a
    match a with
    | ⟨0, _⟩ => show (min (i 0).val ((used T1).toNat - 1) + 1) * 2048 ≤ 1114112; omega
    | ⟨1, _⟩ => show (0 + 1) * 128 ≤ 128; omega
  · rw [map1_eq]
    have h := hE i
    intro a
    match a with
    | ⟨0, _⟩ => show (0 + 1) * 1 ≤ 2; omega
    | ⟨1, _⟩ => show ((expert T0 (i 0)).toNat + 1) * 1 ≤ 32; omega
    | ⟨2, _⟩ => show (0 + 1) * 1024 ≤ 1024; omega
    | ⟨3, _⟩ => show (0 + 1) * 2048 ≤ 2048; omega
  · rw [map2_eq]
    have h := hE i
    intro a
    match a with
    | ⟨0, _⟩ => show (0 + 1) * 1 ≤ 2; omega
    | ⟨1, _⟩ => show ((expert T0 (i 0)).toNat + 1) * 1 ≤ 32; omega
    | ⟨2, _⟩ => show (0 + 1) * 1 ≤ 1; omega
    | ⟨3, _⟩ => show (0 + 1) * 2048 ≤ 2048; omega
  · rw [map3_eq]
    have h := hE i
    intro a
    match a with
    | ⟨0, _⟩ => show (0 + 1) * 1 ≤ 2; omega
    | ⟨1, _⟩ => show ((expert T0 (i 0)).toNat + 1) * 1 ≤ 32; omega
    | ⟨2, _⟩ => show (0 + 1) * 1024 ≤ 1024; omega
    | ⟨3, _⟩ => show (0 + 1) * 1024 ≤ 1024; omega
  · rw [map4_eq]
    have h := hE i
    intro a
    match a with
    | ⟨0, _⟩ => show (0 + 1) * 1 ≤ 2; omega
    | ⟨1, _⟩ => show ((expert T0 (i 0)).toNat + 1) * 1 ≤ 32; omega
    | ⟨2, _⟩ => show (0 + 1) * 1 ≤ 1; omega
    | ⟨3, _⟩ => show (0 + 1) * 1024 ≤ 1024; omega

/-- The tables as admissible contents, and the pipeline at them. -/
def adm : (pcfg0 (F := F)).Adm := ⟨pfN T0 T1, ok T0 T1 hT⟩
abbrev cfgA : Pipeline.Cfg sig Λ₀ := cfg0 (F := F) (adm T0 T1 hT)
abbrev pcs : Fin 1 → Pipeline.Cfg sig Λ₀ := Pipeline.pin (pcfgs (F := F)) fun _ => adm T0 T1 hT

/-- Point `t`'s coordinates, and the block it is at. -/
abbrev crd (t : Fin (cfgA T0 T1 hT).N) : (cfgA T0 T1 hT).grid.Coords := (cfgA T0 T1 hT).grid.coords t

theorem crd_val (t : Fin (cfgA T0 T1 hT).N) : ((crd T0 T1 hT t : grid0.Coords) 0).val = t.val := by
  have e := Pipeline.Grid.coords_val (G := grid0) t (0 : Fin 1) (S := 1) (B := 544) (by decide) (by decide)
  have h : t.val < grid0.N := t.isLt
  rw [N_0] at h
  refine e.trans ?_
  rw [Nat.div_one, Nat.mod_eq_of_lt h]

/-- The body stores the output at every point. -/
theorem idle5 (i : grid0.Coords) : (cfgA T0 T1 hT).idle (5 : Fin 6) i = false := by
  show (!(k0_cond2 i ((pfN T0 T1).atD 1 ![32]) == 1#1) && !(k0_cond3 i ((pfN T0 T1).atD 1 ![32]) == 1#1)) = false
  have e : (pfN T0 T1).atD 1 ![32] = word2 T1 := rfl
  rw [e]
  have h := unused_iff (F := F) i T1
  unfold Used Unused at h
  by_cases hu : k0_cond2 i (word2 T1) = 1#1
  · simp [hu]
  · simp [h.2 hu]

end At

end Cert.Kernel2Ideal.Routed

end
-- ==== Proof.RoutedDat.lean ====
/- The routed experts' pipeline at any tables in range: its blocks, what each point leaves, and its proof data. -/
module

public import proofs.«01_k».proof.Proof.RoutedTab
public import proofs.«01_k».proof.Proof.Gen.Kernel2Ideal.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Pipeline.ValueKit
public import Idealize.ShloMosaic.Lib.Writes
public import Idealize.ShloMosaic.Lib.Ring
public import Idealize.ShloMosaic.Lib.Exec
public import Idealize.ShloMosaic.Lib.Tactic
public import Idealize.ShloMosaic.Adequacy
public import Idealize.ShloMosaic.Init

@[expose] public section

set_option maxRecDepth 16384
set_option Elab.async false

noncomputable section

namespace Cert.Kernel2Ideal.Routed

open Cert.Kernel2Ideal Cert.Kernel2Ideal.Gen
open Idealize.ShloMosaic hiding ix1 ix2 ix3 ix4 ix5
open Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The pipeline library's resources, embedded whole. -/
abbrev EP : Emb (UR sig nD τ) 𝕄 := emb₁

variable (T0 : S544.Idx → Elt F .i32) (T1 : S33.Idx → Elt F .i32) (hT : InRange T0 T1)
variable (m : (ℓ : Loc nD τ sig) → Buf (Elt F) ℓ) (ρ : Dev nD → PrngReg)

/-- The launch memory's tables are these. -/
def Pinned : Prop := (∀ c : Dev nD, m ((c : Thread nD τ).loc main_arg0) = T0) ∧ (∀ c : Dev nD, m ((c : Thread nD τ).loc main_arg1) = T1)

/-! ## A point's staging memrefs and blocks -/

abbrev ms0 (t : Fin (cfgA T0 T1 hT).N) : Memref sig .tc .vmem S2048x128 .f32 := spec0_0.stage ((cfgA T0 T1 hT).slots t (0 : Fin 6))
abbrev hs0 (t : Fin (cfgA T0 T1 hT).N) : (ms0 T0 T1 hT t).IsWhole := hstage0_0 (((cfgA T0 T1 hT).slots t (0 : Fin 6)).cast nbuf0_0)
abbrev ms1 (t : Fin (cfgA T0 T1 hT).N) : Memref sig .tc .vmem S1x1x1024x2048 .f32 := spec0_1.stage ((cfgA T0 T1 hT).slots t (1 : Fin 6))
abbrev hs1 (t : Fin (cfgA T0 T1 hT).N) : (ms1 T0 T1 hT t).IsWhole := hstage0_1 (((cfgA T0 T1 hT).slots t (1 : Fin 6)).cast nbuf0_1)
abbrev ms2 (t : Fin (cfgA T0 T1 hT).N) : Memref sig .tc .vmem S1x1x1x2048 .f32 := spec0_2.stage ((cfgA T0 T1 hT).slots t (2 : Fin 6))
abbrev hs2 (t : Fin (cfgA T0 T1 hT).N) : (ms2 T0 T1 hT t).IsWhole := hstage0_2 (((cfgA T0 T1 hT).slots t (2 : Fin 6)).cast nbuf0_2)
abbrev ms3 (t : Fin (cfgA T0 T1 hT).N) : Memref sig .tc .vmem S1x1x1024x1024 .f32 := spec0_3.stage ((cfgA T0 T1 hT).slots t (3 : Fin 6))
abbrev hs3 (t : Fin (cfgA T0 T1 hT).N) : (ms3 T0 T1 hT t).IsWhole := hstage0_3 (((cfgA T0 T1 hT).slots t (3 : Fin 6)).cast nbuf0_3)
abbrev ms4 (t : Fin (cfgA T0 T1 hT).N) : Memref sig .tc .vmem S1x1x1x1024 .f32 := spec0_4.stage ((cfgA T0 T1 hT).slots t (4 : Fin 6))
abbrev hs4 (t : Fin (cfgA T0 T1 hT).N) : (ms4 T0 T1 hT t).IsWhole := hstage0_4 (((cfgA T0 T1 hT).slots t (4 : Fin 6)).cast nbuf0_4)
abbrev ms5 (t : Fin (cfgA T0 T1 hT).N) : Memref sig .tc .vmem S2048x128 .f32 := spec0_5.stage ((cfgA T0 T1 hT).slots t (5 : Fin 6))
abbrev hs5 (t : Fin (cfgA T0 T1 hT).N) : (ms5 T0 T1 hT t).IsWhole := hstage0_5 (((cfgA T0 T1 hT).slots t (5 : Fin 6)).cast nbuf0_5)

/-- Window `w`'s block at point `t`, read off its array at launch. -/
def iblk (c : Dev nD) (w : Fin (cfgA T0 T1 hT).W) (t : Fin (cfgA T0 T1 hT).N) :
    (((cfgA T0 T1 hT).win w).xblock (crd T0 T1 hT t)).Idx → Elt F ((cfgA T0 T1 hT).win w).elt :=
  (((cfgA T0 T1 hT).win w).blk t).view.read (Elt F) (m (((cfgA T0 T1 hT).win w).arr.view.loc (c : Thread nD τ)))

theorem lt_N (t : Fin (cfgA T0 T1 hT).N) : t.val < 544 := by
  have h : t.val < grid0.N := t.isLt
  rwa [N_0] at h

/-- The block a point is at. -/
def at_ (t : Fin (cfgA T0 T1 hT).N) : Fin 544 := ⟨t.val, lt_N T0 T1 hT t⟩

theorem crd_at (t : Fin (cfgA T0 T1 hT).N) : (crd T0 T1 hT t : grid0.Coords) 0 = at_ T0 T1 hT t := Fin.ext (crd_val T0 T1 hT t)

/-- The expert a point works for. -/
def expertOf (t : Fin (cfgA T0 T1 hT).N) : Fin 32 := ⟨(expert T0 (at_ T0 T1 hT t)).toNat, hT.1 _⟩

theorem index0 (t : Fin (cfgA T0 T1 hT).N) : ((cfgA T0 T1 hT).win (0 : Fin 6)).index t = ![min t.val ((used T1).toNat - 1), 0] :=
  (map0_eq T0 T1 hT _).trans (by rw [crd_val])
theorem index1 (t : Fin (cfgA T0 T1 hT).N) : ((cfgA T0 T1 hT).win (1 : Fin 6)).index t = ![0, (expertOf T0 T1 hT t).val, 0, 0] :=
  (map1_eq T0 T1 _).trans (congrArg (fun j => ![0, (expert T0 j).toNat, 0, 0]) (crd_at T0 T1 hT t))
theorem index2 (t : Fin (cfgA T0 T1 hT).N) : ((cfgA T0 T1 hT).win (2 : Fin 6)).index t = ![0, (expertOf T0 T1 hT t).val, 0, 0] :=
  (map2_eq T0 T1 _).trans (congrArg (fun j => ![0, (expert T0 j).toNat, 0, 0]) (crd_at T0 T1 hT t))
theorem index3 (t : Fin (cfgA T0 T1 hT).N) : ((cfgA T0 T1 hT).win (3 : Fin 6)).index t = ![0, (expertOf T0 T1 hT t).val, 0, 0] :=
  (map3_eq T0 T1 _).trans (congrArg (fun j => ![0, (expert T0 j).toNat, 0, 0]) (crd_at T0 T1 hT t))
theorem index4 (t : Fin (cfgA T0 T1 hT).N) : ((cfgA T0 T1 hT).win (4 : Fin 6)).index t = ![0, (expertOf T0 T1 hT t).val, 0, 0] :=
  (map4_eq T0 T1 _).trans (congrArg (fun j => ![0, (expert T0 j).toNat, 0, 0]) (crd_at T0 T1 hT t))
theorem index5 (t : Fin (cfgA T0 T1 hT).N) : ((cfgA T0 T1 hT).win (5 : Fin 6)).index t = ![t.val, 0] := by
  refine (show _ = ![(BitVec.ofNat 32 ((crd T0 T1 hT t : grid0.Coords) 0).val).toNat, (0#32 : BitVec 32).toNat] from rfl).trans ?_
  have h := lt_N T0 T1 hT t
  rw [crd_val, BitVec.toNat_ofNat, Nat.mod_eq_of_lt (by omega)]
  rfl

/-- The token block of a point, row by row. -/
theorem iblk0_apply (c : Dev nD) (t : Fin (cfgA T0 T1 hT).N) (r : Fin 2048) (l : Fin 128) :
    (iblk T0 T1 hT m c (0 : Fin 6) t : S2048x128.Idx → Elt F .f32) (ix2 r l)
      = m ((c : Thread nD τ).loc main_arg2) (ix2 ⟨2048 * min t.val ((used T1).toNat - 1) + r.val, by have := lt_N T0 T1 hT t; omega⟩ l) := by
  refine (show _ = m ((c : Thread nD τ).loc main_arg2) ((((cfgA T0 T1 hT).win (0 : Fin 6)).rect t).emb (ix2 r l)) from rfl).trans ?_
  congr 1
  funext a
  apply Fin.ext
  refine (Pipeline.Window.rect_emb_val _ t _ a).trans ?_
  rw [index0]
  match a with
  | ⟨0, _⟩ => show min t.val ((used T1).toNat - 1) * 2048 + r.val = 2048 * min t.val ((used T1).toNat - 1) + r.val; omega
  | ⟨1, _⟩ => show 0 * 128 + l.val = l.val; omega
theorem iblk1_apply (c : Dev nD) (t : Fin (cfgA T0 T1 hT).N) (a b : Fin 1) (d : Fin 1024) (f : Fin 2048) :
    (iblk T0 T1 hT m c (1 : Fin 6) t : S1x1x1024x2048.Idx → Elt F .f32) (ix4 a b d f)
      = m ((c : Thread nD τ).loc main_arg3) (ix4 (0 : Fin 2) (expertOf T0 T1 hT t) d f) := by
  refine (show _ = m ((c : Thread nD τ).loc main_arg3) ((((cfgA T0 T1 hT).win (1 : Fin 6)).rect t).emb (ix4 a b d f)) from rfl).trans ?_
  congr 1
  funext x
  apply Fin.ext
  refine (Pipeline.Window.rect_emb_val _ t _ x).trans ?_
  rw [index1]
  have ha := a.isLt
  have hb := b.isLt
  match x with
  | ⟨0, _⟩ => show 0 * 1 + a.val = 0; omega
  | ⟨1, _⟩ => show (expertOf T0 T1 hT t).val * 1 + b.val = (expertOf T0 T1 hT t).val; omega
  | ⟨2, _⟩ => show 0 * 1024 + d.val = d.val; omega
  | ⟨3, _⟩ => show 0 * 2048 + f.val = f.val; omega
theorem iblk2_apply (c : Dev nD) (t : Fin (cfgA T0 T1 hT).N) (a b : Fin 1) (d : Fin 1) (f : Fin 2048) :
    (iblk T0 T1 hT m c (2 : Fin 6) t : S1x1x1x2048.Idx → Elt F .f32) (ix4 a b d f)
      = m ((c : Thread nD τ).loc main_arg4) (ix4 (0 : Fin 2) (expertOf T0 T1 hT t) d f) := by
  refine (show _ = m ((c : Thread nD τ).loc main_arg4) ((((cfgA T0 T1 hT).win (2 : Fin 6)).rect t).emb (ix4 a b d f)) from rfl).trans ?_
  congr 1
  funext x
  apply Fin.ext
  refine (Pipeline.Window.rect_emb_val _ t _ x).trans ?_
  rw [index2]
  have ha := a.isLt
  have hb := b.isLt
  match x with
  | ⟨0, _⟩ => show 0 * 1 + a.val = 0; omega
  | ⟨1, _⟩ => show (expertOf T0 T1 hT t).val * 1 + b.val = (expertOf T0 T1 hT t).val; omega
  | ⟨2, _⟩ => show 0 * 1 + d.val = d.val; omega
  | ⟨3, _⟩ => show 0 * 2048 + f.val = f.val; omega
theorem iblk3_apply (c : Dev nD) (t : Fin (cfgA T0 T1 hT).N) (a b : Fin 1) (d : Fin 1024) (f : Fin 1024) :
    (iblk T0 T1 hT m c (3 : Fin 6) t : S1x1x1024x1024.Idx → Elt F .f32) (ix4 a b d f)
      = m ((c : Thread nD τ).loc main_arg5) (ix4 (0 : Fin 2) (expertOf T0 T1 hT t) d f) := by
  refine (show _ = m ((c : Thread nD τ).loc main_arg5) ((((cfgA T0 T1 hT).win (3 : Fin 6)).rect t).emb (ix4 a b d f)) from rfl).trans ?_
  congr 1
  funext x
  apply Fin.ext
  refine (Pipeline.Window.rect_emb_val _ t _ x).trans ?_
  rw [index3]
  have ha := a.isLt
  have hb := b.isLt
  match x with
  | ⟨0, _⟩ => show 0 * 1 + a.val = 0; omega
  | ⟨1, _⟩ => show (expertOf T0 T1 hT t).val * 1 + b.val = (expertOf T0 T1 hT t).val; omega
  | ⟨2, _⟩ => show 0 * 1024 + d.val = d.val; omega
  | ⟨3, _⟩ => show 0 * 1024 + f.val = f.val; omega
theorem iblk4_apply (c : Dev nD) (t : Fin (cfgA T0 T1 hT).N) (a b : Fin 1) (d : Fin 1) (f : Fin 1024) :
    (iblk T0 T1 hT m c (4 : Fin 6) t : S1x1x1x1024.Idx → Elt F .f32) (ix4 a b d f)
      = m ((c : Thread nD τ).loc main_arg6) (ix4 (0 : Fin 2) (expertOf T0 T1 hT t) d f) := by
  refine (show _ = m ((c : Thread nD τ).loc main_arg6) ((((cfgA T0 T1 hT).win (4 : Fin 6)).rect t).emb (ix4 a b d f)) from rfl).trans ?_
  congr 1
  funext x
  apply Fin.ext
  refine (Pipeline.Window.rect_emb_val _ t _ x).trans ?_
  rw [index4]
  have ha := a.isLt
  have hb := b.isLt
  match x with
  | ⟨0, _⟩ => show 0 * 1 + a.val = 0; omega
  | ⟨1, _⟩ => show (expertOf T0 T1 hT t).val * 1 + b.val = (expertOf T0 T1 hT t).val; omega
  | ⟨2, _⟩ => show 0 * 1 + d.val = d.val; omega
  | ⟨3, _⟩ => show 0 * 1024 + f.val = f.val; omega

/-! ## What the body leaves -/

/-- The output block a point leaves: its tokens' rows through its expert's two layers, or zeros. -/
def afterOut (c : Dev nD) (t : Fin (cfgA T0 T1 hT).N) : S2048x128.Idx → Elt F .f32 :=
  if Used (F := F) (crd T0 T1 hT t) T1 then
    outBlock (iblk T0 T1 hT m c (0 : Fin 6) t) (castIn (iblk T0 T1 hT m c (1 : Fin 6) t)) (iblk T0 T1 hT m c (2 : Fin 6) t)
      (castOut (iblk T0 T1 hT m c (3 : Fin 6) t)) (iblk T0 T1 hT m c (4 : Fin 6) t)
  else k0_pay3

/-- The point before a position (the first point before the first). -/
def before (t : Fin ((cfgA T0 T1 hT).N + 1)) : Fin (cfgA T0 T1 hT).N :=
  ⟨t.val - 1, by have h : t.val < grid0.N + 1 := t.isLt; have e := N_0; show t.val - 1 < grid0.N; omega⟩

theorem before_succ (t : Fin (cfgA T0 T1 hT).N) : before T0 T1 hT t.succ = t := Fin.ext (by simp [before])

/-- The cast weights held before a position. -/
def heldIn (c : Dev nD) (t : Fin ((cfgA T0 T1 hT).N + 1)) : Buf (Elt F) ((c : Thread nD τ).loc cc0_scratch0) :=
  scr0.view.rep (castIn (iblk T0 T1 hT m c (1 : Fin 6) (before T0 T1 hT t)))
def heldOut (c : Dev nD) (t : Fin ((cfgA T0 T1 hT).N + 1)) : Buf (Elt F) ((c : Thread nD τ).loc cc0_scratch1) :=
  scr1.view.rep (castOut (iblk T0 T1 hT m c (3 : Fin 6) (before T0 T1 hT t)))

theorem heldIn_succ (c : Dev nD) (t : Fin (cfgA T0 T1 hT).N) :
    heldIn T0 T1 hT m c t.succ = scr0.view.rep (castIn (iblk T0 T1 hT m c (1 : Fin 6) t)) := by
  unfold heldIn; rw [before_succ]
theorem heldOut_succ (c : Dev nD) (t : Fin (cfgA T0 T1 hT).N) :
    heldOut T0 T1 hT m c t.succ = scr1.view.rep (castOut (iblk T0 T1 hT m c (3 : Fin 6) t)) := by
  unfold heldOut; rw [before_succ]

section NotCast
variable (c : Dev nD) (t : Fin (cfgA T0 T1 hT).N) (hc : ¬ Casts (F := F) (crd T0 T1 hT t) T0)

include hc in
theorem ne_zero_of_not_casts : t.val ≠ 0 := fun h => hc (casts_zero _ ((crd_val T0 T1 hT t).trans h) T0)

include hc in
theorem expertOf_before : expertOf T0 T1 hT (before T0 T1 hT t.castSucc) = expertOf T0 T1 hT t := by
  have h0 := ne_zero_of_not_casts T0 T1 hT t hc
  have e := expert_of_not_casts (crd T0 T1 hT t) (by rw [crd_val]; exact h0) T0 hc
  have e2 : expert T0 (at_ T0 T1 hT t) = expert T0 (at_ T0 T1 hT (before T0 T1 hT t.castSucc)) :=
    (congrArg (expert T0) (crd_at T0 T1 hT t)).symm.trans (e.trans (congrArg (expert T0) (Fin.ext
      (congrArg (fun n : ℕ => n - 1) (crd_val T0 T1 hT t)))))
  exact Fin.ext (congrArg BitVec.toNat e2).symm

include hc in
/-- Where the body does not cast, the cast weights held are the point's own. -/
theorem heldIn_castSucc : heldIn T0 T1 hT m c t.castSucc = scr0.view.rep (castIn (iblk T0 T1 hT m c (1 : Fin 6) t)) := by
  unfold heldIn
  refine congrArg (fun x => scr0.view.rep (castIn (F := F) x)) (funext fun y => ?_)
  obtain ⟨a, b, d, f, rfl⟩ : ∃ a b d f, y = ix4 a b d f := ⟨_, _, _, _, ValueIdx.eq_ix4 y⟩
  refine (iblk1_apply T0 T1 hT m c _ a b d f).trans (Eq.trans ?_ (iblk1_apply T0 T1 hT m c _ a b d f).symm)
  rw [expertOf_before T0 T1 hT t hc]
include hc in
theorem heldOut_castSucc : heldOut T0 T1 hT m c t.castSucc = scr1.view.rep (castOut (iblk T0 T1 hT m c (3 : Fin 6) t)) := by
  unfold heldOut
  refine congrArg (fun x => scr1.view.rep (castOut (F := F) x)) (funext fun y => ?_)
  obtain ⟨a, b, d, f, rfl⟩ : ∃ a b d f, y = ix4 a b d f := ⟨_, _, _, _, ValueIdx.eq_ix4 y⟩
  refine (iblk3_apply T0 T1 hT m c _ a b d f).trans (Eq.trans ?_ (iblk3_apply T0 T1 hT m c _ a b d f).symm)
  rw [expertOf_before T0 T1 hT t hc]

end NotCast

/-! ## The proof data -/

/-- The invariant: past the first point the cast weights of the point before; the tables' halves. -/
def Phi (c : Dev nD) (t : Fin ((cfgA T0 T1 hT).N + 1)) : sProp 𝕄 :=
  iprop((∃ a, ⌜t.val ≠ 0 → a = heldIn T0 T1 hT m c t⌝ ∗ (scr0.view.loc (c : Thread nD τ) ↦{fullShare} a))
    ∗ (∃ a, ⌜t.val ≠ 0 → a = heldOut T0 T1 hT m c t⌝ ∗ (scr1.view.loc (c : Thread nD τ) ↦{fullShare} a))
    ∗ (∃ a : Buf (Elt F) ((c : Thread nD τ).loc cc0_scratch2), (scr2.view.loc (c : Thread nD τ) ↦{fullShare} a))
    ∗ (tab0.view.loc (c : Thread nD τ) ↦{fullShare.right} T0)
    ∗ (tab1.view.loc (c : Thread nD τ) ↦{fullShare.right} T1))

def dats (_ : Fin 1) (c : Dev nD) : Dat τ (Elt F) Unit ℕ (UR sig nD τ) ℕ (cfgA T0 T1 hT) c where
  A w := m (((cfgA T0 T1 hT).win w).arr.view.loc (c : Thread nD τ))
  after w t := match w with
    | ⟨0, _⟩ => iblk T0 T1 hT m c (0 : Fin 6) t
    | ⟨1, _⟩ => iblk T0 T1 hT m c (1 : Fin 6) t
    | ⟨2, _⟩ => iblk T0 T1 hT m c (2 : Fin 6) t
    | ⟨3, _⟩ => iblk T0 T1 hT m c (3 : Fin 6) t
    | ⟨4, _⟩ => iblk T0 T1 hT m c (4 : Fin 6) t
    | ⟨5, _⟩ => afterOut T0 T1 hT m c t
  Φ t := Phi T0 T1 hT m c t
  q _ := fullShare
  owed _ := 0

theorem after0 (c : Dev nD) (t : Fin (cfgA T0 T1 hT).N) : (dats T0 T1 hT m 0 c).after (0 : Fin 6) t = iblk T0 T1 hT m c (0 : Fin 6) t := rfl
/-- Input window 0 holds its block. -/
theorem before0 (c : Dev nD) (t : Fin (cfgA T0 T1 hT).N) (d) : (dats T0 T1 hT m 0 c).before (0 : Fin 6) t d = iblk T0 T1 hT m c (0 : Fin 6) t :=
  ((dats T0 T1 hT m 0 c).before_in_eq_fetched (0 : Fin 6) rfl (fun _ => rfl) (fun _ _ _ => rfl) (fun t => by rw [after0]; unfold Dat.blockOf iblk; rfl) t d).trans
    (by unfold Dat.fetched Dat.blockOf iblk; rfl)
theorem after1 (c : Dev nD) (t : Fin (cfgA T0 T1 hT).N) : (dats T0 T1 hT m 0 c).after (1 : Fin 6) t = iblk T0 T1 hT m c (1 : Fin 6) t := rfl
/-- Input window 1 holds its block. -/
theorem before1 (c : Dev nD) (t : Fin (cfgA T0 T1 hT).N) (d) : (dats T0 T1 hT m 0 c).before (1 : Fin 6) t d = iblk T0 T1 hT m c (1 : Fin 6) t :=
  ((dats T0 T1 hT m 0 c).before_in_eq_fetched (1 : Fin 6) rfl (fun _ => rfl) (fun _ _ _ => rfl) (fun t => by rw [after1]; unfold Dat.blockOf iblk; rfl) t d).trans
    (by unfold Dat.fetched Dat.blockOf iblk; rfl)
theorem after2 (c : Dev nD) (t : Fin (cfgA T0 T1 hT).N) : (dats T0 T1 hT m 0 c).after (2 : Fin 6) t = iblk T0 T1 hT m c (2 : Fin 6) t := rfl
/-- Input window 2 holds its block. -/
theorem before2 (c : Dev nD) (t : Fin (cfgA T0 T1 hT).N) (d) : (dats T0 T1 hT m 0 c).before (2 : Fin 6) t d = iblk T0 T1 hT m c (2 : Fin 6) t :=
  ((dats T0 T1 hT m 0 c).before_in_eq_fetched (2 : Fin 6) rfl (fun _ => rfl) (fun _ _ _ => rfl) (fun t => by rw [after2]; unfold Dat.blockOf iblk; rfl) t d).trans
    (by unfold Dat.fetched Dat.blockOf iblk; rfl)
theorem after3 (c : Dev nD) (t : Fin (cfgA T0 T1 hT).N) : (dats T0 T1 hT m 0 c).after (3 : Fin 6) t = iblk T0 T1 hT m c (3 : Fin 6) t := rfl
/-- Input window 3 holds its block. -/
theorem before3 (c : Dev nD) (t : Fin (cfgA T0 T1 hT).N) (d) : (dats T0 T1 hT m 0 c).before (3 : Fin 6) t d = iblk T0 T1 hT m c (3 : Fin 6) t :=
  ((dats T0 T1 hT m 0 c).before_in_eq_fetched (3 : Fin 6) rfl (fun _ => rfl) (fun _ _ _ => rfl) (fun t => by rw [after3]; unfold Dat.blockOf iblk; rfl) t d).trans
    (by unfold Dat.fetched Dat.blockOf iblk; rfl)
theorem after4 (c : Dev nD) (t : Fin (cfgA T0 T1 hT).N) : (dats T0 T1 hT m 0 c).after (4 : Fin 6) t = iblk T0 T1 hT m c (4 : Fin 6) t := rfl
/-- Input window 4 holds its block. -/
theorem before4 (c : Dev nD) (t : Fin (cfgA T0 T1 hT).N) (d) : (dats T0 T1 hT m 0 c).before (4 : Fin 6) t d = iblk T0 T1 hT m c (4 : Fin 6) t :=
  ((dats T0 T1 hT m 0 c).before_in_eq_fetched (4 : Fin 6) rfl (fun _ => rfl) (fun _ _ _ => rfl) (fun t => by rw [after4]; unfold Dat.blockOf iblk; rfl) t d).trans
    (by unfold Dat.fetched Dat.blockOf iblk; rfl)
theorem after5 (c : Dev nD) (t : Fin (cfgA T0 T1 hT).N) : (dats T0 T1 hT m 0 c).after (5 : Fin 6) t = afterOut T0 T1 hT m c t := rfl

/-- What is left where tokens are, and where none are. -/
theorem out_used (c : Dev nD) (t : Fin (cfgA T0 T1 hT).N) (hu : Used (F := F) (crd T0 T1 hT t) T1) {κ : Kind} {sp : Space} (v : View sig κ sp S2048x128 .f32)
    (f : v.ty.Contents (Elt F)) (L : List (View.Piece (Elt F) S2048x128 .f32))
    (hL : L = outPieces (hidden (tokens (iblk T0 T1 hT m c (0 : Fin 6) t)) (castIn (iblk T0 T1 hT m c (1 : Fin 6) t)) (iblk T0 T1 hT m c (2 : Fin 6) t))
      (castOut (iblk T0 T1 hT m c (3 : Fin 6) t)) (iblk T0 T1 hT m c (4 : Fin 6) t)) :
    v.read (Elt F) (v.writes (Elt F) f L) = afterOut T0 T1 hT m c t := by
  subst hL
  exact (View.read_writes_eq_canon v f _ (outPieces_cover _ _ _)).trans (if_pos hu).symm

theorem out_unused (c : Dev nD) (t : Fin (cfgA T0 T1 hT).N) (hu : ¬ Used (F := F) (crd T0 T1 hT t) T1) {κ : Kind} {sp : Space} (v : View sig κ sp S2048x128 .f32)
    (f : v.ty.Contents (Elt F)) (L : List (View.Piece (Elt F) S2048x128 .f32))
    (hL : L = [⟨Rect.unit ![0, 0] S2048x128.size inb_S2048x128_S2048x128_0_0, k0_pay3⟩]) :
    v.read (Elt F) (v.writes (Elt F) f L) = afterOut T0 T1 hT m c t := by
  subst hL
  have h0 : (![0, 0] : Fin S2048x128.rank → ℕ) = fun _ => 0 := by funext a; fin_cases a <;> rfl
  have e := View.canon_unit_zero (S := S2048x128) (Val := Elt F) (e := .f32) h0 inb_S2048x128_S2048x128_0_0 (k0_pay3 (F := F))
  refine ((View.read_writes_eq_canon v f _ fun y => ?_).trans e).trans (if_neg hu).symm
  exact ⟨_, List.mem_singleton.mpr rfl, View.mem_set_unit_zero (S := S2048x128) h0 inb_S2048x128_S2048x128_0_0 y⟩

end Cert.Kernel2Ideal.Routed

end
-- ==== Proof.RoutedBody.lean ====
/- The routed experts' body obligation at a generic point, by its four control paths. -/
module

public import proofs.«01_k».proof.Proof.RoutedDat
public import proofs.«01_k».proof.Proof.Gen.Kernel2Ideal.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Pipeline.ValueKit
public import Idealize.ShloMosaic.Lib.Writes
public import Idealize.ShloMosaic.Lib.Ring
public import Idealize.ShloMosaic.Lib.Exec
public import Idealize.ShloMosaic.Lib.Tactic
public import Idealize.ShloMosaic.Adequacy
public import Idealize.ShloMosaic.Init

@[expose] public section

set_option maxRecDepth 16384
set_option Elab.async false

noncomputable section

namespace Cert.Kernel2Ideal.Routed

open Cert.Kernel2Ideal Cert.Kernel2Ideal.Gen
open Idealize.ShloMosaic hiding ix1 ix2 ix3 ix4 ix5
open Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (T0 : S544.Idx → Elt F .i32) (T1 : S33.Idx → Elt F .i32) (hT : InRange T0 T1)
variable (m : (ℓ : Loc nD τ sig) → Buf (Elt F) ℓ) (ρ : Dev nD → PrngReg)

/-! ## The body, at a generic point -/

abbrev bodyAt (t : Fin (cfgA T0 T1 hT).N) : Prog (TpuEff nD τ sig (Elt F) Λ₀ .tc) PUnit :=
  cc0_routed_experts (crd T0 T1 hT t) tab0 (Memref.isWhole_whole _) tab1 (Memref.isWhole_whole _) (ms0 T0 T1 hT t) (hs0 T0 T1 hT t) (ms1 T0 T1 hT t) (hs1 T0 T1 hT t) (ms2 T0 T1 hT t) (hs2 T0 T1 hT t) (ms3 T0 T1 hT t) (hs3 T0 T1 hT t) (ms4 T0 T1 hT t) (hs4 T0 T1 hT t) (ms5 T0 T1 hT t) (hs5 T0 T1 hT t) scr0 (Memref.isWhole_whole _) scr1 (Memref.isWhole_whole _) scr2 (Memref.isWhole_whole _)

attribute [local irreducible] runA runB runC runD

set_option maxHeartbeats 4000000 in
/-- The body obligation at point `t`: whether it casts and whether it holds tokens tell the path. -/
theorem sound_body (c : Dev nD) (t : Fin (cfgA T0 T1 hT).N) :
    iprop((dats T0 T1 hT m 0 c).Φ t.castSucc ∗ (dats T0 T1 hT m 0 c).owesAt () t.castSucc
        ∗ (∃ d, owns (c : Thread nD τ) (ms0 T0 T1 hT t) fullShare ((dats T0 T1 hT m 0 c).before (0 : Fin 6) t d))
        ∗ (∃ d, owns (c : Thread nD τ) (ms1 T0 T1 hT t) fullShare ((dats T0 T1 hT m 0 c).before (1 : Fin 6) t d))
        ∗ (∃ d, owns (c : Thread nD τ) (ms2 T0 T1 hT t) fullShare ((dats T0 T1 hT m 0 c).before (2 : Fin 6) t d))
        ∗ (∃ d, owns (c : Thread nD τ) (ms3 T0 T1 hT t) fullShare ((dats T0 T1 hT m 0 c).before (3 : Fin 6) t d))
        ∗ (∃ d, owns (c : Thread nD τ) (ms4 T0 T1 hT t) fullShare ((dats T0 T1 hT m 0 c).before (4 : Fin 6) t d))
        ∗ (∃ d, owns (c : Thread nD τ) (ms5 T0 T1 hT t) fullShare ((dats T0 T1 hT m 0 c).before (5 : Fin 6) t d)))
      ⊢ wp frame (wpE (defs₀ (F := F)) Variants.none c none) Set.univ (bodyAt T0 T1 hT t) fun _ =>
          iprop((dats T0 T1 hT m 0 c).Φ t.succ ∗ (dats T0 T1 hT m 0 c).owesAt () t.succ
            ∗ bigSep Finset.univ fun w : Fin (cfgA T0 T1 hT).W =>
                match (cfgA T0 T1 hT).idle w ((cfgA T0 T1 hT).grid.coords t) with
                | true =>
                  match ((cfgA T0 T1 hT).win w).flush t with
                  | false => iprop(∃ d, owns (c : Thread nD τ) (((cfgA T0 T1 hT).win w).stage ((cfgA T0 T1 hT).slots t w)) fullShare ((dats T0 T1 hT m 0 c).before w t d))
                  | true => owns (c : Thread nD τ) (((cfgA T0 T1 hT).win w).stage ((cfgA T0 T1 hT).slots t w)) fullShare ((dats T0 T1 hT m 0 c).after w t)
                | false => owns (c : Thread nD τ) (((cfgA T0 T1 hT).win w).stage ((cfgA T0 T1 hT).slots t w)) fullShare ((dats T0 T1 hT m 0 c).after w t)) := by
  rw [bigSep_W0]
  rewrite [idle5 T0 T1 hT (crd T0 T1 hT t)]
  simp only [before0, before1, before2, before3, before4, after0, after1, after2, after3, after4, after5]
  rewrite [show (dats T0 T1 hT m 0 c).Φ t.succ = Phi T0 T1 hT m c t.succ from rfl, show (dats T0 T1 hT m 0 c).Φ t.castSucc = Phi T0 T1 hT m c t.castSucc from rfl,
    show (dats T0 T1 hT m 0 c).owesAt () t.succ = (dats T0 T1 hT m 0 c).owesAt () t.castSucc from rfl]
  have hn := unused_iff (F := F) (crd T0 T1 hT t) T1
  unfold Phi
  by_cases hc : Casts (F := F) (crd T0 T1 hT t) T0
  · by_cases hu : Used (F := F) (crd T0 T1 hT t) T1
    · have hn' : ¬ Unused (F := F) (crd T0 T1 hT t) T1 := fun h => hn.1 h hu
      iintro ⟨⟨⟨%a0, -, HS0⟩, ⟨%a1, -, HS1⟩, ⟨%a2, HS2⟩, HT0, HT1⟩, Ho, ⟨%d0, H0⟩, ⟨%d1, H1⟩, ⟨%d2, H2⟩, ⟨%d3, H3⟩, ⟨%d4, H4⟩, ⟨%d5, H5⟩⟩
      have e0 := runA_out c (crd T0 T1 hT t) (ms0 T0 T1 hT t) (hs0 T0 T1 hT t) (ms1 T0 T1 hT t) (hs1 T0 T1 hT t) (ms2 T0 T1 hT t) (hs2 T0 T1 hT t) (ms3 T0 T1 hT t) (hs3 T0 T1 hT t) (ms4 T0 T1 hT t) (hs4 T0 T1 hT t) (ms5 T0 T1 hT t) (hs5 T0 T1 hT t) T0 T1 (iblk T0 T1 hT m c (0 : Fin 6) t) (iblk T0 T1 hT m c (1 : Fin 6) t) (iblk T0 T1 hT m c (2 : Fin 6) t) (iblk T0 T1 hT m c (3 : Fin 6) t) (iblk T0 T1 hT m c (4 : Fin 6) t) hc hu hn'
      have e1 := runA_in c (crd T0 T1 hT t) (ms0 T0 T1 hT t) (hs0 T0 T1 hT t) (ms1 T0 T1 hT t) (hs1 T0 T1 hT t) (ms2 T0 T1 hT t) (hs2 T0 T1 hT t) (ms3 T0 T1 hT t) (hs3 T0 T1 hT t) (ms4 T0 T1 hT t) (hs4 T0 T1 hT t) (ms5 T0 T1 hT t) (hs5 T0 T1 hT t) T0 T1 (iblk T0 T1 hT m c (0 : Fin 6) t) (iblk T0 T1 hT m c (1 : Fin 6) t) (iblk T0 T1 hT m c (2 : Fin 6) t) (iblk T0 T1 hT m c (3 : Fin 6) t) (iblk T0 T1 hT m c (4 : Fin 6) t) hc hu hn'
      have e2 := runA_down c (crd T0 T1 hT t) (ms0 T0 T1 hT t) (hs0 T0 T1 hT t) (ms1 T0 T1 hT t) (hs1 T0 T1 hT t) (ms2 T0 T1 hT t) (hs2 T0 T1 hT t) (ms3 T0 T1 hT t) (hs3 T0 T1 hT t) (ms4 T0 T1 hT t) (hs4 T0 T1 hT t) (ms5 T0 T1 hT t) (hs5 T0 T1 hT t) T0 T1 (iblk T0 T1 hT m c (0 : Fin 6) t) (iblk T0 T1 hT m c (1 : Fin 6) t) (iblk T0 T1 hT m c (2 : Fin 6) t) (iblk T0 T1 hT m c (3 : Fin 6) t) (iblk T0 T1 hT m c (4 : Fin 6) t) hc hu hn'
      generalize runA c (crd T0 T1 hT t) (ms0 T0 T1 hT t) (hs0 T0 T1 hT t) (ms1 T0 T1 hT t) (hs1 T0 T1 hT t) (ms2 T0 T1 hT t) (hs2 T0 T1 hT t) (ms3 T0 T1 hT t) (hs3 T0 T1 hT t) (ms4 T0 T1 hT t) (hs4 T0 T1 hT t) (ms5 T0 T1 hT t) (hs5 T0 T1 hT t) T0 T1 (iblk T0 T1 hT m c (0 : Fin 6) t) (iblk T0 T1 hT m c (1 : Fin 6) t) (iblk T0 T1 hT m c (2 : Fin 6) t) (iblk T0 T1 hT m c (3 : Fin 6) t) (iblk T0 T1 hT m c (4 : Fin 6) t) hc hu hn' = R at e0 e1 e2
      obtain ⟨L, b0, b1, b2, h⟩ := R
      dsimp only at e0 e1 e2
      subst e0 e1 e2
      iapply (h a0 a1 a2 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexists _; iexact H5
      isplitl [HS0]; · iexact HS0
      isplitl [HS1]; · iexact HS1
      isplitl [HS2]; · iexact HS2
      iintro ⟨H0, H1, H2, H3, H4, HT0, HT1, ⟨%e5, H5⟩, HS0, HS1, HS2⟩
      isplitl [HS0 HS1 HS2 HT0 HT1]
      · isplitl [HS0]
        · iexists _; isplitr; swap
          · iexact HS0
          · ipureintro; intro _; exact (heldIn_succ T0 T1 hT m c t).symm
        isplitl [HS1]
        · iexists _; isplitr; swap
          · iexact HS1
          · ipureintro; intro _; exact (heldOut_succ T0 T1 hT m c t).symm
        isplitl [HS2]
        · iexists _; iexact HS2
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      unfold owns; iexists _; isplitr; swap
      · iexact H5
      · ipureintro; exact out_used T0 T1 hT m c t hu _ _ _ rfl
    · have hn' : Unused (F := F) (crd T0 T1 hT t) T1 := hn.2 hu
      iintro ⟨⟨⟨%a0, -, HS0⟩, ⟨%a1, -, HS1⟩, ⟨%a2, HS2⟩, HT0, HT1⟩, Ho, ⟨%d0, H0⟩, ⟨%d1, H1⟩, ⟨%d2, H2⟩, ⟨%d3, H3⟩, ⟨%d4, H4⟩, ⟨%d5, H5⟩⟩
      have e0 := runD_out c (crd T0 T1 hT t) (ms0 T0 T1 hT t) (hs0 T0 T1 hT t) (ms1 T0 T1 hT t) (hs1 T0 T1 hT t) (ms2 T0 T1 hT t) (hs2 T0 T1 hT t) (ms3 T0 T1 hT t) (hs3 T0 T1 hT t) (ms4 T0 T1 hT t) (hs4 T0 T1 hT t) (ms5 T0 T1 hT t) (hs5 T0 T1 hT t) T0 T1 (iblk T0 T1 hT m c (0 : Fin 6) t) (iblk T0 T1 hT m c (1 : Fin 6) t) (iblk T0 T1 hT m c (2 : Fin 6) t) (iblk T0 T1 hT m c (3 : Fin 6) t) (iblk T0 T1 hT m c (4 : Fin 6) t) a2 hc hu hn'
      have e1 := runD_in c (crd T0 T1 hT t) (ms0 T0 T1 hT t) (hs0 T0 T1 hT t) (ms1 T0 T1 hT t) (hs1 T0 T1 hT t) (ms2 T0 T1 hT t) (hs2 T0 T1 hT t) (ms3 T0 T1 hT t) (hs3 T0 T1 hT t) (ms4 T0 T1 hT t) (hs4 T0 T1 hT t) (ms5 T0 T1 hT t) (hs5 T0 T1 hT t) T0 T1 (iblk T0 T1 hT m c (0 : Fin 6) t) (iblk T0 T1 hT m c (1 : Fin 6) t) (iblk T0 T1 hT m c (2 : Fin 6) t) (iblk T0 T1 hT m c (3 : Fin 6) t) (iblk T0 T1 hT m c (4 : Fin 6) t) a2 hc hu hn'
      have e2 := runD_down c (crd T0 T1 hT t) (ms0 T0 T1 hT t) (hs0 T0 T1 hT t) (ms1 T0 T1 hT t) (hs1 T0 T1 hT t) (ms2 T0 T1 hT t) (hs2 T0 T1 hT t) (ms3 T0 T1 hT t) (hs3 T0 T1 hT t) (ms4 T0 T1 hT t) (hs4 T0 T1 hT t) (ms5 T0 T1 hT t) (hs5 T0 T1 hT t) T0 T1 (iblk T0 T1 hT m c (0 : Fin 6) t) (iblk T0 T1 hT m c (1 : Fin 6) t) (iblk T0 T1 hT m c (2 : Fin 6) t) (iblk T0 T1 hT m c (3 : Fin 6) t) (iblk T0 T1 hT m c (4 : Fin 6) t) a2 hc hu hn'
      generalize runD c (crd T0 T1 hT t) (ms0 T0 T1 hT t) (hs0 T0 T1 hT t) (ms1 T0 T1 hT t) (hs1 T0 T1 hT t) (ms2 T0 T1 hT t) (hs2 T0 T1 hT t) (ms3 T0 T1 hT t) (hs3 T0 T1 hT t) (ms4 T0 T1 hT t) (hs4 T0 T1 hT t) (ms5 T0 T1 hT t) (hs5 T0 T1 hT t) T0 T1 (iblk T0 T1 hT m c (0 : Fin 6) t) (iblk T0 T1 hT m c (1 : Fin 6) t) (iblk T0 T1 hT m c (2 : Fin 6) t) (iblk T0 T1 hT m c (3 : Fin 6) t) (iblk T0 T1 hT m c (4 : Fin 6) t) a2 hc hu hn' = R at e0 e1 e2
      obtain ⟨L, b0, b1, b2, h⟩ := R
      dsimp only at e0 e1 e2
      subst e0 e1 e2
      iapply (h a0 a1 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexists _; iexact H5
      isplitl [HS0]; · iexact HS0
      isplitl [HS1]; · iexact HS1
      isplitl [HS2]; · iexact HS2
      iintro ⟨H0, H1, H2, H3, H4, HT0, HT1, ⟨%e5, H5⟩, HS0, HS1, HS2⟩
      isplitl [HS0 HS1 HS2 HT0 HT1]
      · isplitl [HS0]
        · iexists _; isplitr; swap
          · iexact HS0
          · ipureintro; intro _; exact (heldIn_succ T0 T1 hT m c t).symm
        isplitl [HS1]
        · iexists _; isplitr; swap
          · iexact HS1
          · ipureintro; intro _; exact (heldOut_succ T0 T1 hT m c t).symm
        isplitl [HS2]
        · iexists _; iexact HS2
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      unfold owns; iexists _; isplitr; swap
      · iexact H5
      · ipureintro; exact out_unused T0 T1 hT m c t hu _ _ _ rfl
  · have h0 : t.castSucc.val ≠ 0 := ne_zero_of_not_casts T0 T1 hT t hc
    simp only [exists_held h0, heldIn_castSucc T0 T1 hT m c t hc, heldOut_castSucc T0 T1 hT m c t hc]
    by_cases hu : Used (F := F) (crd T0 T1 hT t) T1
    · have hn' : ¬ Unused (F := F) (crd T0 T1 hT t) T1 := fun h => hn.1 h hu
      iintro ⟨⟨HS0, HS1, ⟨%a2, HS2⟩, HT0, HT1⟩, Ho, ⟨%d0, H0⟩, ⟨%d1, H1⟩, ⟨%d2, H2⟩, ⟨%d3, H3⟩, ⟨%d4, H4⟩, ⟨%d5, H5⟩⟩
      have e0 := runB_out c (crd T0 T1 hT t) (ms0 T0 T1 hT t) (hs0 T0 T1 hT t) (ms1 T0 T1 hT t) (hs1 T0 T1 hT t) (ms2 T0 T1 hT t) (hs2 T0 T1 hT t) (ms3 T0 T1 hT t) (hs3 T0 T1 hT t) (ms4 T0 T1 hT t) (hs4 T0 T1 hT t) (ms5 T0 T1 hT t) (hs5 T0 T1 hT t) T0 T1 (iblk T0 T1 hT m c (0 : Fin 6) t) (iblk T0 T1 hT m c (1 : Fin 6) t) (iblk T0 T1 hT m c (2 : Fin 6) t) (iblk T0 T1 hT m c (3 : Fin 6) t) (iblk T0 T1 hT m c (4 : Fin 6) t) hc hu hn' (castIn (iblk T0 T1 hT m c (1 : Fin 6) t)) (castOut (iblk T0 T1 hT m c (3 : Fin 6) t))
      have e1 := runB_in c (crd T0 T1 hT t) (ms0 T0 T1 hT t) (hs0 T0 T1 hT t) (ms1 T0 T1 hT t) (hs1 T0 T1 hT t) (ms2 T0 T1 hT t) (hs2 T0 T1 hT t) (ms3 T0 T1 hT t) (hs3 T0 T1 hT t) (ms4 T0 T1 hT t) (hs4 T0 T1 hT t) (ms5 T0 T1 hT t) (hs5 T0 T1 hT t) T0 T1 (iblk T0 T1 hT m c (0 : Fin 6) t) (iblk T0 T1 hT m c (1 : Fin 6) t) (iblk T0 T1 hT m c (2 : Fin 6) t) (iblk T0 T1 hT m c (3 : Fin 6) t) (iblk T0 T1 hT m c (4 : Fin 6) t) hc hu hn' (scr0.view.rep (castIn (iblk T0 T1 hT m c (1 : Fin 6) t))) (scr1.view.rep (castOut (iblk T0 T1 hT m c (3 : Fin 6) t)))
      have e2 := runB_down c (crd T0 T1 hT t) (ms0 T0 T1 hT t) (hs0 T0 T1 hT t) (ms1 T0 T1 hT t) (hs1 T0 T1 hT t) (ms2 T0 T1 hT t) (hs2 T0 T1 hT t) (ms3 T0 T1 hT t) (hs3 T0 T1 hT t) (ms4 T0 T1 hT t) (hs4 T0 T1 hT t) (ms5 T0 T1 hT t) (hs5 T0 T1 hT t) T0 T1 (iblk T0 T1 hT m c (0 : Fin 6) t) (iblk T0 T1 hT m c (1 : Fin 6) t) (iblk T0 T1 hT m c (2 : Fin 6) t) (iblk T0 T1 hT m c (3 : Fin 6) t) (iblk T0 T1 hT m c (4 : Fin 6) t) hc hu hn' (scr0.view.rep (castIn (iblk T0 T1 hT m c (1 : Fin 6) t))) (scr1.view.rep (castOut (iblk T0 T1 hT m c (3 : Fin 6) t)))
      generalize runB c (crd T0 T1 hT t) (ms0 T0 T1 hT t) (hs0 T0 T1 hT t) (ms1 T0 T1 hT t) (hs1 T0 T1 hT t) (ms2 T0 T1 hT t) (hs2 T0 T1 hT t) (ms3 T0 T1 hT t) (hs3 T0 T1 hT t) (ms4 T0 T1 hT t) (hs4 T0 T1 hT t) (ms5 T0 T1 hT t) (hs5 T0 T1 hT t) T0 T1 (iblk T0 T1 hT m c (0 : Fin 6) t) (iblk T0 T1 hT m c (1 : Fin 6) t) (iblk T0 T1 hT m c (2 : Fin 6) t) (iblk T0 T1 hT m c (3 : Fin 6) t) (iblk T0 T1 hT m c (4 : Fin 6) t) (scr0.view.rep (castIn (iblk T0 T1 hT m c (1 : Fin 6) t))) (scr1.view.rep (castOut (iblk T0 T1 hT m c (3 : Fin 6) t))) hc hu hn' = R at e0 e1 e2
      obtain ⟨L, b0, b1, b2, h⟩ := R
      dsimp only at e0 e1 e2
      subst e0 e1 e2
      iapply (h a2 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexists _; iexact H5
      isplitl [HS0]; · iexact HS0
      isplitl [HS1]; · iexact HS1
      isplitl [HS2]; · iexact HS2
      iintro ⟨H0, H1, H2, H3, H4, HT0, HT1, ⟨%e5, H5⟩, HS0, HS1, HS2⟩
      isplitl [HS0 HS1 HS2 HT0 HT1]
      · isplitl [HS0]
        · iexists _; isplitr; swap
          · iexact HS0
          · ipureintro; intro _; exact (heldIn_succ T0 T1 hT m c t).symm
        isplitl [HS1]
        · iexists _; isplitr; swap
          · iexact HS1
          · ipureintro; intro _; exact (heldOut_succ T0 T1 hT m c t).symm
        isplitl [HS2]
        · iexists _; iexact HS2
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      unfold owns; iexists _; isplitr; swap
      · iexact H5
      · ipureintro; exact out_used T0 T1 hT m c t hu _ _ _ rfl
    · have hn' : Unused (F := F) (crd T0 T1 hT t) T1 := hn.2 hu
      iintro ⟨⟨HS0, HS1, ⟨%a2, HS2⟩, HT0, HT1⟩, Ho, ⟨%d0, H0⟩, ⟨%d1, H1⟩, ⟨%d2, H2⟩, ⟨%d3, H3⟩, ⟨%d4, H4⟩, ⟨%d5, H5⟩⟩
      have e0 := runC_out c (crd T0 T1 hT t) (ms0 T0 T1 hT t) (hs0 T0 T1 hT t) (ms1 T0 T1 hT t) (hs1 T0 T1 hT t) (ms2 T0 T1 hT t) (hs2 T0 T1 hT t) (ms3 T0 T1 hT t) (hs3 T0 T1 hT t) (ms4 T0 T1 hT t) (hs4 T0 T1 hT t) (ms5 T0 T1 hT t) (hs5 T0 T1 hT t) T0 T1 (iblk T0 T1 hT m c (0 : Fin 6) t) (iblk T0 T1 hT m c (1 : Fin 6) t) (iblk T0 T1 hT m c (2 : Fin 6) t) (iblk T0 T1 hT m c (3 : Fin 6) t) (iblk T0 T1 hT m c (4 : Fin 6) t) hc hu hn' (scr0.view.rep (castIn (iblk T0 T1 hT m c (1 : Fin 6) t))) (scr1.view.rep (castOut (iblk T0 T1 hT m c (3 : Fin 6) t))) a2
      have e1 := runC_in c (crd T0 T1 hT t) (ms0 T0 T1 hT t) (hs0 T0 T1 hT t) (ms1 T0 T1 hT t) (hs1 T0 T1 hT t) (ms2 T0 T1 hT t) (hs2 T0 T1 hT t) (ms3 T0 T1 hT t) (hs3 T0 T1 hT t) (ms4 T0 T1 hT t) (hs4 T0 T1 hT t) (ms5 T0 T1 hT t) (hs5 T0 T1 hT t) T0 T1 (iblk T0 T1 hT m c (0 : Fin 6) t) (iblk T0 T1 hT m c (1 : Fin 6) t) (iblk T0 T1 hT m c (2 : Fin 6) t) (iblk T0 T1 hT m c (3 : Fin 6) t) (iblk T0 T1 hT m c (4 : Fin 6) t) hc hu hn' (scr0.view.rep (castIn (iblk T0 T1 hT m c (1 : Fin 6) t))) (scr1.view.rep (castOut (iblk T0 T1 hT m c (3 : Fin 6) t))) a2
      have e2 := runC_down c (crd T0 T1 hT t) (ms0 T0 T1 hT t) (hs0 T0 T1 hT t) (ms1 T0 T1 hT t) (hs1 T0 T1 hT t) (ms2 T0 T1 hT t) (hs2 T0 T1 hT t) (ms3 T0 T1 hT t) (hs3 T0 T1 hT t) (ms4 T0 T1 hT t) (hs4 T0 T1 hT t) (ms5 T0 T1 hT t) (hs5 T0 T1 hT t) T0 T1 (iblk T0 T1 hT m c (0 : Fin 6) t) (iblk T0 T1 hT m c (1 : Fin 6) t) (iblk T0 T1 hT m c (2 : Fin 6) t) (iblk T0 T1 hT m c (3 : Fin 6) t) (iblk T0 T1 hT m c (4 : Fin 6) t) hc hu hn' (scr0.view.rep (castIn (iblk T0 T1 hT m c (1 : Fin 6) t))) (scr1.view.rep (castOut (iblk T0 T1 hT m c (3 : Fin 6) t))) a2
      generalize runC c (crd T0 T1 hT t) (ms0 T0 T1 hT t) (hs0 T0 T1 hT t) (ms1 T0 T1 hT t) (hs1 T0 T1 hT t) (ms2 T0 T1 hT t) (hs2 T0 T1 hT t) (ms3 T0 T1 hT t) (hs3 T0 T1 hT t) (ms4 T0 T1 hT t) (hs4 T0 T1 hT t) (ms5 T0 T1 hT t) (hs5 T0 T1 hT t) T0 T1 (iblk T0 T1 hT m c (0 : Fin 6) t) (iblk T0 T1 hT m c (1 : Fin 6) t) (iblk T0 T1 hT m c (2 : Fin 6) t) (iblk T0 T1 hT m c (3 : Fin 6) t) (iblk T0 T1 hT m c (4 : Fin 6) t) (scr0.view.rep (castIn (iblk T0 T1 hT m c (1 : Fin 6) t))) (scr1.view.rep (castOut (iblk T0 T1 hT m c (3 : Fin 6) t))) a2 hc hu hn' = R at e0 e1 e2
      obtain ⟨L, b0, b1, b2, h⟩ := R
      dsimp only at e0 e1 e2
      subst e0 e1 e2
      iapply (h _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexists _; iexact H5
      isplitl [HS0]; · iexact HS0
      isplitl [HS1]; · iexact HS1
      isplitl [HS2]; · iexact HS2
      iintro ⟨H0, H1, H2, H3, H4, HT0, HT1, ⟨%e5, H5⟩, HS0, HS1, HS2⟩
      isplitl [HS0 HS1 HS2 HT0 HT1]
      · isplitl [HS0]
        · iexists _; isplitr; swap
          · iexact HS0
          · ipureintro; intro _; exact (heldIn_succ T0 T1 hT m c t).symm
        isplitl [HS1]
        · iexists _; isplitr; swap
          · iexact HS1
          · ipureintro; intro _; exact (heldOut_succ T0 T1 hT m c t).symm
        isplitl [HS2]
        · iexists _; iexact HS2
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      unfold owns; iexists _; isplitr; swap
      · iexact H5
      · ipureintro; exact out_unused T0 T1 hT m c t hu _ _ _ rfl

end Cert.Kernel2Ideal.Routed

end
-- ==== Proof.RoutedFrame.lean ====
/- The routed experts' launch, and its run. -/
module

public import proofs.«01_k».proof.Proof.RoutedBody
public import proofs.«01_k».proof.Proof.Gen.Kernel2Ideal.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Pipeline.ValueKit
public import Idealize.ShloMosaic.Lib.Writes
public import Idealize.ShloMosaic.Lib.Ring
public import Idealize.ShloMosaic.Lib.Exec
public import Idealize.ShloMosaic.Lib.Tactic
public import Idealize.ShloMosaic.Adequacy
public import Idealize.ShloMosaic.Init

@[expose] public section

set_option maxRecDepth 16384
set_option Elab.async false

noncomputable section

namespace Cert.Kernel2Ideal.Routed

open Cert.Kernel2Ideal Cert.Kernel2Ideal.Gen
open Idealize.ShloMosaic hiding ix1 ix2 ix3 ix4 ix5
open Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (T0 : S544.Idx → Elt F .i32) (T1 : S33.Idx → Elt F .i32) (hT : InRange T0 T1)
variable (m : (ℓ : Loc nD τ sig) → Buf (Elt F) ℓ) (ρ : Dev nD → PrngReg)

theorem body_obligation (c : Dev nD) : BodyObligation (dats T0 T1 hT m 0 c) (defs₀ (F := F)) Variants.none () Set.univ := fun t => by
  rw [bigSep_W0]
  exact sound_body T0 T1 hT m c t

/-! ## The launch -/

def u₀ : UR sig nD τ :=
  initOf (Pipeline.cells (pcs T0 T1 hT) ((launch0 (F := F)).cellOf_inj fun _ => adm T0 T1 hT))
    (Pipeline.launchToks (pcs T0 T1 hT) ((launch0 (F := F)).cellOf_inj fun _ => adm T0 T1 hT))

theorem share_eq (c : Dev nD) (w : Fin (cfgA T0 T1 hT).W) : (dats T0 T1 hT m 0 c).share w = fullShare := by unfold Dat.share; split <;> rfl

theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point, from the tables and the scratch buffers; -/
theorem phi_intro (c : Dev nD) :
    iprop(BI.emp ∗ Pipeline.prefHeld pre0 c (fun _ => fullShare.right) (adm T0 T1 hT).1 ∗ Pipeline.scopedRest spec0 c) ⊢ (dats T0 T1 hT m 0 c).Φ 0 := by
  rw [prefHeld_eq, scopedRest0_eq, show (dats T0 T1 hT m 0 c).Φ 0 = Phi T0 T1 hT m c 0 from rfl]
  unfold Phi
  iintro ⟨-, ⟨HT0, HT1⟩, ⟨%a0, HS0⟩, ⟨%a1, HS1⟩, ⟨%a2, HS2⟩⟩
  isplitl [HS0]
  · iexists a0; isplitr; swap
    · iexact HS0
    · ipureintro; intro h; exact absurd rfl h
  isplitl [HS1]
  · iexists a1; isplitr; swap
    · iexact HS1
    · ipureintro; intro h; exact absurd rfl h
  isplitl [HS2]
  · iexists a2; iexact HS2
  isplitl [HT0]
  · iexact HT0
  iexact HT1

/-- and the scratch buffers back at the last. -/
theorem phi_exit (c : Dev nD) : (dats T0 T1 hT m 0 c).Φ (Fin.last (cfgA T0 T1 hT).N) ⊢ iprop(BI.emp ∗ Pipeline.scopedRest spec0 c) := by
  rw [scopedRest0_eq, show (dats T0 T1 hT m 0 c).Φ (Fin.last (cfgA T0 T1 hT).N) = Phi T0 T1 hT m c (Fin.last _) from rfl]
  unfold Phi
  iintro ⟨⟨%a0, -, HS0⟩, ⟨%a1, -, HS1⟩, ⟨%a2, HS2⟩, -, -⟩
  isplitr; · iempintro
  isplitl [HS0]
  · iexists a0; iexact HS0
  isplitl [HS1]
  · iexists a1; iexact HS1
  iexists a2; iexact HS2

/-- Every array at what the pipeline computes, every table as it was. -/
def QC : PUnit × MemSt nD τ sig (Elt F) → Prop := fun r =>
  ∀ c : Dev nD, (∀ w : Fin (cfgA T0 T1 hT).W, r.2.mem (((cfgA T0 T1 hT).win w).arr.view.loc (c : Thread nD τ)) = (dats T0 T1 hT m 0 c).arrAt w (cfgA T0 T1 hT).N)
    ∧ ∀ j, r.2.mem ((c : Thread nD τ).loc (pre0.ref j)) = (adm T0 T1 hT).1 j

theorem V_pre (hp : Pinned T0 T1 m) (c : Dev nD) (j : Fin 2) : m ((c : Thread nD τ).loc (pre0.ref j)) = (adm T0 T1 hT).1 j := by
  fin_cases j
  · exact hp.1 c
  · exact hp.2 c

set_option backward.isDefEq.respectTransparency.types false in
set_option maxHeartbeats 4000000 in
/-- From any memory with these tables and zero counters every weakly fair execution terminates, each array ends as the
    pipeline computes it, and every counter ends at zero. -/
theorem run_main_quiescent (hp : Pinned T0 T1 m) :
    θ_run (defs (F := F)) (onTc (τ := τ) (main (F := F))) ⟨m, fun _ => 0, ρ⟩ (fun r => QC T0 T1 hT m r ∧ r.2.sem = fun _ => 0) :=
  Pipeline.θ_run_region_noSem_pf_quiescent pcfgs (fun _ => adm T0 T1 hT) (dats T0 T1 hT m) () ((launch0 (F := F)).cellOf_inj fun _ => adm T0 T1 hT) (0 : Fin 1)
    (launch0 (F := F)).win.to₀ (launch0 (F := F)).pre EP defs₀ Variants.none m ρ main
    (hbody := fun c => (body_obligation T0 T1 hT m c).loose) (hne := (launch0 (F := F)).block_pos)
    (harr := (launch0 (F := F)).arr_whole) (hstage := (launch0 (F := F)).stage_whole) (howed := fun _ _ => rfl)
    (u₀ := u₀ T0 T1 hT) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs T0 T1 hT) (dats T0 T1 hT m) 0 (launch0 (F := F)).win.arr_inj c (launch0 (F := F)).arr_whole
      (share_eq T0 T1 hT m c) _ _ fun _ => rfl)
    (hpf := V_pre T0 T1 hT m hp)
    (X := fun _ => iprop(emp)) (Y := fun _ => iprop(emp)) (Z := fun _ => iprop(emp))
    (hX := fun c => by rw [unscopedRestP0_eq]; iintro -; isplitr <;> iempintro)
    (hin := phi_intro T0 T1 hT m)
    (hout := phi_exit T0 T1 hT m)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The run, with the result array's contents: the arguments end unchanged. -/
theorem run (hp : Pinned T0 T1 m) :
    θ_run (defs (F := F)) (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.mem ((c.tc : Thread nD τ).loc main_v0) = (dats T0 T1 hT m 0 c).arrAt (5 : Fin 6) (cfgA T0 T1 hT).N) ∧ r.2.sem = fun _ => 0) :=
  (θ_run defs _ _).mono (fun _ h => ⟨fun c => ⟨⟨((h.1 c).2 0).trans (hp.1 c).symm, ((h.1 c).2 1).trans (hp.2 c).symm,
    ((h.1 c).1 (0 : Fin 6)).trans ((dats T0 T1 hT m 0 c).arrAt_in (0 : Fin 6) rfl _), ((h.1 c).1 (1 : Fin 6)).trans ((dats T0 T1 hT m 0 c).arrAt_in (1 : Fin 6) rfl _),
    ((h.1 c).1 (2 : Fin 6)).trans ((dats T0 T1 hT m 0 c).arrAt_in (2 : Fin 6) rfl _), ((h.1 c).1 (3 : Fin 6)).trans ((dats T0 T1 hT m 0 c).arrAt_in (3 : Fin 6) rfl _),
    ((h.1 c).1 (4 : Fin 6)).trans ((dats T0 T1 hT m 0 c).arrAt_in (4 : Fin 6) rfl _)⟩, (h.1 c).1 (5 : Fin 6)⟩, h.2⟩) (run_main_quiescent T0 T1 hT m ρ hp)

end Cert.Kernel2Ideal.Routed

end
-- ==== Proof.RoutedOut.lean ====
/- The routed experts as a function of their arrays, on the extended reals: a block of 256 rows goes through its expert's
   first layer, the clamped gated unit and the second layer; blocks that are not in use are zero. -/
module

public import Idealize.ShloMosaic.Lib.ValueIdx
public import Idealize.ShloMosaic.Lib.IdealHost

@[expose] public section

set_option maxRecDepth 16384

noncomputable section

namespace Cert.Experts

open Idealize.ShloMosaic
open Idealize.ShloMosaic.ValueIdx

abbrev SRows : Shape := ⟨2, ![1114112, 128]⟩
abbrev SBlocks : Shape := ⟨1, ![544]⟩
abbrev SMeta : Shape := ⟨1, ![33]⟩
abbrev SIn : Shape := ⟨4, ![2, 32, 1024, 2048]⟩
abbrev SInBias : Shape := ⟨4, ![2, 32, 1, 2048]⟩
abbrev SOut : Shape := ⟨4, ![2, 32, 1024, 1024]⟩
abbrev SOutBias : Shape := ⟨4, ![2, 32, 1, 1024]⟩

abbrev seven : EReal := Ideal.ofBits .f32 0x40E00000#32
abbrev minusSeven : EReal := Ideal.ofBits .f32 0xC0E00000#32
abbrev one : EReal := Ideal.ofBits .f32 0x3F800000#32
abbrev slope : EReal := Ideal.ofBits .f32 0x3FD9DB23#32

/-- The kernel's slope is the reference's, negated. -/
theorem minusSlope : Ideal.ofBits .f32 0xBFD9DB23#32 = - slope := by
  simp [slope, Ideal.ofBits, Ideal.ieee, -EReal.coe_mul]

/-- The clamped gated unit: (up + 1) · gate · sigmoid(1.702 · gate). -/
def unit (g u : EReal) : EReal :=
  (min seven (max minusSeven u) + one) * (min g seven * Ideal.div one (one + Ideal.exp (-(slope * min g seven))))

/-- Number k of row r of block b: the rows' array holds each row of 1024 as eight rows of 128. -/
def tok (b : Fin 544) (r : Fin 256) (k : Fin 1024) : SRows.Idx :=
  ix2 ⟨2048 * b.val + (8 * r.val + k.val / 128), by omega⟩ ⟨k.val % 128, by omega⟩

/-- The expert of a block. -/
def expertAt (T0 : IVec SBlocks 32) (b : Fin 544) : Fin 32 := ⟨(T0 (ix1 b)).toNat % 32, Nat.mod_lt _ (by decide)⟩

/-- The first layer's number f at row r of block b. -/
def lin (xs : SRows.Idx → EReal) (wg : SIn.Idx → EReal) (bg : SInBias.Idx → EReal) (e : Fin 32) (b : Fin 544) (r : Fin 256) (f : Fin 2048) :
    EReal := ∑ k : Fin 1024, xs (tok b r k) * wg (ix4 (0 : Fin 2) e k f) + bg (ix4 (0 : Fin 2) e (0 : Fin 1) f)

/-- The hidden number f. -/
def act (xs : SRows.Idx → EReal) (wg : SIn.Idx → EReal) (bg : SInBias.Idx → EReal) (e : Fin 32) (b : Fin 544) (r : Fin 256) (f : Fin 1024) :
    EReal := unit (lin xs wg bg e b r ⟨f.val, by omega⟩) (lin xs wg bg e b r ⟨1024 + f.val, by omega⟩)

/-- The second layer's number d. -/
def ys (xs : SRows.Idx → EReal) (wg : SIn.Idx → EReal) (bg : SInBias.Idx → EReal) (wd : SOut.Idx → EReal) (bd : SOutBias.Idx → EReal)
    (e : Fin 32) (b : Fin 544) (r : Fin 256) (d : Fin 1024) : EReal :=
  ∑ f : Fin 1024, act xs wg bg e b r f * wd (ix4 (0 : Fin 2) e f d) + bd (ix4 (0 : Fin 2) e (0 : Fin 1) d)

/-- The result's number d at row r of block b. -/
def outAt (T0 : IVec SBlocks 32) (T1 : IVec SMeta 32) (xs : SRows.Idx → EReal) (wg : SIn.Idx → EReal) (bg : SInBias.Idx → EReal)
    (wd : SOut.Idx → EReal) (bd : SOutBias.Idx → EReal) (b : Fin 544) (r : Fin 256) (d : Fin 1024) : EReal :=
  if b.val < (T1 (ix1 (32 : Fin 33))).toNat then ys xs wg bg wd bd (expertAt T0 b) b r d else Ideal.ofBits .f32 0x00000000#32

/-- THE RESULT, in the kernel's layout. -/
def out (T0 : IVec SBlocks 32) (T1 : IVec SMeta 32) (xs : SRows.Idx → EReal) (wg : SIn.Idx → EReal) (bg : SInBias.Idx → EReal)
    (wd : SOut.Idx → EReal) (bd : SOutBias.Idx → EReal) : SRows.Idx → EReal := fun i =>
  outAt T0 T1 xs wg bg wd bd ⟨(i 0).val / 2048, by have : (i 0).val < 1114112 := (i 0).isLt; omega⟩
    ⟨(i 0).val / 8 % 256, by omega⟩ ⟨(i 0).val % 8 * 128 + (i 1).val, by have : (i 1).val < 128 := (i 1).isLt; omega⟩

end Cert.Experts

end
-- ==== Proof.RoutedRead.lean ====
/- The routed experts' body read at an index, at the ideal values. -/
module

public import proofs.«01_k».proof.Proof.RoutedBlock
public import proofs.«01_k».proof.Proof.RoutedOut
public import Idealize.ShloMosaic.Lib.MatmulPlain
public import Idealize.ShloMosaic.Lib.ValueLayout
public import Idealize.ShloMosaic.Lib.Pipeline.Value

@[expose] public section

set_option maxRecDepth 16384

noncomputable section

namespace Cert.Kernel2Ideal.Routed

open Cert.Kernel2Ideal Cert.Kernel2Ideal.Gen Cert.Experts
open Idealize.ShloMosaic hiding ix1 ix2 ix3 ix4 ix5
open Idealize.ShloMosaic.TcCoe Idealize.ShloMosaic.ValueIdx

/-! ## The casts and the rows -/

theorem castIn_apply (x1 : S1x1x1024x2048.Idx → Elt Ideal .f32) (k : Fin 1024) (f : Fin 2048) :
    castIn x1 (ix2 k f) = x1 (ix4 (0 : Fin 1) (0 : Fin 1) k f) := by
  unfold castIn k0_pay1
  rw [shapeCast_self]
  show (shapeCast S1024x2048 x1 shapeCasts_S1x1x1024x2048_S1024x2048 (ix2 k f) : EReal) = _
  refine shapeCast_apply _ _ _ _ ?_
  refine (rowMajor_val4 _ (1 * 1024 * 2048) (1024 * 2048) 2048 rfl rfl rfl).trans (Eq.trans ?_ (rowMajor_val2 _ 2048 rfl).symm)
  show 0 * (1 * 1024 * 2048) + 0 * (1024 * 2048) + k.val * 2048 + f.val = k.val * 2048 + f.val
  omega

theorem castOut_apply (x3 : S1x1x1024x1024.Idx → Elt Ideal .f32) (k : Fin 1024) (f : Fin 1024) :
    castOut x3 (ix2 k f) = x3 (ix4 (0 : Fin 1) (0 : Fin 1) k f) := by
  unfold castOut k0_pay2
  rw [shapeCast_self]
  show (shapeCast S1024x1024 x3 shapeCasts_S1x1x1024x1024_S1024x1024 (ix2 k f) : EReal) = _
  refine shapeCast_apply _ _ _ _ ?_
  refine (rowMajor_val4 _ (1 * 1024 * 1024) (1024 * 1024) 1024 rfl rfl rfl).trans (Eq.trans ?_ (rowMajor_val2 _ 1024 rfl).symm)
  show 0 * (1 * 1024 * 1024) + 0 * (1024 * 1024) + k.val * 1024 + f.val = k.val * 1024 + f.val
  omega

/-- Lane group s of a block: its rows s, s + 8, s + 16, … -/
def group (x0 : S2048x128.Idx → Elt Ideal .f32) (s : Fin 8) : S256x128.Idx → Elt Ideal .f32 := fun y =>
  x0 (ix2 ⟨8 * (y 0).val + s.val, by have : (y 0).val < 256 := (y 0).isLt; omega⟩ (y 1))

theorem group_eq (x0 : S2048x128.Idx → Elt Ideal .f32) (s : Fin 8) (inb) :
    (fun y => x0 ((⟨![s.val, 0], S256x128.size, ![8, 1], inb⟩ : LoadRect S2048x128).idx y)) = group x0 s := by
  funext y
  refine congrArg x0 (funext fun a => Fin.ext ?_)
  match a with
  | ⟨0, _⟩ => show s.val + 8 * (y 0).val = 8 * (y 0).val + s.val; omega
  | ⟨1, _⟩ => show 0 + 1 * (y 1).val = (y 1).val; omega

theorem tokens_eq (x0 : S2048x128.Idx → Elt Ideal .f32) :
    tokens x0 = k0_pay4 (group x0 0) (group x0 1) (group x0 2) (group x0 3) (group x0 4) (group x0 5) (group x0 6) (group x0 7) := by
  unfold tokens
  exact congr (congr (congr (congr (congr (congr (congr (congrArg k0_pay4 (group_eq x0 0 _)) (group_eq x0 1 _)) (group_eq x0 2 _))
    (group_eq x0 3 _)) (group_eq x0 4 _)) (group_eq x0 5 _)) (group_eq x0 6 _)) (group_eq x0 7 _)

theorem tokens_apply (x0 : S2048x128.Idx → Elt Ideal .f32) (r : Fin 256) (k : Fin 1024) :
    tokens x0 (ix2 r k) = x0 (ix2 ⟨8 * r.val + k.val / 128, by omega⟩ ⟨k.val % 128, by omega⟩) := by
  rw [tokens_eq]
  unfold k0_pay4
  show (concatenate S256x1024 1 (List.ofFn fun n : Fin 8 => (⟨S256x128, group x0 n⟩ : (s : Shape) × (s.Idx → Elt Ideal .f32))) concatenates_S256x128_S256x128_S256x128_S256x128_S256x128_S256x128_S256x128_S256x128_S256x1024_d1 (ix2 r k) : EReal) = _
  refine (concatenate_ofFn_apply (t := S256x1024) (s₁ := S256x128) 1 (fun n : Fin 8 => group x0 n)
    concatenates_S256x128_S256x128_S256x128_S256x128_S256x128_S256x128_S256x128_S256x128_S256x1024_d1 rfl 128 rfl (ix2 r k)
    ⟨k.val / 128, by omega⟩ rfl (ix2 r ⟨k.val % 128, by omega⟩) rfl fun b hb => ?_).trans rfl
  match b with
  | ⟨0, _⟩ => rfl
  | ⟨1, _⟩ => exact absurd rfl hb

/-! ## A layer's column chunk -/

theorem dense_apply (x : S256x1024.Idx → Elt Ideal .bf16) (w : S1024x256.Idx → Elt Ideal .bf16) (b : S1x1x1x256.Idx → Elt Ideal .f32)
    (r : Fin 256) (f : Fin 256) :
    dense x w b (ix2 r f) = ∑ k : Fin 1024, x (ix2 r k) * w (ix2 k f) + b (ix4 (0 : Fin 1) (0 : Fin 1) (0 : Fin 1) f) := by
  unfold dense
  refine (addf_apply _ _ _).trans ?_
  refine congrArg₂ (fun a c : EReal => a + c) ?_ ?_
  · simp only [matmul]
    refine (Ideal.matmul_plain_apply _ x w _ r f).trans ?_
    show Ideal.ofBits .f32 0x00000000#32 + _ = _
    rw [Ideal.ofBits_zero_f32, zero_add]
  · refine (broadcastTo_1b_ab_apply _ _ r f).trans (shapeCast_apply _ _ _ _ ?_)
    refine (rowMajor_val4 _ 256 256 256 rfl rfl rfl).trans (Eq.trans ?_ (rowMajor_val2 _ 256 rfl).symm)
    show 0 * 256 + 0 * 256 + 0 * 256 + f.val = 0 * 256 + f.val
    omega

theorem gated_apply (g u : FVec Ideal S256x256 .f32) (j : S256x256.Idx) : (gated (F := Ideal) g u j : EReal) = unit (g j) (u j) := by
  unfold gated k0_pay8 k0_pay7 unit
  rw [shapeCast_self, ← EReal.neg_mul, ← minusSlope]
  rfl

/-! ## The hidden values -/

/-- A layer's number at row r and column f. -/
def layer {N : ℕ} (x : S256x1024.Idx → EReal) (w : (⟨2, ![1024, N]⟩ : Shape).Idx → EReal) (b : (⟨4, ![1, 1, 1, N]⟩ : Shape).Idx → EReal)
    (r : Fin 256) (f : Fin N) : EReal :=
  ∑ k : Fin 1024, x (ix2 r k) * w (ix2 k f) + b (ix4 (0 : Fin 1) (0 : Fin 1) (0 : Fin 1) f)

theorem dense_in (x : S256x1024.Idx → Elt Ideal .bf16) (w : S1024x2048.Idx → Elt Ideal .bf16) (b : S1x1x1x2048.Idx → Elt Ideal .f32)
    (o : ℕ) (h h') (r f : Fin 256) (F : Fin 2048) (hF : F.val = o + f.val) :
    dense x (inCols w o h) (inBias b o h') (ix2 r f) = layer x w b r F := by
  rw [dense_apply]
  unfold layer
  refine congrArg₂ (fun a c : EReal => a + c) (Finset.sum_congr rfl fun k _ => congrArg (fun z => x (ix2 r k) * w z) ?_) (congrArg b ?_)
  · funext a; apply Fin.ext
    match a with
    | ⟨0, _⟩ => show 0 + 1 * k.val = k.val; omega
    | ⟨1, _⟩ => show o + 1 * f.val = F.val; omega
  · funext a; apply Fin.ext
    match a with
    | ⟨0, _⟩ => rfl
    | ⟨1, _⟩ => rfl
    | ⟨2, _⟩ => rfl
    | ⟨3, _⟩ => show o + 1 * f.val = F.val; omega

theorem dense_out (x : S256x1024.Idx → Elt Ideal .bf16) (w : S1024x1024.Idx → Elt Ideal .bf16) (b : S1x1x1x1024.Idx → Elt Ideal .f32)
    (o : ℕ) (h h') (r f : Fin 256) (F : Fin 1024) (hF : F.val = o + f.val) :
    dense x (outCols w o h) (outBias b o h') (ix2 r f) = layer x w b r F := by
  rw [dense_apply]
  unfold layer
  refine congrArg₂ (fun a c : EReal => a + c) (Finset.sum_congr rfl fun k _ => congrArg (fun z => x (ix2 r k) * w z) ?_) (congrArg b ?_)
  · funext a; apply Fin.ext
    match a with
    | ⟨0, _⟩ => show 0 + 1 * k.val = k.val; omega
    | ⟨1, _⟩ => show o + 1 * f.val = F.val; omega
  · funext a; apply Fin.ext
    match a with
    | ⟨0, _⟩ => rfl
    | ⟨1, _⟩ => rfl
    | ⟨2, _⟩ => rfl
    | ⟨3, _⟩ => show o + 1 * f.val = F.val; omega

/-- The hidden value at row r and column f. -/
def hid (x : S256x1024.Idx → EReal) (w : S1024x2048.Idx → EReal) (b : S1x1x1x2048.Idx → EReal) (r : Fin 256) (f : Fin 1024) : EReal :=
  unit (layer (N := 2048) x w b r ⟨f.val, by omega⟩) (layer (N := 2048) x w b r ⟨1024 + f.val, by omega⟩)

theorem hid_piece (x : S256x1024.Idx → Elt Ideal .bf16) (w : S1024x2048.Idx → Elt Ideal .bf16) (b : S1x1x1x2048.Idx → Elt Ideal .f32)
    (o : ℕ) (ho : o + 256 ≤ 1024) (o' : ℕ) (ho' : o' = 1024 + o) (h h' h2 h2') (inb : ∀ a, (![0, o] : Fin 2 → ℕ) a + S256x256.size a ≤ S256x1024.size a) (y : S256x256.Idx) :
    gated (dense x (inCols w o h) (inBias b o h')) (dense x (inCols w o' h2) (inBias b o' h2')) y
      = hid x w b ((Rect.unit (s := S256x1024) ![0, o] S256x256.size inb).emb y 0) ((Rect.unit (s := S256x1024) ![0, o] S256x256.size inb).emb y 1) := by
  subst ho'
  have h1 : (y 1).val < 256 := (y 1).isLt
  have e1 : ((Rect.unit (s := S256x1024) ![0, o] S256x256.size inb).emb y 1).val = o + (y 1).val := by
    show o + 1 * (y 1).val = _; omega
  have e0 : (Rect.unit (s := S256x1024) ![0, o] S256x256.size inb).emb y 0 = y 0 := by
    apply Fin.ext; show 0 + 1 * (y 0).val = _; omega
  rw [gated_apply, e0]
  unfold hid
  refine congrArg₂ unit ?_ ?_
  · exact (congrArg _ (ValueIdx.eq_ix2 y)).trans (dense_in x w b o h h' (y 0) (y 1) _ e1)
  · exact (congrArg _ (ValueIdx.eq_ix2 y)).trans (dense_in x w b (1024 + o) h2 h2' (y 0) (y 1) _ (by show 1024 + _ = _; rw [e1]; omega))

theorem mem_cols (o : ℕ) (inb : ∀ a, (![0, o] : Fin 2 → ℕ) a + S256x256.size a ≤ S256x1024.size a) (y : S256x1024.Idx)
    (h0 : o ≤ (y 1).val) (h1 : (y 1).val < o + 256) : y ∈ (Rect.unit (s := S256x1024) ![0, o] S256x256.size inb).set := by
  show y ∈ (Rect.unit (s := S256x1024) ![0, o] S256x256.size inb).toLoadRect.set
  rw [LoadRect.mem_set]
  have hy : (y 0).val < 256 := (y 0).isLt
  intro a
  match a with
  | ⟨0, _⟩ => exact ⟨(y 0).val, show (y 0).val < 256 by omega, show (y 0).val = 0 + 1 * (y 0).val by omega⟩
  | ⟨1, _⟩ => exact ⟨(y 1).val - o, show (y 1).val - o < 256 by omega, show (y 1).val = o + 1 * ((y 1).val - o) by omega⟩

theorem hidden_apply (x : S256x1024.Idx → Elt Ideal .bf16) (w : S1024x2048.Idx → Elt Ideal .bf16) (b : S1x1x1x2048.Idx → Elt Ideal .f32)
    (r : Fin 256) (f : Fin 1024) : hidden x w b (ix2 r f) = hid x w b r f := by
  unfold hidden
  have e : (Rect.unit (s := S256x1024) ![0, 0] S256x1024.size inb_S256x1024_S256x1024_0_0).toLoadRect.idx (ix2 r f) = (ix2 r f : S256x1024.Idx) := by
    funext a; apply Fin.ext
    match a with
    | ⟨0, _⟩ => show 0 + 1 * r.val = r.val; omega
    | ⟨1, _⟩ => show 0 + 1 * f.val = f.val; omega
  rw [e]
  refine (View.canon_apply_of_pieces (fun j : S256x1024.Idx => (hid x w b (j 0) (j 1) : Elt Ideal .bf16)) (hiddenPieces x w b) ?_ (ix2 r f) ?_).trans rfl
  · intro p hp
    unfold hiddenPieces at hp
    rcases List.mem_cons.mp hp with rfl | hp
    · exact fun y => hid_piece x w b 768 (by decide) 1792 rfl inb_S1024x2048_S1024x256_0_768 inb_S1x1x1x2048_S1x1x1x256_0_0_0_768
        inb_S1024x2048_S1024x256_0_1792 inb_S1x1x1x2048_S1x1x1x256_0_0_0_1792 inb_S256x1024_S256x256_0_768 y
    rcases List.mem_cons.mp hp with rfl | hp
    · exact fun y => hid_piece x w b 512 (by decide) 1536 rfl inb_S1024x2048_S1024x256_0_512 inb_S1x1x1x2048_S1x1x1x256_0_0_0_512
        inb_S1024x2048_S1024x256_0_1536 inb_S1x1x1x2048_S1x1x1x256_0_0_0_1536 inb_S256x1024_S256x256_0_512 y
    rcases List.mem_cons.mp hp with rfl | hp
    · exact fun y => hid_piece x w b 256 (by decide) 1280 rfl inb_S1024x2048_S1024x256_0_256 inb_S1x1x1x2048_S1x1x1x256_0_0_0_256
        inb_S1024x2048_S1024x256_0_1280 inb_S1x1x1x2048_S1x1x1x256_0_0_0_1280 inb_S256x1024_S256x256_0_256 y
    rcases List.mem_cons.mp hp with rfl | hp
    · exact fun y => hid_piece x w b 0 (by decide) 1024 rfl inb_S1024x2048_S1024x256_0_0 inb_S1x1x1x2048_S1x1x1x256_0_0_0_0
        inb_S1024x2048_S1024x256_0_1024 inb_S1x1x1x2048_S1x1x1x256_0_0_0_1024 inb_S256x1024_S256x256_0_0 y
    · exact absurd hp List.not_mem_nil
  · have hf : f.val < 1024 := f.isLt
    unfold hiddenPieces
    by_cases h3 : 768 ≤ f.val
    · exact ⟨_, .head _, mem_cols 768 inb_S256x1024_S256x256_0_768 (ix2 r f) h3 (by show f.val < _; omega)⟩
    by_cases h2 : 512 ≤ f.val
    · exact ⟨_, .tail _ (.head _), mem_cols 512 inb_S256x1024_S256x256_0_512 (ix2 r f) h2 (by show f.val < _; omega)⟩
    by_cases h1 : 256 ≤ f.val
    · exact ⟨_, .tail _ (.tail _ (.head _)), mem_cols 256 inb_S256x1024_S256x256_0_256 (ix2 r f) h1 (by show f.val < _; omega)⟩
    · exact ⟨_, .tail _ (.tail _ (.tail _ (.head _))), mem_cols 0 inb_S256x1024_S256x256_0_0 (ix2 r f) (Nat.zero_le _) (by show f.val < _; omega)⟩

/-! ## The output block -/

/-- The output block's entry: row y₀ / 8's number 128 · (y₀ mod 8) + y₁. -/
def entry (h : S256x1024.Idx → EReal) (w : S1024x1024.Idx → EReal) (b : S1x1x1x1024.Idx → EReal) (y : S2048x128.Idx) : EReal :=
  layer (N := 1024) h w b ⟨(y 0).val / 8, by have : (y 0).val < 2048 := (y 0).isLt; omega⟩
    ⟨128 * ((y 0).val % 8) + (y 1).val, by have : (y 1).val < 128 := (y 1).isLt; omega⟩

theorem entry_piece (h : S256x1024.Idx → Elt Ideal .bf16) (w : S1024x1024.Idx → Elt Ideal .bf16) (b : S1x1x1x1024.Idx → Elt Ideal .f32)
    (s : ℕ) (hs : s < 8) (o q : ℕ) (ho : o + q = 128 * s) (hq : q + 128 ≤ 256) (h1 h2) (hsl : S256x256.Slices ![0, q] S256x128) (inb) (hp) (y : S256x128.Idx) :
    extractStridedSlice S256x128 ![0, q] (dense h (outCols w o h1) (outBias b o h2)) hsl y
      = entry h w b ((⟨(⟨![s, 0], S256x128.size, ![8, 1], inb⟩ : LoadRect S2048x128), hp⟩ : Rect S2048x128).emb y) := by
  have hy0 : (y 0).val < 256 := (y 0).isLt
  have hy1 : (y 1).val < 128 := (y 1).isLt
  refine (extractStridedSlice_apply _ _ _ y (ix2 (y 0) ⟨q + (y 1).val, by omega⟩ : S256x256.Idx) fun a => ?_).trans ?_
  · match a with
    | ⟨0, _⟩ => exact (Nat.zero_add _).symm
    | ⟨1, _⟩ => rfl
  · have e0 : ((⟨(⟨![s, 0], S256x128.size, ![8, 1], inb⟩ : LoadRect S2048x128), hp⟩ : Rect S2048x128).emb y 0).val = s + 8 * (y 0).val := rfl
    have e1 : ((⟨(⟨![s, 0], S256x128.size, ![8, 1], inb⟩ : LoadRect S2048x128), hp⟩ : Rect S2048x128).emb y 1).val = 0 + 1 * (y 1).val := rfl
    unfold entry
    refine (dense_out h w b o h1 h2 (y 0) ⟨q + (y 1).val, by omega⟩
      ⟨128 * s + (y 1).val, by omega⟩ (by show 128 * s + (y 1).val = o + (q + (y 1).val); omega)).trans ?_
    refine congrArg₂ (layer (N := 1024) h w b) (Fin.ext ?_) (Fin.ext ?_)
    · show (y 0).val = _ / 8; rw [e0]; omega
    · show 128 * s + (y 1).val = 128 * (_ % 8) + _; rw [e0, e1]; omega

theorem outBlock_apply (x0 : S2048x128.Idx → Elt Ideal .f32) (w0 : S1024x2048.Idx → Elt Ideal .bf16) (x2 : S1x1x1x2048.Idx → Elt Ideal .f32)
    (w1 : S1024x1024.Idx → Elt Ideal .bf16) (x4 : S1x1x1x1024.Idx → Elt Ideal .f32) (y : S2048x128.Idx) :
    outBlock x0 w0 x2 w1 x4 y = entry (hidden (tokens x0) w0 x2) w1 x4 y := by
  unfold outBlock
  generalize hidden (tokens x0) w0 x2 = h
  refine View.canon_apply_of_pieces (fun j : S2048x128.Idx => (entry h w1 x4 j : Elt Ideal .f32)) (outPieces h w1 x4) ?_ y (outPieces_cover h w1 x4 y)
  intro p hp
  unfold outPieces at hp
  rcases List.mem_cons.mp hp with rfl | hp
  · exact fun y => entry_piece h w1 x4 7 (by decide) 768 128 rfl (by decide) inb_S1024x1024_S1024x256_0_768 inb_S1x1x1x1024_S1x1x1x256_0_0_0_768
      slices_S256x256_o0_128_S256x128 inb_S2048x128_S256x128_7_0_s_8_1 spos_8_1 y
  rcases List.mem_cons.mp hp with rfl | hp
  · exact fun y => entry_piece h w1 x4 6 (by decide) 768 0 rfl (by decide) inb_S1024x1024_S1024x256_0_768 inb_S1x1x1x1024_S1x1x1x256_0_0_0_768
      slices_S256x256_o0_0_S256x128 inb_S2048x128_S256x128_6_0_s_8_1 spos_8_1 y
  rcases List.mem_cons.mp hp with rfl | hp
  · exact fun y => entry_piece h w1 x4 5 (by decide) 512 128 rfl (by decide) inb_S1024x1024_S1024x256_0_512 inb_S1x1x1x1024_S1x1x1x256_0_0_0_512
      slices_S256x256_o0_128_S256x128 inb_S2048x128_S256x128_5_0_s_8_1 spos_8_1 y
  rcases List.mem_cons.mp hp with rfl | hp
  · exact fun y => entry_piece h w1 x4 4 (by decide) 512 0 rfl (by decide) inb_S1024x1024_S1024x256_0_512 inb_S1x1x1x1024_S1x1x1x256_0_0_0_512
      slices_S256x256_o0_0_S256x128 inb_S2048x128_S256x128_4_0_s_8_1 spos_8_1 y
  rcases List.mem_cons.mp hp with rfl | hp
  · exact fun y => entry_piece h w1 x4 3 (by decide) 256 128 rfl (by decide) inb_S1024x1024_S1024x256_0_256 inb_S1x1x1x1024_S1x1x1x256_0_0_0_256
      slices_S256x256_o0_128_S256x128 inb_S2048x128_S256x128_3_0_s_8_1 spos_8_1 y
  rcases List.mem_cons.mp hp with rfl | hp
  · exact fun y => entry_piece h w1 x4 2 (by decide) 256 0 rfl (by decide) inb_S1024x1024_S1024x256_0_256 inb_S1x1x1x1024_S1x1x1x256_0_0_0_256
      slices_S256x256_o0_0_S256x128 inb_S2048x128_S256x128_2_0_s_8_1 spos_8_1 y
  rcases List.mem_cons.mp hp with rfl | hp
  · exact fun y => entry_piece h w1 x4 1 (by decide) 0 128 rfl (by decide) inb_S1024x1024_S1024x256_0_0 inb_S1x1x1x1024_S1x1x1x256_0_0_0_0
      slices_S256x256_o0_128_S256x128 inb_S2048x128_S256x128_1_0_s_8_1 spos_8_1 y
  rcases List.mem_cons.mp hp with rfl | hp
  · exact fun y => entry_piece h w1 x4 0 (by decide) 0 0 rfl (by decide) inb_S1024x1024_S1024x256_0_0 inb_S1x1x1x1024_S1x1x1x256_0_0_0_0
      slices_S256x256_o0_0_S256x128 inb_S2048x128_S256x128_0_0_s_8_1 spos_8_1 y
  · exact absurd hp List.not_mem_nil

end Cert.Kernel2Ideal.Routed

end
-- ==== Proof.RoutedValue.lean ====
/- The kernel's result array after the run is the routed experts of its arguments. -/
module

public import proofs.«01_k».proof.Proof.RoutedDat
public import proofs.«01_k».proof.Proof.RoutedRead
public import Idealize.ShloMosaic.Lib.Pipeline.ValueKit

@[expose] public section

set_option maxRecDepth 16384
set_option Elab.async false

noncomputable section

namespace Cert.Kernel2Ideal.Routed

open Cert.Kernel2Ideal Cert.Kernel2Ideal.Gen Cert.Experts
open Idealize.ShloMosaic hiding ix1 ix2 ix3 ix4 ix5
open Idealize.ShloMosaic.TcCoe Idealize.ShloMosaic.ValueIdx
open Idealize.ShloMosaic.Pipeline (Dat)

variable (T0 : S544.Idx → Elt Ideal .i32) (T1 : S33.Idx → Elt Ideal .i32) (hT : InRange T0 T1) (m : (ℓ : Loc nD τ sig) → Buf (Elt Ideal) ℓ)

abbrev argXs (c : Dev nD) : SRows.Idx → EReal := m ((c : Thread nD τ).loc main_arg2)
abbrev argWg (c : Dev nD) : SIn.Idx → EReal := m ((c : Thread nD τ).loc main_arg3)
abbrev argBg (c : Dev nD) : SInBias.Idx → EReal := m ((c : Thread nD τ).loc main_arg4)
abbrev argWd (c : Dev nD) : SOut.Idx → EReal := m ((c : Thread nD τ).loc main_arg5)
abbrev argBd (c : Dev nD) : SOutBias.Idx → EReal := m ((c : Thread nD τ).loc main_arg6)

theorem expertOf_eq (t : Fin (cfgA T0 T1 hT).N) : expertOf T0 T1 hT t = expertAt T0 (at_ T0 T1 hT t) := by
  apply Fin.ext
  have h := hT.1 (ix1 (at_ T0 T1 hT t))
  show (T0 (ix1 (at_ T0 T1 hT t))).toNat = (T0 (ix1 (at_ T0 T1 hT t))).toNat % 32
  omega

/-- A point with tokens, first layer. -/
theorem first_layer (c : Dev nD) (t : Fin (cfgA T0 T1 hT).N) (hu : t.val < (used T1).toNat) (r : Fin 256) (f : Fin 2048) :
    layer (N := 2048) (tokens (iblk T0 T1 hT m c (0 : Fin 6) t)) (castIn (iblk T0 T1 hT m c (1 : Fin 6) t)) (iblk T0 T1 hT m c (2 : Fin 6) t) r f
      = lin (argXs m c) (argWg m c) (argBg m c) (expertAt T0 (at_ T0 T1 hT t)) (at_ T0 T1 hT t) r f := by
  unfold layer lin
  refine congrArg₂ (fun a b : EReal => a + b) (Finset.sum_congr rfl fun k _ => congrArg₂ (fun a b : EReal => a * b) ?_ ?_) ?_
  · refine (tokens_apply _ r k).trans ((iblk0_apply T0 T1 hT m c t _ _).trans ?_)
    refine congrArg (m ((c : Thread nD τ).loc main_arg2)) ?_
    unfold tok
    funext a
    apply Fin.ext
    match a with
    | ⟨0, _⟩ =>
      show 2048 * min t.val ((used T1).toNat - 1) + (8 * r.val + k.val / 128) = 2048 * t.val + (8 * r.val + k.val / 128)
      rw [Nat.min_eq_left (by omega)]
    | ⟨1, _⟩ => rfl
  · rw [← expertOf_eq]
    exact (castIn_apply _ k f).trans (iblk1_apply T0 T1 hT m c t 0 0 k f)
  · rw [← expertOf_eq]
    exact iblk2_apply T0 T1 hT m c t 0 0 0 f

/-- The block a point with tokens leaves. -/
theorem block_used (c : Dev nD) (t : Fin (cfgA T0 T1 hT).N) (hu : t.val < (used T1).toNat) (y : S2048x128.Idx) :
    outBlock (iblk T0 T1 hT m c (0 : Fin 6) t) (castIn (iblk T0 T1 hT m c (1 : Fin 6) t)) (iblk T0 T1 hT m c (2 : Fin 6) t)
      (castOut (iblk T0 T1 hT m c (3 : Fin 6) t)) (iblk T0 T1 hT m c (4 : Fin 6) t) y
      = ys (argXs m c) (argWg m c) (argBg m c) (argWd m c) (argBd m c) (expertAt T0 (at_ T0 T1 hT t)) (at_ T0 T1 hT t)
        ⟨(y 0).val / 8, by have : (y 0).val < 2048 := (y 0).isLt; omega⟩
        ⟨128 * ((y 0).val % 8) + (y 1).val, by have : (y 1).val < 128 := (y 1).isLt; omega⟩ := by
  rw [outBlock_apply]
  unfold entry ys
  unfold layer
  refine congrArg₂ (fun a b : EReal => a + b) (Finset.sum_congr rfl fun f _ => congrArg₂ (fun a b : EReal => a * b) ?_ ?_) ?_
  · rw [hidden_apply]
    unfold hid act
    exact congrArg₂ unit (first_layer T0 T1 hT m c t hu _ _) (first_layer T0 T1 hT m c t hu _ _)
  · rw [← expertOf_eq]
    exact (castOut_apply _ _ _).trans (iblk3_apply T0 T1 hT m c t 0 0 _ _)
  · rw [← expertOf_eq]
    exact iblk4_apply T0 T1 hT m c t 0 0 0 _

/-- The block a point leaves. -/
theorem block_eq (c : Dev nD) (t : Fin (cfgA T0 T1 hT).N) (y : S2048x128.Idx) :
    afterOut T0 T1 hT m c t y
      = outAt T0 T1 (argXs m c) (argWg m c) (argBg m c) (argWd m c) (argBd m c) (at_ T0 T1 hT t)
        ⟨(y 0).val / 8, by have : (y 0).val < 2048 := (y 0).isLt; omega⟩
        ⟨128 * ((y 0).val % 8) + (y 1).val, by have : (y 1).val < 128 := (y 1).isLt; omega⟩ := by
  unfold afterOut outAt
  have hi := used_iff (F := Ideal) (crd T0 T1 hT t) T1 hT.2.2
  rw [crd_val] at hi
  by_cases hu : t.val < (used T1).toNat
  · rw [if_pos (hi.mpr hu), if_pos (show (at_ T0 T1 hT t).val < (T1 (ix1 (32 : Fin 33))).toNat from hu)]
    exact block_used T0 T1 hT m c t hu y
  · rw [if_neg (fun h => hu (hi.mp h)), if_neg (show ¬ (at_ T0 T1 hT t).val < (T1 (ix1 (32 : Fin 33))).toNat from hu)]
    rfl

/-- Every point writes its block back. -/
theorem flush5 (t : Fin (cfgA T0 T1 hT).N) : ((cfgA T0 T1 hT).win (5 : Fin 6)).flush t = true := by
  rw [Pipeline.Window.flush_eq_flushF]
  unfold Pipeline.Window.flushF
  refine Bool.and_eq_true_iff.mpr ⟨rfl, Bool.or_eq_true_iff.mpr ?_⟩
  by_cases h : t.val + 1 = (cfgA T0 T1 hT).grid.N
  · exact .inl (decide_eq_true h)
  · have hlt : t.val + 1 < (cfgA T0 T1 hT).grid.N := lt_of_le_of_ne t.isLt h
    refine .inr (decide_eq_true ⟨hlt, (0 : Fin 2), ?_⟩)
    have e1 := congrFun (index5 T0 T1 hT ⟨t.val + 1, hlt⟩) (0 : Fin 2)
    have e0 := congrFun (index5 T0 T1 hT t) (0 : Fin 2)
    intro e
    have e2 : t.val + 1 = t.val := e1.symm.trans (e.trans e0)
    omega

/-- The point whose block a row is in. -/
def pointOf (i : SRows.Idx) : Fin (cfgA T0 T1 hT).N :=
  ⟨(i 0).val / 2048, by have h : (i 0).val < 1114112 := (i 0).isLt; have e := N_0; show (i 0).val / 2048 < grid0.N; omega⟩

theorem emb5 (t : Fin (cfgA T0 T1 hT).N) (y : S2048x128.Idx) :
    ((((cfgA T0 T1 hT).win (5 : Fin 6)).rect t).emb y : SRows.Idx) = ix2 ⟨2048 * t.val + (y 0).val, by
      have := lt_N T0 T1 hT t; have : (y 0).val < 2048 := (y 0).isLt; omega⟩ (y 1) := by
  funext a
  apply Fin.ext
  refine (Pipeline.Window.rect_emb_val _ t _ a).trans ?_
  rw [index5]
  match a with
  | ⟨0, _⟩ => show t.val * 2048 + (y 0).val = 2048 * t.val + (y 0).val; omega
  | ⟨1, _⟩ => show 0 * 128 + (y 1).val = (y 1).val; omega

theorem mem5 (i : SRows.Idx) : i ∈ (((cfgA T0 T1 hT).win (5 : Fin 6)).blk (pointOf T0 T1 hT i)).view.set := by
  refine (Pipeline.Window.emb_mem_blk_iff ((cfgA T0 T1 hT).win (5 : Fin 6)) (pointOf T0 T1 hT i) i rfl).mpr fun a => ?_
  rw [index5]
  match a with
  | ⟨0, _⟩ =>
    show (i 0).val / 2048 * 2048 ≤ (i 0).val ∧ (i 0).val < (i 0).val / 2048 * 2048 + 2048
    omega
  | ⟨1, _⟩ =>
    have h1 : (i 1).val < 128 := (i 1).isLt
    show 0 * 128 ≤ (i 1).val ∧ (i 1).val < 0 * 128 + 128
    omega

/-- The kernel's result array. -/
theorem final (c : Dev nD) : (dats T0 T1 hT m 0 c).arrAt (5 : Fin 6) (cfgA T0 T1 hT).N
    = out T0 T1 (argXs m c) (argWg m c) (argBg m c) (argWd m c) (argBd m c) := by
  refine (dats T0 T1 hT m 0 c).arrAt_eq_of_emb (5 : Fin 6) _ (fun t _ y => ?_) (fun i => ⟨pointOf T0 T1 hT i, flush5 T0 T1 hT _, mem5 T0 T1 hT i⟩)
  refine (show _ = afterOut T0 T1 hT m c t y from rfl).trans ((block_eq T0 T1 hT m c t y).trans ?_)
  refine Eq.trans ?_ (congrArg (out T0 T1 (argXs m c) (argWg m c) (argBg m c) (argWd m c) (argBd m c)) (emb5 T0 T1 hT t y)).symm
  unfold out
  have ht := lt_N T0 T1 hT t
  have h0 : ((y : S2048x128.Idx) 0).val < 2048 := ((y : S2048x128.Idx) 0).isLt
  have h1 : ((y : S2048x128.Idx) 1).val < 128 := ((y : S2048x128.Idx) 1).isLt
  refine congr (congr (congrArg (outAt T0 T1 (argXs m c) (argWg m c) (argBg m c) (argWd m c) (argBd m c)) (Fin.ext ?_)) (Fin.ext ?_)) (Fin.ext ?_)
  · show t.val = (2048 * t.val + ((y : S2048x128.Idx) 0).val) / 2048; omega
  · show ((y : S2048x128.Idx) 0).val / 8 = (2048 * t.val + ((y : S2048x128.Idx) 0).val) / 8 % 256; omega
  · show 128 * (((y : S2048x128.Idx) 0).val % 8) + ((y : S2048x128.Idx) 1).val
      = (2048 * t.val + ((y : S2048x128.Idx) 0).val) % 8 * 128 + ((y : S2048x128.Idx) 1).val
    omega

end Cert.Kernel2Ideal.Routed

end
-- ==== Proof.RoutedPre.lean ====
/- The precondition read back: the blocks' experts and the number of blocks in use are in range. -/
module

public import proofs.«01_k».proof.Pre_in_range
public import proofs.«01_k».proof.Proof.RoutedOut
public import Idealize.ShloMosaic.Lib.WordCmp
public import Idealize.ShloMosaic.Lib.ReduceAll
public import Idealize.ShloMosaic.Lib.Pipeline.Value

@[expose] public section

set_option maxRecDepth 16384

noncomputable section

namespace Cert.Experts

open Cert.Pre_in_range
open Idealize.ShloMosaic Idealize.ShloMosaic.ValueIdx

/-- The routing words are in range. -/
def Words (T0 : IVec SBlocks 32) (T1 : IVec SMeta 32) : Prop :=
  (∀ i, (T0 i).toNat < 32) ∧ 1 ≤ (T1 (ix1 (32 : Fin 33))).toNat ∧ (T1 (ix1 (32 : Fin 33))).toNat ≤ 544

theorem and_split {a b : BitVec 1} (h : IntOp.andi a b = 1#1) : a = 1#1 ∧ b = 1#1 := by
  revert a b; decide

theorem of_word {p : Prop} [Decidable p] (h : BitVec.ofBool (decide p) = 1#1) : p := by
  by_contra hn
  rw [decide_eq_false hn] at h
  exact absurd h (by decide)

theorem toNat_of_toInt {x : BitVec 32} {n : ℕ} (hn : n < 2 ^ 31) (h0 : 0 ≤ x.toInt) (h : x.toInt ≤ n) : x.toNat ≤ n := by
  have := x.isLt
  rw [BitVec.toInt_eq_toNat_cond] at h0 h
  split at h <;> omega

theorem toNat_pos_of_toInt {x : BitVec 32} (h : 1 ≤ x.toInt) : 1 ≤ x.toNat := by
  have := x.isLt
  rw [BitVec.toInt_eq_toNat_cond] at h
  split at h <;> omega

theorem words_of_pre [Cert.Pre_in_range.Facts] {F : FTy → Type} [FloatOps F] {a0 : IVec S544 32} {a1 : IVec S33 32} {a2 : FVec F S1114112x128 .f32}
    {a3 : FVec F S2x32x1024x2048 .f32} {a4 : FVec F S2x32x1x2048 .f32} {a5 : FVec F S2x32x1024x1024 .f32} {a6 : FVec F S2x32x1x1024 .f32}
    (h : Cert.Pre_in_range.fn (F := F) a0 a1 a2 a3 a4 a5 a6 = fun _ => 1#1) : Words a0 a1 := by
  have h0 := congrFun h (fun a => a.elim0)
  unfold Cert.Pre_in_range.fn at h0
  dsimp only at h0
  obtain ⟨h12, h3⟩ := and_split h0
  obtain ⟨h1, h2⟩ := and_split h12
  haveI : Subsingleton S_.Idx := ⟨fun a b => funext fun i => i.elim0⟩
  have e : ∀ j, shapeCast S_ (extractStridedSlice S1 ![32] a1 Facts.slices_S33_S1_32) Facts.shapeCasts_S1_S_ j = a1 (ix1 (32 : Fin 33)) := fun j => by
    unfold shapeCast extractStridedSlice
    refine congrArg a1 (funext fun a => Fin.ext ?_)
    match a with
    | ⟨0, _⟩ =>
      show 32 + _ = 32
      have : ∀ z : Fin 1, 32 + z.val = 32 := by decide
      exact this _
  have g2 : IntOp.cmpi .sge (a1 (ix1 (32 : Fin 33))) 1#32 = 1#1 := (congrArg (fun z => IntOp.cmpi .sge z 1#32) (e _)).symm.trans h2
  have g3 : IntOp.cmpi .sle (a1 (ix1 (32 : Fin 33))) 544#32 = 1#1 := (congrArg (fun z => IntOp.cmpi .sle z 544#32) (e _)).symm.trans h3
  rw [WordCmp.cmpi_sge_eq] at g2
  rw [WordCmp.cmpi_sle_eq] at g3
  have i2 : (1 : ℤ) ≤ (a1 (ix1 (32 : Fin 33))).toInt := of_word g2
  have i3 : (a1 (ix1 (32 : Fin 33))).toInt ≤ (544 : ℕ) := of_word g3
  refine ⟨fun i => ?_, toNat_pos_of_toInt i2, toNat_of_toInt (by decide) (by omega) i3⟩
  have hi := Host.reduce_andi_all _ _ _ _ _ h1 i
  obtain ⟨k1, k2⟩ := and_split hi
  have k1' : IntOp.cmpi .sge (a0 i) 0#32 = 1#1 := k1
  have k2' : IntOp.cmpi .slt (a0 i) 32#32 = 1#1 := k2
  rw [WordCmp.cmpi_sge_eq] at k1'
  rw [WordCmp.cmpi_slt_eq] at k2'
  have j1 : (0 : ℤ) ≤ (a0 i).toInt := of_word k1'
  have j2 : (a0 i).toInt < (32 : ℤ) := of_word k2'
  have := toNat_of_toInt (n := 31) (by decide) j1 (by omega)
  omega

end Cert.Experts

end
-- ==== Proof.RoutedRef.lean ====
/- The reference read at an index: it is the routed experts of its arrays. -/
module

public import proofs.«01_k».proof.Proof.Gen.Reference2Ideal.Read
public import proofs.«01_k».proof.Proof.RoutedPre
public import Idealize.ShloMosaic.Lib.StableHlo.Predicate

@[expose] public section

set_option maxRecDepth 16384

noncomputable section

namespace Cert.Experts

open Cert.Reference2Ideal Cert.Reference2Ideal.Gen Cert.Reference2Ideal.Read
open Idealize.ShloMosaic
open Idealize.ShloMosaic.ValueIdx

/-! ## A block gathered from a stack by its number -/

/-- The dimension numbers of such a gather. -/
def blockDims (E A B n : ℕ) (wf : GatherDims.WF (⟨3, ![E, A, B]⟩ : Shape) (⟨2, ![n, 1]⟩ : Shape) (⟨3, ![n, A, B]⟩ : Shape) [1, 2] [0] [] [0] [] 1 ![1, A, B]) :
    GatherDims (⟨3, ![E, A, B]⟩ : Shape) (⟨2, ![n, 1]⟩ : Shape) (⟨3, ![n, A, B]⟩ : Shape) where
  offsetDims := [1, 2]
  collapsedSliceDims := [0]
  operandBatchingDims := []
  startIndicesBatchingDims := []
  startIndexMap := [0]
  indexVectorDim := 1
  sliceSizes := ![1, A, B]
  wf := wf

theorem gather_block {α : Type} {E A B n : ℕ} (wf) (x : (⟨3, ![E, A, B]⟩ : Shape).Idx → α) (idx : IVec (⟨2, ![n, 1]⟩ : Shape) 32)
    (c : Fin n) (p : Fin A) (q : Fin B) (b : Fin E) (hb : idx (ix2 c (0 : Fin 1)) = BitVec.ofNat 32 b.val) (hE : E < 2 ^ 31) :
    Host.gather (blockDims E A B n wf) x idx (ix3 c p q) = x (ix3 b p q) := by
  unfold Host.gather
  refine congrArg x (funext fun a => Fin.ext ?_)
  have hn : ∀ a', a' ∉ (blockDims E A B n wf).operandBatchingDims := fun a' => List.not_mem_nil
  match a with
  | ⟨0, _⟩ =>
    have hk : (0 : Fin 3) ∉ (blockDims E A B n wf).sKept := fun h =>
      (((blockDims E A B n wf).mem_sKept 0).1 h).1 (show (0 : Fin 3) ∈ [(0 : Fin 3)] by decide)
    have hm : (0 : Fin 3) ∈ (blockDims E A B n wf).startIndexMap := show (0 : Fin 3) ∈ [(0 : Fin 3)] by decide
    show (blockDims E A B n wf).start (ix3 c p q) idx 0 + (blockDims E A B n wf).batchCoord (ix3 c p q) 0 + (blockDims E A B n wf).offCoord (ix3 c p q) 0 = b.val
    rw [(blockDims E A B n wf).batchCoord_eq_zero _ _ (hn 0), (blockDims E A B n wf).offCoord_eq_zero _ _ hk]
    simp only [Nat.add_zero]
    unfold GatherDims.start
    rw [dif_pos hm]
    have hsi : (blockDims E A B n wf).siIdx (ix3 c p q) ⟨(blockDims E A B n wf).startIndexMap.idxOf 0, List.idxOf_lt_length_iff.2 hm⟩ = ix2 c (0 : Fin 1) := by
      funext b'
      apply Fin.ext
      match b' with
      | ⟨0, _⟩ => rfl
      | ⟨1, _⟩ => rfl
    have hbl := b.isLt
    rw [hsi, hb, StableHlo.Predicate.toInt_ofNat_small _ (by omega)]
    show min ((b.val : Int)).toNat (E - 1) = b.val
    omega
  | ⟨1, _⟩ =>
    have hk : (1 : Fin 3) ∈ (blockDims E A B n wf).sKept := ((blockDims E A B n wf).mem_sKept 1).2 ⟨show (1 : Fin 3) ∉ [(0 : Fin 3)] by decide, hn 1⟩
    have hm : (1 : Fin 3) ∉ (blockDims E A B n wf).startIndexMap := show (1 : Fin 3) ∉ [(0 : Fin 3)] by decide
    show (blockDims E A B n wf).start (ix3 c p q) idx 1 + (blockDims E A B n wf).batchCoord (ix3 c p q) 1 + (blockDims E A B n wf).offCoord (ix3 c p q) 1 = p.val
    rw [(blockDims E A B n wf).batchCoord_eq_zero _ _ (hn 1), Nat.add_zero]
    unfold GatherDims.start GatherDims.offCoord
    rw [dif_neg hm, dif_pos hk, Nat.zero_add]
    rfl
  | ⟨2, _⟩ =>
    have hk : (2 : Fin 3) ∈ (blockDims E A B n wf).sKept := ((blockDims E A B n wf).mem_sKept 2).2 ⟨show (2 : Fin 3) ∉ [(0 : Fin 3)] by decide, hn 2⟩
    have hm : (2 : Fin 3) ∉ (blockDims E A B n wf).startIndexMap := show (2 : Fin 3) ∉ [(0 : Fin 3)] by decide
    show (blockDims E A B n wf).start (ix3 c p q) idx 2 + (blockDims E A B n wf).batchCoord (ix3 c p q) 2 + (blockDims E A B n wf).offCoord (ix3 c p q) 2 = q.val
    rw [(blockDims E A B n wf).batchCoord_eq_zero _ _ (hn 2), Nat.add_zero]
    unfold GatherDims.start GatherDims.offCoord
    rw [dif_neg hm, dif_pos hk, Nat.zero_add]
    rfl

/-! ## The experts' numbers, normalised as an index is -/

theorem norm_word (w : BitVec 32) (h : w.toNat < 32) : Scalar.select (IntOp.cmpi .slt w 0#32) (IntOp.addi w 32#32) w = w := by
  rw [WordCmp.cmpi_slt_zero, decide_eq_false (by omega)]
  rfl

section Ref

variable (x0 : IVec S544 32) (x1 : IVec S33 32) (x2 : FVec Ideal S1114112x128 .f32) (x3 : FVec Ideal S2x32x1024x2048 .f32)
  (x4 : FVec Ideal S2x32x1x2048 .f32) (x5 : FVec Ideal S2x32x1024x1024 .f32) (x6 : FVec Ideal S2x32x1x1024 .f32) (H : Words x0 x1)

include H in
theorem word_eq (b : Fin 544) : x0 (ix1 b) = BitVec.ofNat 32 (expertAt x0 b).val := by
  have h := H.1 (ix1 b)
  apply BitVec.eq_of_toNat_eq
  rw [BitVec.toNat_ofNat]
  show (x0 (ix1 b)).toNat = (x0 (ix1 b)).toNat % 32 % 2 ^ 32
  omega

include H in
theorem idx8 (b : Fin 544) : val_main_v8 (F := Ideal) x0 (ix2 b (0 : Fin 1)) = BitVec.ofNat 32 (expertAt x0 b).val := by
  rw [val_main_v8_apply, val_main_v7_apply]
  refine (norm_word _ (H.1 _)).trans (Eq.trans (congrArg x0 ?_) (word_eq x0 x1 H b))
  funext a
  match a with
  | ⟨0, _⟩ => rfl

include H in
theorem idx18 (b : Fin 544) : val_main_v18 (F := Ideal) x0 (ix2 b (0 : Fin 1)) = BitVec.ofNat 32 (expertAt x0 b).val := by
  rw [val_main_v18_apply, val_main_v17_apply]
  refine (norm_word _ (H.1 _)).trans (Eq.trans (congrArg x0 ?_) (word_eq x0 x1 H b))
  funext a
  match a with
  | ⟨0, _⟩ => rfl

include H in
theorem idx46 (b : Fin 544) : val_main_v46 (F := Ideal) x0 (ix2 b (0 : Fin 1)) = BitVec.ofNat 32 (expertAt x0 b).val := by
  rw [val_main_v46_apply, val_main_v45_apply]
  refine (norm_word _ (H.1 _)).trans (Eq.trans (congrArg x0 ?_) (word_eq x0 x1 H b))
  funext a
  match a with
  | ⟨0, _⟩ => rfl

include H in
theorem idx56 (b : Fin 544) : val_main_v56 (F := Ideal) x0 (ix2 b (0 : Fin 1)) = BitVec.ofNat 32 (expertAt x0 b).val := by
  rw [val_main_v56_apply, val_main_v55_apply]
  refine (norm_word _ (H.1 _)).trans (Eq.trans (congrArg x0 ?_) (word_eq x0 x1 H b))
  funext a
  match a with
  | ⟨0, _⟩ => rfl

theorem stack2 (e : Fin 32) (p : Fin 1024) (q : Fin 2048) : val_main_v2 (F := Ideal) x3 (ix3 e p q) = x3 (ix4 (0 : Fin 2) e p q) := by
  rw [val_main_v2_apply, val_main_v1_apply]
  refine congrArg x3 (funext fun a => Fin.ext ?_)
  have he := e.isLt
  have hp := p.isLt
  have hq := q.isLt
  match a with
  | ⟨0, _⟩ => rfl
  | ⟨1, _⟩ => show ((e.val * 1024 + p.val) * 2048 + q.val) / 2097152 % 32 = e.val; omega
  | ⟨2, _⟩ => show ((e.val * 1024 + p.val) * 2048 + q.val) / 2048 % 1024 = p.val; omega
  | ⟨3, _⟩ => show ((e.val * 1024 + p.val) * 2048 + q.val) % 2048 = q.val; omega

include H in
theorem picked9 (b : Fin 544) (p : Fin 1024) (q : Fin 2048) : val_main_v9 (F := Ideal) x0 x3 (ix3 b p q) = x3 (ix4 (0 : Fin 2) (expertAt x0 b) p q) := by
  unfold val_main_v9
  exact (gather_block gather_S32x1024x2048_S544x1_S544x1024x2048_12_0_n_n_0_1_110242048_wf (val_main_v2 (F := Ideal) x3) (val_main_v8 (F := Ideal) x0) b p q (expertAt x0 b) (idx8 x0 x1 H b) (by decide)).trans
    (stack2 x3 _ p q)

theorem stack12 (e : Fin 32) (p : Fin 1) (q : Fin 2048) : val_main_v12 (F := Ideal) x4 (ix3 e p q) = x4 (ix4 (0 : Fin 2) e p q) := by
  rw [val_main_v12_apply, val_main_v11_apply]
  refine congrArg x4 (funext fun a => Fin.ext ?_)
  have he := e.isLt
  have hp := p.isLt
  have hq := q.isLt
  match a with
  | ⟨0, _⟩ => rfl
  | ⟨1, _⟩ => show ((e.val * 1 + p.val) * 2048 + q.val) / 2048 % 32 = e.val; omega
  | ⟨2, _⟩ => show 0 = p.val; omega
  | ⟨3, _⟩ => show ((e.val * 1 + p.val) * 2048 + q.val) % 2048 = q.val; omega

include H in
theorem picked19 (b : Fin 544) (p : Fin 1) (q : Fin 2048) : val_main_v19 (F := Ideal) x0 x4 (ix3 b p q) = x4 (ix4 (0 : Fin 2) (expertAt x0 b) p q) := by
  unfold val_main_v19
  exact (gather_block gather_S32x1x2048_S544x1_S544x1x2048_12_0_n_n_0_1_112048_wf (val_main_v12 (F := Ideal) x4) (val_main_v18 (F := Ideal) x0) b p q (expertAt x0 b) (idx18 x0 x1 H b) (by decide)).trans
    (stack12 x4 _ p q)

theorem stack40 (e : Fin 32) (p : Fin 1024) (q : Fin 1024) : val_main_v40 (F := Ideal) x5 (ix3 e p q) = x5 (ix4 (0 : Fin 2) e p q) := by
  rw [val_main_v40_apply, val_main_v39_apply]
  refine congrArg x5 (funext fun a => Fin.ext ?_)
  have he := e.isLt
  have hp := p.isLt
  have hq := q.isLt
  match a with
  | ⟨0, _⟩ => rfl
  | ⟨1, _⟩ => show ((e.val * 1024 + p.val) * 1024 + q.val) / 1048576 % 32 = e.val; omega
  | ⟨2, _⟩ => show ((e.val * 1024 + p.val) * 1024 + q.val) / 1024 % 1024 = p.val; omega
  | ⟨3, _⟩ => show ((e.val * 1024 + p.val) * 1024 + q.val) % 1024 = q.val; omega

include H in
theorem picked47 (b : Fin 544) (p : Fin 1024) (q : Fin 1024) : val_main_v47 (F := Ideal) x0 x5 (ix3 b p q) = x5 (ix4 (0 : Fin 2) (expertAt x0 b) p q) := by
  unfold val_main_v47
  exact (gather_block gather_S32x1024x1024_S544x1_S544x1024x1024_12_0_n_n_0_1_110241024_wf (val_main_v40 (F := Ideal) x5) (val_main_v46 (F := Ideal) x0) b p q (expertAt x0 b) (idx46 x0 x1 H b) (by decide)).trans
    (stack40 x5 _ p q)

theorem stack50 (e : Fin 32) (p : Fin 1) (q : Fin 1024) : val_main_v50 (F := Ideal) x6 (ix3 e p q) = x6 (ix4 (0 : Fin 2) e p q) := by
  rw [val_main_v50_apply, val_main_v49_apply]
  refine congrArg x6 (funext fun a => Fin.ext ?_)
  have he := e.isLt
  have hp := p.isLt
  have hq := q.isLt
  match a with
  | ⟨0, _⟩ => rfl
  | ⟨1, _⟩ => show ((e.val * 1 + p.val) * 1024 + q.val) / 1024 % 32 = e.val; omega
  | ⟨2, _⟩ => show 0 = p.val; omega
  | ⟨3, _⟩ => show ((e.val * 1 + p.val) * 1024 + q.val) % 1024 = q.val; omega

include H in
theorem picked57 (b : Fin 544) (p : Fin 1) (q : Fin 1024) : val_main_v57 (F := Ideal) x0 x6 (ix3 b p q) = x6 (ix4 (0 : Fin 2) (expertAt x0 b) p q) := by
  unfold val_main_v57
  exact (gather_block gather_S32x1x1024_S544x1_S544x1x1024_12_0_n_n_0_1_111024_wf (val_main_v50 (F := Ideal) x6) (val_main_v56 (F := Ideal) x0) b p q (expertAt x0 b) (idx56 x0 x1 H b) (by decide)).trans
    (stack50 x6 _ p q)

theorem rows0 (b : Fin 544) (r : Fin 256) (k : Fin 1024) : val_main_v0 (F := Ideal) x2 (ix3 b r k) = x2 (tok b r k) := by
  rw [val_main_v0_apply]
  refine congrArg x2 (funext fun a => Fin.ext ?_)
  have hk := k.isLt
  match a with
  | ⟨0, _⟩ => show ((b.val * 256 + r.val) * 1024 + k.val) / 128 = 2048 * b.val + (8 * r.val + k.val / 128); omega
  | ⟨1, _⟩ => show ((b.val * 256 + r.val) * 1024 + k.val) % 128 = k.val % 128; omega

/-! ## The first layer -/

include H in
theorem first (b : Fin 544) (r : Fin 256) (f : Fin 2048) :
    (val_main_v21 (F := Ideal) x0 x2 x3 x4 (ix3 b r f) : EReal) = lin x2 x3 x4 (expertAt x0 b) b r f := by
  rw [val_main_v21_apply]
  unfold lin
  refine congrArg₂ (fun a c : EReal => a + c) ?_ ?_
  · rw [val_main_v10_apply]
    refine Finset.sum_congr rfl fun k _ => congrArg₂ (fun a c : EReal => a * c) ?_ ?_
    · refine (congrArg (val_main_v0 (F := Ideal) x2) ?_).trans (rows0 x2 b r k)
      funext a
      match a with
      | ⟨0, _⟩ => rfl
      | ⟨1, _⟩ => rfl
      | ⟨2, _⟩ => rfl
    · refine (congrArg (val_main_v9 (F := Ideal) x0 x3) ?_).trans (picked9 x0 x1 x3 H b k f)
      funext a
      match a with
      | ⟨0, _⟩ => rfl
      | ⟨1, _⟩ => rfl
      | ⟨2, _⟩ => rfl
  · rw [val_main_v20_apply]
    refine (congrArg (val_main_v19 (F := Ideal) x0 x4) ?_).trans (picked19 x0 x1 x4 H b (0 : Fin 1) f)
    funext a
    match a with
    | ⟨0, _⟩ => rfl
    | ⟨1, _⟩ => rfl
    | ⟨2, _⟩ => rfl

theorem gate_up (i : S544x256x1024.Idx) :
    (val_main_v38 (F := Ideal) x0 x2 x3 x4 i : EReal) = unit (val_main_v22 (F := Ideal) x0 x2 x3 x4 i) (val_main_v23 (F := Ideal) x0 x2 x3 x4 i) := by
  simp only [val_main_v38_apply, val_main_v37_apply, val_main_v36_apply, val_main_v35_apply, val_main_cst_8_apply, val_main_v34_apply,
    val_main_v33_apply, val_main_cst_7_apply, val_main_v32_apply, val_main_v31_apply, val_main_v30_apply, val_main_v29_apply, val_main_cst_6_apply,
    val_main_v28_apply, val_main_v27_apply, val_main_cst_5_apply, val_main_v26_apply, val_main_call0_v4_apply, val_main_call0_v3_apply,
    val_main_cst_4_apply, val_main_call0_v2_apply, val_main_call0_v1_apply, val_main_call0_v0_apply, val_main_cst_3_apply, val_main_v25_apply,
    val_main_v24_apply, val_main_cst_apply]
  rfl

include H in
theorem hidden_ref (b : Fin 544) (r : Fin 256) (f : Fin 1024) :
    (val_main_v38 (F := Ideal) x0 x2 x3 x4 (ix3 b r f) : EReal) = act x2 x3 x4 (expertAt x0 b) b r f := by
  rw [gate_up]
  unfold act
  refine congrArg₂ unit ?_ ?_
  · rw [val_main_v22_apply]
    refine (congrArg (val_main_v21 (F := Ideal) x0 x2 x3 x4) ?_).trans (first x0 x1 x2 x3 x4 H b r ⟨f.val, by omega⟩)
    funext a
    match a with
    | ⟨0, _⟩ => rfl
    | ⟨1, _⟩ => rfl
    | ⟨2, _⟩ => rfl
  · rw [val_main_v23_apply]
    refine (congrArg (val_main_v21 (F := Ideal) x0 x2 x3 x4) ?_).trans (first x0 x1 x2 x3 x4 H b r ⟨1024 + f.val, by omega⟩)
    funext a
    match a with
    | ⟨0, _⟩ => rfl
    | ⟨1, _⟩ => rfl
    | ⟨2, _⟩ => rfl

/-! ## The second layer -/

include H in
theorem second (b : Fin 544) (r : Fin 256) (d : Fin 1024) :
    (val_main_v59 (F := Ideal) x0 x2 x3 x4 x5 x6 (ix3 b r d) : EReal) = ys x2 x3 x4 x5 x6 (expertAt x0 b) b r d := by
  rw [val_main_v59_apply]
  unfold ys
  refine congrArg₂ (fun a c : EReal => a + c) ?_ ?_
  · rw [val_main_v48_apply]
    refine Finset.sum_congr rfl fun k _ => congrArg₂ (fun a c : EReal => a * c) ?_ ?_
    · refine (congrArg (val_main_v38 (F := Ideal) x0 x2 x3 x4) ?_).trans (hidden_ref x0 x1 x2 x3 x4 H b r k)
      funext a
      match a with
      | ⟨0, _⟩ => rfl
      | ⟨1, _⟩ => rfl
      | ⟨2, _⟩ => rfl
    · refine (congrArg (val_main_v47 (F := Ideal) x0 x5) ?_).trans (picked47 x0 x1 x5 H b k d)
      funext a
      match a with
      | ⟨0, _⟩ => rfl
      | ⟨1, _⟩ => rfl
      | ⟨2, _⟩ => rfl
  · rw [val_main_v58_apply]
    refine (congrArg (val_main_v57 (F := Ideal) x0 x6) ?_).trans (picked57 x0 x1 x6 H b (0 : Fin 1) d)
    funext a
    match a with
    | ⟨0, _⟩ => rfl
    | ⟨1, _⟩ => rfl
    | ⟨2, _⟩ => rfl

/-! ## The blocks in use -/

theorem meta_eq (j : S_.Idx) : val_main_v62 (F := Ideal) x1 j = x1 (ix1 (32 : Fin 33)) := by
  unfold val_main_v62 shapeCast
  rw [val_main_v61_apply]
  refine congrArg x1 (funext fun a => Fin.ext ?_)
  match a with
  | ⟨0, _⟩ =>
    show 32 + _ = 32
    have : ∀ z : Fin 1, 32 + z.val = 32 := by decide
    exact this _

include H in
theorem mask_eq (b : Fin 544) (r : Fin 256) (d : Fin 1024) :
    val_main_call1_v1 (F := Ideal) x1 (ix3 b r d) = BitVec.ofBool (decide (b.val < (x1 (ix1 (32 : Fin 33))).toNat)) := by
  have h := H.2.2
  have hb := b.isLt
  rw [val_main_call1_v1_apply, val_main_v65_apply, val_main_v64_apply, val_main_v63_apply, val_main_v60_apply, meta_eq]
  have e : (BitVec.ofNat 32 b.val).toNat = b.val := by rw [BitVec.toNat_ofNat]; omega
  refine (WordCmp.cmpi_slt_of_lt (x := BitVec.ofNat 32 b.val) (by rw [e]; omega) (by omega)).trans ?_
  rw [e]

/-- THE REFERENCE'S RESULT. -/
theorem ref_eq (H : Words x0 x1) : (val_main_v67 (F := Ideal) x0 x1 x2 x3 x4 x5 x6 : SRows.Idx → EReal) = out x0 x1 x2 x3 x4 x5 x6 := by
  funext i
  have h0 : (i 0).val < 1114112 := (i 0).isLt
  have h1 : (i 1).val < 128 := (i 1).isLt
  rw [val_main_v67_apply]
  have e : idx_main_v67 i = ix3 (⟨(i 0).val / 2048, by omega⟩ : Fin 544) (⟨(i 0).val / 8 % 256, by omega⟩ : Fin 256)
      (⟨(i 0).val % 8 * 128 + (i 1).val, by omega⟩ : Fin 1024) := by
    funext a
    apply Fin.ext
    match a with
    | ⟨0, _⟩ => show ((i 0).val * 128 + (i 1).val) / 262144 = (i 0).val / 2048; omega
    | ⟨1, _⟩ => show ((i 0).val * 128 + (i 1).val) / 1024 % 256 = (i 0).val / 8 % 256; omega
    | ⟨2, _⟩ => show ((i 0).val * 128 + (i 1).val) % 1024 = (i 0).val % 8 * 128 + (i 1).val; omega
  rw [e, val_main_v66_apply, mask_eq x0 x1 H]
  unfold out outAt
  by_cases hu : (i 0).val / 2048 < (x1 (ix1 (32 : Fin 33))).toNat
  · rw [if_pos hu, decide_eq_true hu]
    exact second x0 x1 x2 x3 x4 x5 x6 H _ _ _
  · rw [if_neg hu, decide_eq_false hu]
    exact val_main_call1_v2_apply (F := Ideal) (ix3 (⟨(i 0).val / 2048, by omega⟩ : Fin 544) (⟨(i 0).val / 8 % 256, by omega⟩ : Fin 256)
      (⟨(i 0).val % 8 * 128 + (i 1).val, by omega⟩ : Fin 1024))

end Ref

end Cert.Experts

end
-- ==== Proof.RoutedClaim.lean ====
/- The claims about the routed experts. -/
module

public import proofs.«01_k».proof.Defs
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_in_range
public import proofs.«01_k».proof.Proof.RoutedFrame
public import proofs.«01_k».proof.Proof.RoutedFrameK
public import proofs.«01_k».proof.Proof.RoutedValue
public import proofs.«01_k».proof.Proof.RoutedRef
public import proofs.«01_k».proof.Proof.RoutedPre
public import Idealize.ShloMosaic.Adequacy
public import Idealize.ShloMosaic.Init

@[expose] public section

set_option maxRecDepth 16384
set_option Elab.async false

noncomputable section

namespace Cert.Experts.Claims

open Idealize.ShloMosaic Idealize.SL.Sem

/-! ## The kernel at bits -/

section Bits

open Cert.Kernel2

abbrev devB : Dev nD := (0 : Fin 1)

variable (m : (ℓ : Loc nD τ sig) → Buf (Elt Bits) ℓ)

abbrev blocksB : S544.Idx → Elt Bits .i32 := m ((devB.tc : Thread nD τ).loc main_arg0)
abbrev metaB : S33.Idx → Elt Bits .i32 := m ((devB.tc : Thread nD τ).loc main_arg1)

theorem pinnedB : Cert.Kernel2.Routed.Pinned (blocksB m) (metaB m) m :=
  ⟨fun c => by obtain rfl : c = devB := Subsingleton.elim (α := Fin 1) c devB; rfl,
   fun c => by obtain rfl : c = devB := Subsingleton.elim (α := Fin 1) c devB; rfl⟩

theorem frameB : Cert.quiescent_Kernel2 := fun m g hpre =>
  (θ_run _ _ _).mono (fun _ h => ⟨fun c => (h.1 c).1, h.2⟩)
    (Cert.Kernel2.Routed.run (blocksB m) (metaB m) (words_of_pre (hpre devB)) m g (pinnedB m))

end Bits

/-! ## The kernel at the extended reals -/

section Reals

open Cert.Kernel2Ideal

abbrev dev : Dev nD := (0 : Fin 1)

variable (m : (ℓ : Loc nD τ sig) → Buf (Elt Ideal) ℓ)

abbrev blocks : S544.Idx → Elt Ideal .i32 := m ((dev.tc : Thread nD τ).loc main_arg0)
abbrev metas : S33.Idx → Elt Ideal .i32 := m ((dev.tc : Thread nD τ).loc main_arg1)

theorem pinned : Cert.Kernel2Ideal.Routed.Pinned (blocks m) (metas m) m :=
  ⟨fun c => by obtain rfl : c = dev := Subsingleton.elim (α := Fin 1) c dev; rfl,
   fun c => by obtain rfl : c = dev := Subsingleton.elim (α := Fin 1) c dev; rfl⟩

theorem frame : Cert.quiescent_Kernel2Ideal := fun m g hpre =>
  (θ_run _ _ _).mono (fun _ h => ⟨fun c => (h.1 c).1, h.2⟩)
    (Cert.Kernel2Ideal.Routed.run (blocks m) (metas m) (words_of_pre (hpre dev)) m g (pinned m))

/-- The reference keeps its arguments, and declares no semaphore. -/
theorem frame_r : Cert.quiescent_Reference2Ideal := fun m g _ =>
  (θ_run Cert.Reference2Ideal.defs _ _).mono
    (fun r h => ⟨fun c => (h c).2, sem_eq_zero_of_no_sems (by decide) r.2⟩)
    (Cert.Reference2Ideal.Value.run (F := Ideal) m g)

/-- The experts' outputs of a launch memory. -/
abbrev result (c : Dev nD) : SRows.Idx → EReal :=
  out (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6))

theorem kernel_result (hpre : Cert.Pre_Kernel2Ideal m) (c : Dev nD) :
    (Cert.Kernel2Ideal.Routed.dats (blocks m) (metas m) (words_of_pre (hpre dev)) m 0 c).arrAt (5 : Fin 6)
        (Cert.Kernel2Ideal.Routed.cfgA (blocks m) (metas m) (words_of_pre (hpre dev))).N
      = result m c := by
  obtain rfl : c = dev := Subsingleton.elim (α := Fin 1) c dev
  exact Cert.Kernel2Ideal.Routed.final (blocks m) (metas m) (words_of_pre (hpre dev)) m dev

theorem reference_result (hpre : Cert.Pre_Kernel2Ideal m) (c : Dev nD)
    (m' : (ℓ : Loc Cert.Reference2Ideal.nD Cert.Reference2Ideal.τ Cert.Reference2Ideal.sig) → Buf (Elt Ideal) ℓ)
    (h : m' ((c.tc : Thread Cert.Reference2Ideal.nD Cert.Reference2Ideal.τ).loc Cert.Reference2Ideal.main_arg0) = m ((c.tc : Thread nD τ).loc main_arg0)
      ∧ m' ((c.tc : Thread Cert.Reference2Ideal.nD Cert.Reference2Ideal.τ).loc Cert.Reference2Ideal.main_arg1) = m ((c.tc : Thread nD τ).loc main_arg1)
      ∧ m' ((c.tc : Thread Cert.Reference2Ideal.nD Cert.Reference2Ideal.τ).loc Cert.Reference2Ideal.main_arg2) = m ((c.tc : Thread nD τ).loc main_arg2)
      ∧ m' ((c.tc : Thread Cert.Reference2Ideal.nD Cert.Reference2Ideal.τ).loc Cert.Reference2Ideal.main_arg3) = m ((c.tc : Thread nD τ).loc main_arg3)
      ∧ m' ((c.tc : Thread Cert.Reference2Ideal.nD Cert.Reference2Ideal.τ).loc Cert.Reference2Ideal.main_arg4) = m ((c.tc : Thread nD τ).loc main_arg4)
      ∧ m' ((c.tc : Thread Cert.Reference2Ideal.nD Cert.Reference2Ideal.τ).loc Cert.Reference2Ideal.main_arg5) = m ((c.tc : Thread nD τ).loc main_arg5)
      ∧ m' ((c.tc : Thread Cert.Reference2Ideal.nD Cert.Reference2Ideal.τ).loc Cert.Reference2Ideal.main_arg6) = m ((c.tc : Thread nD τ).loc main_arg6)) :
    Cert.Reference2Ideal.Value.res_main_v67 m' c = result m c :=
  ((Cert.Reference2Ideal.Read.val_main_v67_eq m' c).trans
    (congr (congr (congr (congr (congr (congr (congrArg _ h.1) h.2.1) h.2.2.1) h.2.2.2.1) h.2.2.2.2.1) h.2.2.2.2.2.1) h.2.2.2.2.2.2)).trans
    (ref_eq _ _ _ _ _ _ _ (words_of_pre (hpre c)))

theorem algebraic : Cert.algebraic_Kernel2Ideal_Reference2Ideal := fun m g m' g' hpre hargs => ⟨fun c => result m c,
  (θ_run _ _ _).mono (fun _ h c => ⟨(h.1 c).2.trans (kernel_result m hpre c), (h.1 c).1⟩)
    (Cert.Kernel2Ideal.Routed.run (blocks m) (metas m) (words_of_pre (hpre dev)) m g (pinned m)),
  (θ_run _ _ _).mono (fun _ h c => ⟨(h c).1.trans (reference_result m hpre c m' (hargs c)), (h c).2⟩)
    (Cert.Reference2Ideal.Value.run m' g')⟩

end Reals

end Cert.Experts.Claims

end
-- ==== Proof.GqaOut.lean ====
/- Grouped-query attention as a function of its three arrays: what both programs compute. -/
module

public import proofs.«01_k».proof.Proof.MlaOut

@[expose] public section

set_option maxRecDepth 16384

noncomputable section

namespace Cert.Gqa

open Idealize.ShloMosaic Idealize.ShloMosaic.ValueIdx Cert.AttnMath
open Cert.Mla (lane row wide col)

/-- Queries: 32768 tokens (4 sequences of 8192) by 4 heads of 128 lanes. -/
abbrev SQs : Shape := ⟨2, ![32768, 512]⟩
/-- Keys: 32768 tokens by 2 heads of 64 lanes. -/
abbrev SKs : Shape := ⟨2, ![32768, 128]⟩
/-- Values: 2 heads of 128 rows by 32768 tokens. -/
abbrev SVs : Shape := ⟨2, ![256, 32768]⟩

/-- The head of keys and values a query head uses. -/
def kvOf (h : Fin 4) : Fin 2 := ⟨h.val / 2, by omega⟩
/-- The other one. -/
def otherOf (h : Fin 4) : Fin 2 := ⟨1 - h.val / 2, by omega⟩
/-- A query head's number among those of its key head. -/
def grpOf (h : Fin 4) : Fin 2 := ⟨h.val % 2, by omega⟩
/-- Key head `n`'s lane `d`. -/
def half (n : Fin 2) (d : Fin 64) : Fin 128 := ⟨64 * n.val + d.val, by omega⟩
/-- Value head `n`'s row `j`. -/
def vrow (n : Fin 2) (j : Fin 128) : Fin 256 := ⟨128 * n.val + j.val, by omega⟩

/-- The score of query `Q` against key `K`. -/
def score (q : Vec Ideal SQs .bf16) (k : Vec Ideal SKs .bf16) (b h : Fin 4) (Q K : Fin 8192) : EReal :=
  ∑ d : Fin 64, k (ix2 (row b K) (half (kvOf h) d)) * q (ix2 (row b Q) (lane h (half (kvOf h) d)))

/-- One number of the result: softmax of the query's scores, weighing the values of the head's key head. -/
def outAt (q : Vec Ideal SQs .bf16) (k : Vec Ideal SKs .bf16) (v : Vec Ideal SVs .bf16) (b : Fin 4) (Q : Fin 8192) (h : Fin 4) (j : Fin 64) : EReal :=
  soft (n := 8192) (fun K => (score q k b h Q K).toReal) (fun K => v (ix2 (vrow (kvOf h) (wide j)) (row b K)))

/-- The whole result. -/
def out (q : Vec Ideal SQs .bf16) (k : Vec Ideal SKs .bf16) (v : Vec Ideal SVs .bf16) : Vec Ideal Cert.Mla.SO .f32 := fun i =>
  outAt q k v (i 0) (i 1) ⟨(i 2).val / 64, by have h : (i 2).val < 256 := (i 2).isLt; omega⟩
    ⟨(i 2).val % 64, by omega⟩

/-- What the precondition says of the three arrays. -/
structure Ok (q : Vec Ideal SQs .bf16) (k : Vec Ideal SKs .bf16) (v : Vec Ideal SVs .bf16) : Prop where
  q_real : ∀ i, ∃ r : ℝ, q i = (r : EReal)
  k_real : ∀ i, ∃ r : ℝ, k i = (r : EReal)
  pad : ∀ n h d, q (ix2 n (lane h (half (otherOf h) d))) = 0
  one : ∀ h n, v (ix2 (vrow h 64) n) = 1

variable {q : Vec Ideal SQs .bf16} {k : Vec Ideal SKs .bf16} {v : Vec Ideal SVs .bf16}

/-- Under the precondition the scores are reals. -/
theorem score_real (H : Ok q k v) (b h : Fin 4) (Q K : Fin 8192) :
    score q k b h Q K = ((score q k b h Q K).toReal : EReal) := by
  choose fq hq using H.q_real
  choose fk hk using H.k_real
  have e : score q k b h Q K = ((∑ d : Fin 64, fk (ix2 (row b K) (half (kvOf h) d)) * fq (ix2 (row b Q) (lane h (half (kvOf h) d))) : ℝ) : EReal) := by
    rw [coe_sum]
    unfold score
    exact Finset.sum_congr rfl fun d _ => by rw [hq, hk, EReal.coe_mul]
  rw [e, EReal.toReal_coe]

/-- A sum over 128 lanes is the sums over its halves. -/
theorem sum_halves (f : Fin 128 → EReal) : ∑ d, f d = ∑ d, f (half 0 d) + ∑ d, f (half 1 d) := by
  refine (Fin.sum_univ_add (a := 64) (b := 64) f).trans (congrArg₂ (fun a b : EReal => a + b) ?_ ?_)
  · refine Finset.sum_congr rfl fun d _ => congrArg f (Fin.ext ?_)
    show d.val = 64 * 0 + d.val
    omega
  · refine Finset.sum_congr rfl fun d _ => congrArg f (Fin.ext ?_)
    show 64 + d.val = 64 * 1 + d.val
    omega

/-- The score over all 128 lanes: the other half's queries are zero. -/
theorem full_score (H : Ok q k v) (b h : Fin 4) (Q K : Fin 8192) :
    ∑ d : Fin 128, k (ix2 (row b K) d) * q (ix2 (row b Q) (lane h d)) = score q k b h Q K := by
  have z : ∑ d : Fin 64, k (ix2 (row b K) (half (otherOf h) d)) * q (ix2 (row b Q) (lane h (half (otherOf h) d))) = 0 :=
    Finset.sum_eq_zero fun d _ => by rw [H.pad, mul_zero]
  rw [sum_halves]
  unfold score
  by_cases hh : h.val < 2
  · have e0 : kvOf h = 0 := Fin.ext (by show h.val / 2 = 0; omega)
    have e1 : otherOf h = 1 := Fin.ext (by show 1 - h.val / 2 = 1; omega)
    rw [e1] at z
    rw [e0, z, add_zero]
  · have e0 : kvOf h = 1 := Fin.ext (by show h.val / 2 = 1; omega)
    have e1 : otherOf h = 0 := Fin.ext (by show 1 - h.val / 2 = 0; omega)
    rw [e1] at z
    rw [e0, z, zero_add]

theorem out_apply (b : Fin 4) (Q : Fin 8192) (h : Fin 4) (j : Fin 64) :
    out q k v (ix3 b Q (col h j)) = outAt q k v b Q h j := by
  unfold out
  have e1 : (64 * h.val + j.val) / 64 = h.val := by have := j.isLt; omega
  have e2 : (64 * h.val + j.val) % 64 = j.val := by have := j.isLt; omega
  have e3 : (⟨(64 * h.val + j.val) / 64, by omega⟩ : Fin 4) = h := Fin.ext e1
  have e4 : (⟨(64 * h.val + j.val) % 64, by omega⟩ : Fin 64) = j := Fin.ext e2
  show outAt q k v b Q ⟨(64 * h.val + j.val) / 64, _⟩ ⟨(64 * h.val + j.val) % 64, _⟩ = _
  rw [e3, e4]

end Cert.Gqa

end
-- ==== Proof.GqaBlock.lean ====
/- What a grid point of the grouped-query attention leaves in its output block: the attention body's words at
   its loads. -/
module

public import proofs.«01_k».proof.Proof.Gen.Kernel3Ideal.Value
public import proofs.«01_k».proof.Proof.Attn
public import proofs.«01_k».proof.Proof.GqaOut

@[expose] public section

set_option maxRecDepth 16384

noncomputable section

namespace Cert.Gqa

open Cert.Kernel3Ideal Cert.Kernel3Ideal.Gen Cert.Attn
open Idealize.ShloMosaic Idealize.ShloMosaic.TcCoe Idealize.SL.Sem Idealize.ShloMosaic.Tactic

variable {F : FTy → Type} [FloatOps F]

/-- Head `h`'s query tile. -/
def qLoad (x0 : Vec F S1x1024x512 .bf16) (h : Fin 4) : Vec F SQ .bf16 :=
  View.ld x0 (Rect.unit (s := S1x1024x512) ![0, 0, 128 * h.val] ![1, 1024, 128] (by revert h; decide))

/-- The keys, chunk `c`: every head's tile holds both key heads. -/
def kLoad (x1 : Vec F S1x8192x128 .bf16) (h c : Fin 4) : Vec F SK .bf16 :=
  View.ld x1 (Rect.unit (s := S1x8192x128) ![0, 2048 * c.val, 0] ![1, 2048, 128] (by revert c; decide))

/-- Head `h`'s values, chunk `c`. -/
def vLoad (x2 : Vec F S256x8192 .bf16) (h c : Fin 4) : Vec F SV .bf16 :=
  View.ld x2 (Rect.unit (s := S256x8192) ![128 * (kvOf h).val, 2048 * c.val] ![128, 2048] (by revert h c; decide))

/-- The body's one store, in words. -/
theorem run_eq (c : Dev nD) (i : grid0.Coords) (arg2 : Memref sig .tc .vmem S1x1024x512 .bf16) (harg2 : arg2.IsWhole) (arg3 : Memref sig .tc .vmem S1x8192x128 .bf16) (harg3 : arg3.IsWhole) (arg4 : Memref sig .tc .vmem S256x8192 .bf16) (harg4 : arg4.IsWhole) (arg5 : Memref sig .tc .vmem S1x1024x256 .f32) (harg5 : arg5.IsWhole) (arg6 : Memref sig .tc .vmem S2048x1024 .f32) (harg6 : arg6.IsWhole) (arg7 : Memref sig .tc .vmem S2048x1024 .f32) (harg7 : arg7.IsWhole)
    (x0 : Vec F S1x1024x512 .bf16) (x1 : Vec F S1x8192x128 .bf16) (x2 : Vec F S256x8192 .bf16) :
    (kernelRun0_A c i arg2 harg2 arg3 harg3 arg4 harg4 arg5 harg5 arg6 harg6 arg7 harg7 x0 x1 x2).1
      = [⟨Rect.unit ![0, 0, 0] ![1, 1024, 256] inb_S1x1024x256_S1x1024x256_0_0_0,
          attnBlock (qLoad x0) (kLoad x1) (vLoad x2)⟩] := by
  unfold kernelRun0_A
  dsimp only
  sl_unfold_words
  simp only [View.readAt_eq_ld, harg2.read_unread, harg3.read_unread, harg4.read_unread, View.readCov_cons_toLoadRect]
  rfl

end Cert.Gqa

end
-- ==== Proof.GqaFinal.lean ====
/- The kernel's result array after the run is the attention of its arguments. -/
module

public import proofs.«01_k».proof.Proof.GqaBlock
public import proofs.«01_k».proof.Proof.GqaOut
public import Idealize.ShloMosaic.Lib.Pipeline.ValueKit

@[expose] public section

set_option maxRecDepth 16384

noncomputable section

namespace Cert.Gqa

open Cert.Kernel3Ideal Cert.Kernel3Ideal.Gen Cert.AttnMath
open Cert.Mla (lane row wide col exists_col)
open Idealize.ShloMosaic hiding ix1 ix2 ix3 ix4 ix5
open Idealize.ShloMosaic.TcCoe Idealize.ShloMosaic.ValueIdx Idealize.SL.Sem
open Idealize.ShloMosaic.Pipeline (Dat)

variable (m : (ℓ : Loc nD τ sig) → Buf (Elt Ideal) ℓ)

abbrev argQ (c : Dev nD) : Vec Ideal SQs .bf16 := m ((c : Thread nD τ).loc main_arg0)
abbrev argK (c : Dev nD) : Vec Ideal SKs .bf16 := m ((c : Thread nD τ).loc main_arg1)
abbrev argV (c : Dev nD) : Vec Ideal SVs .bf16 := m ((c : Thread nD τ).loc main_arg2)

/-- The windows' index maps, at every grid point. -/
theorem idx : ∀ t : Fin cfg0.N, win0_0.index t = ![t.val / 8, t.val % 8, 0] ∧ win0_1.index t = ![t.val / 8, 0, 0]
    ∧ win0_2.index t = ![0, t.val / 8] ∧ win0_3.index t = ![t.val / 8, t.val % 8, 0] ∧ t.val / 8 < 4 :=
  (by decide +kernel : ∀ t : Fin grid0.N, _)

/-- The sequence of grid point `t`. -/
def seq (t : Fin cfg0.N) : Fin 4 := ⟨t.val / 8, (idx t).2.2.2.2⟩
/-- The query a block's row `u` is, at grid point `t`. -/
def qry (t : Fin cfg0.N) (u : Fin 1024) : Fin 8192 := ⟨1024 * (t.val % 8) + u.val, by omega⟩
/-- Chunk `c`'s key `r`. -/
def key (c : Fin 4) (r : Fin 2048) : Fin 8192 := ⟨2048 * c.val + r.val, by omega⟩

theorem q_read (c : Dev nD) (t : Fin cfg0.N) (u : Fin 1024) (l : Fin 512) :
    (iblk m c 0 t : Vec Ideal S1x1024x512 .bf16) (ix3 (0 : Fin 1) u l) = argQ m c (ix2 (row (seq t) (qry t u)) l) := by
  blk_simp [iblk]
  entry_read
  refine (shapeCast_apply _ _ _ (ix2 (row (seq t) (qry t u)) l) ?_).trans rfl
  refine (rowMajor_val2 _ 512 rfl).trans (Eq.trans ?_ (rowMajor_val3 _ (8192 * 512) 512 rfl rfl).symm)
  blk_simp [idx t]
  simp only [row, seq, qry]
  show _ * 512 + l.val = _ * (8192 * 512) + (_ + u.val) * 512 + l.val
  omega

theorem k_read (c : Dev nD) (t : Fin cfg0.N) (K : Fin 8192) (l : Fin 128) :
    (iblk m c 1 t : Vec Ideal S1x8192x128 .bf16) (ix3 (0 : Fin 1) K l) = argK m c (ix2 (row (seq t) K) l) := by
  blk_simp [iblk]
  entry_read
  refine (shapeCast_apply _ _ _ (ix2 (row (seq t) K) l) ?_).trans rfl
  refine (rowMajor_val2 _ 128 rfl).trans (Eq.trans ?_ (rowMajor_val3 _ (8192 * 128) 128 rfl rfl).symm)
  blk_simp [idx t]
  simp only [row, seq]
  show _ * 128 + l.val = _ * (8192 * 128) + K.val * 128 + l.val
  omega

theorem v_read (c : Dev nD) (t : Fin cfg0.N) (l : Fin 256) (K : Fin 8192) :
    (iblk m c 2 t : Vec Ideal S256x8192 .bf16) (ix2 l K) = argV m c (ix2 l (row (seq t) K)) := by
  blk_ext! [iblk, V, idx t, row, seq]
  show _ + K.val = _
  omega

theorem qLoad_apply {x0 : Vec Ideal S1x1024x512 .bf16} (h : Fin 4) (u : Fin 1024) (d : Fin 128) :
    qLoad x0 h (ix3 (0 : Fin 1) u d) = x0 (ix3 (0 : Fin 1) u (lane h d)) := by
  unfold qLoad
  refine View.ld_unit_apply_of _ _ _ _ _ _ fun a => ?_
  match a with
  | ⟨0, _⟩ => rfl
  | ⟨1, _⟩ => exact (Nat.zero_add _).symm
  | ⟨2, _⟩ => rfl

theorem kLoad_apply {x1 : Vec Ideal S1x8192x128 .bf16} (h c : Fin 4) (r : Fin 2048) (d : Fin 128) :
    kLoad x1 h c (ix3 (0 : Fin 1) r d) = x1 (ix3 (0 : Fin 1) (key c r) d) := by
  unfold kLoad
  refine View.ld_unit_apply_of _ _ _ _ _ _ fun a => ?_
  match a with
  | ⟨0, _⟩ => rfl
  | ⟨1, _⟩ => rfl
  | ⟨2, _⟩ => exact (Nat.zero_add _).symm

theorem vLoad_apply {x2 : Vec Ideal S256x8192 .bf16} (h c : Fin 4) (j : Fin 128) (r : Fin 2048) :
    vLoad x2 h c (ix2 j r) = x2 (ix2 (vrow (kvOf h) j) (key c r)) := by
  unfold vLoad
  refine View.ld_unit_apply_of _ _ _ _ _ _ fun a => ?_
  match a with
  | ⟨0, _⟩ => rfl
  | ⟨1, _⟩ => rfl

theorem key_ofNat (K : Fin 8192) : key (Fin.ofNat 4 (K.val / 2048)) (Fin.ofNat 2048 K.val) = K := by
  apply Fin.ext
  show 2048 * (K.val / 2048 % 4) + K.val % 2048 = K.val
  omega

/-- A block's number: the attention at the block's query. -/
theorem point (c : Dev nD) (t : Fin cfg0.N) (H : Ok (argQ m c) (argK m c) (argV m c)) (u : Fin 1024) (g : Fin 4) (j : Fin 64) :
    Cert.Attn.attnBlock (qLoad (iblk m c 0 t)) (kLoad (iblk m c 1 t)) (vLoad (iblk m c 2 t)) (ix3 (0 : Fin 1) u (col g j))
      = outAt (argQ m c) (argK m c) (argV m c) (seq t) (qry t u) g j := by
  unfold Cert.Attn.attnBlock
  refine (Cert.Attn.blockOut_apply _ u g j).trans ?_
  refine (Cert.Attn.head_apply _ _ _ u j
    (fun c' r => (score (argQ m c) (argK m c) (seq t) g (qry t u) (key c' r)).toReal) (fun c' r => ?_) (fun c' r => ?_)).trans ?_
  · rw [Cert.Attn.score_apply]
    refine Eq.trans ?_ ((full_score H (seq t) g (qry t u) (key c' r)).trans (score_real H (seq t) g (qry t u) (key c' r)))
    refine Finset.sum_congr rfl fun d _ => ?_
    rw [kLoad_apply, qLoad_apply, k_read, q_read]
  · rw [vLoad_apply, v_read]
    exact H.one _ _
  · unfold outAt
    show soft (n := 8192) _ _ = soft (n := 8192) _ _
    refine congrArg₂ (soft (n := 8192)) (funext fun K => ?_) (funext fun K => ?_)
    · show (score _ _ _ _ _ (key (Fin.ofNat 4 (K.val / 2048)) (Fin.ofNat 2048 K.val))).toReal = _
      rw [key_ofNat]
    · show vLoad (iblk m c 2 t) g (Fin.ofNat 4 (K.val / 2048)) (ix2 (wide j) (Fin.ofNat 2048 K.val)) = _
      rw [vLoad_apply, key_ofNat, v_read]

/-- What a grid point leaves in its output block. -/
theorem outs_eq (c : Dev nD) (t : Fin cfg0.N) :
    outsAt0 m c t = Cert.Attn.attnBlock (qLoad (iblk m c 0 t)) (kLoad (iblk m c 1 t)) (vLoad (iblk m c 2 t)) := by
  unfold outsAt0 out0_A_3
  rw [View.read_writes_eq_canon _ _ _ (cover0_A_3 c _ _ _ _ _ _ _ _ _ _ _ _ _ _ _ _), run_eq]
  exact View.canon_unit_zero (by funext a; match a with | ⟨0, _⟩ => rfl | ⟨1, _⟩ => rfl | ⟨2, _⟩ => rfl) _ _

/-- The kernel's result array. -/
theorem final (c : Dev nD) (H : Ok (argQ m c) (argK m c) (argV m c)) :
    (dats m 0 c).arrAt 3 (cfgs 0).N = out (argQ m c) (argK m c) (argV m c) := by
  refine (dats m 0 c).arrAt_eq_of_covers 3 _ (by decide +kernel) fun t _ y => ?_
  blk_simp
  rw [after0_3, outs_eq]
  obtain ⟨g, j, e⟩ := exists_col (y 2)
  have ey : y = ix3 (0 : Fin 1) (y 1) (col g j) := by
    refine (ValueIdx.eq_ix3 y).trans ?_
    rw [← e]
    exact congrArg (fun z : Fin 1 => ix3 z (y 1) (y 2)) (Subsingleton.elim _ _)
  rw [ey]
  refine (point m c t H (y 1) g j).trans ?_
  refine (out_apply _ _ _ _).symm.trans (congrArg _ ?_)
  blk_ext [idx t, seq, qry, col]
  show _ = _ + (y 1).val
  omega

end Cert.Gqa

end
-- ==== Proof.GqaRef.lean ====
/- The reference's result is the grouped-query attention of its arguments. -/
module

public import proofs.«01_k».proof.Proof.GqaOut
public import proofs.«01_k».proof.Proof.MlaRef
public import proofs.«01_k».proof.Proof.Gen.Reference3Ideal.Read

@[expose] public section

set_option maxRecDepth 16384

noncomputable section

namespace Cert.Gqa.Ref

open Cert.Reference3Ideal Cert.Reference3Ideal.Gen Cert.Reference3Ideal.Read Cert.AttnMath
open Cert.Mla (lane row wide col exists_col)
open Cert.Mla.Ref (ofBits_two log_two)
open Idealize.ShloMosaic Idealize.ShloMosaic.ValueIdx

variable (q : Vec Ideal SQs .bf16) (k : Vec Ideal SKs .bf16) (v : Vec Ideal SVs .bf16)

theorem tile_at (b : Fin 4) (Q : Fin 8192) (h : Fin 4) (d : Fin 128) :
    val_main_v1 (F := Ideal) q (ix4 b Q h d) = q (ix2 (row b Q) (lane h d)) := by
  rw [val_main_v1_apply, val_main_v0_apply]
  refine congrArg q (funext fun a => Fin.ext ?_)
  match a with
  | ⟨0, _⟩ => show (((b.val * 8192 + Q.val) * 4 + h.val) * 128 + d.val) / 512 = 8192 * b.val + Q.val; omega
  | ⟨1, _⟩ => show (((b.val * 8192 + Q.val) * 4 + h.val) * 128 + d.val) % 512 = 128 * h.val + d.val; omega

/-- Which half a head's lanes are in. -/
theorem first_at (b : Fin 4) (Q : Fin 8192) (h : Fin 4) (d : Fin 64) :
    val_main_call0_v0 (F := Ideal) (ix4 b Q h d) = if h.val < 2 then 1#1 else 0#1 := by
  rw [val_main_call0_v0_apply, val_main_v5_apply, val_main_v3_apply, val_main_v2_apply, val_main_v4_apply, val_main_c_apply]
  show IntOp.cmpi .slt (BitVec.ofNat 32 h.val) 2#32 = _
  revert h
  decide

theorem q_at (b : Fin 4) (Q : Fin 8192) (h : Fin 4) (d : Fin 64) :
    val_main_v9 (F := Ideal) q (ix5 b Q (kvOf h) (grpOf h) d) = q (ix2 (row b Q) (lane h (half (kvOf h) d))) := by
  rw [val_main_v9_apply]
  have e : idx_main_v9 (ix5 b Q (kvOf h) (grpOf h) d) = ix4 b Q h d := by
    funext a
    apply Fin.ext
    match a with
    | ⟨0, _⟩ => show ((((b.val * 8192 + Q.val) * 2 + h.val / 2) * 2 + h.val % 2) * 64 + d.val) / 2097152 = b.val; omega
    | ⟨1, _⟩ => show ((((b.val * 8192 + Q.val) * 2 + h.val / 2) * 2 + h.val % 2) * 64 + d.val) / 256 % 8192 = Q.val; omega
    | ⟨2, _⟩ => show ((((b.val * 8192 + Q.val) * 2 + h.val / 2) * 2 + h.val % 2) * 64 + d.val) / 64 % 4 = h.val; omega
    | ⟨3, _⟩ => show ((((b.val * 8192 + Q.val) * 2 + h.val / 2) * 2 + h.val % 2) * 64 + d.val) % 64 = d.val; omega
  rw [e, val_main_v8_apply, first_at]
  by_cases hh : h.val < 2
  · rw [if_pos hh]
    refine (val_main_v6_apply (F := Ideal) q (ix4 b Q h d)).trans (Eq.trans (congrArg (val_main_v1 (F := Ideal) q) ?_) (tile_at q b Q h (half (kvOf h) d)))
    funext a
    apply Fin.ext
    match a with
    | ⟨0, _⟩ => rfl
    | ⟨1, _⟩ => rfl
    | ⟨2, _⟩ => rfl
    | ⟨3, _⟩ => show d.val = 64 * (h.val / 2) + d.val; omega
  · rw [if_neg hh]
    refine (val_main_v7_apply (F := Ideal) q (ix4 b Q h d)).trans (Eq.trans (congrArg (val_main_v1 (F := Ideal) q) ?_) (tile_at q b Q h (half (kvOf h) d)))
    funext a
    apply Fin.ext
    match a with
    | ⟨0, _⟩ => rfl
    | ⟨1, _⟩ => rfl
    | ⟨2, _⟩ => rfl
    | ⟨3, _⟩ => show 64 + d.val = 64 * (h.val / 2) + d.val; omega

theorem k_at (b : Fin 4) (K : Fin 8192) (n : Fin 2) (d : Fin 64) :
    val_main_v11 (F := Ideal) k (ix4 b K n d) = k (ix2 (row b K) (half n d)) := by
  rw [val_main_v11_apply, val_main_v10_apply]
  refine congrArg k (funext fun a => Fin.ext ?_)
  match a with
  | ⟨0, _⟩ => show (((b.val * 8192 + K.val) * 2 + n.val) * 64 + d.val) / 128 = 8192 * b.val + K.val; omega
  | ⟨1, _⟩ => show (((b.val * 8192 + K.val) * 2 + n.val) * 64 + d.val) % 128 = 64 * n.val + d.val; omega

theorem v_at (n : Fin 2) (j : Fin 64) (b : Fin 4) (K : Fin 8192) :
    val_main_v14 (F := Ideal) v (ix4 n j b K) = v (ix2 (vrow n (wide j)) (row b K)) := by
  rw [val_main_v14_apply, val_main_v13_apply, val_main_v12_apply]
  refine congrArg v (funext fun a => Fin.ext ?_)
  match a with
  | ⟨0, _⟩ => show (((n.val * 128 + (j.val)) * 4 + b.val) * 8192 + K.val) / 32768 = 128 * n.val + j.val; omega
  | ⟨1, _⟩ => show (((n.val * 128 + (j.val)) * 4 + b.val) * 8192 + K.val) % 32768 = 8192 * b.val + K.val; omega

theorem score_at (b h : Fin 4) (Q K : Fin 8192) :
    val_main_v16 (F := Ideal) q k (ix5 b (kvOf h) (grpOf h) Q K) = score q k b h Q K := by
  rw [val_main_v16_apply, val_main_v15_apply]
  unfold score
  refine Finset.sum_congr rfl fun d _ => ?_
  have el : lidx_main_v15 (idx_main_v16 (ix5 b (kvOf h) (grpOf h) Q K)) d = ix4 b K (kvOf h) d := by
    funext a; match a with | ⟨0, _⟩ => rfl | ⟨1, _⟩ => rfl | ⟨2, _⟩ => rfl | ⟨3, _⟩ => rfl
  have er : ridx_main_v15 (idx_main_v16 (ix5 b (kvOf h) (grpOf h) Q K)) d = ix5 b Q (kvOf h) (grpOf h) d := by
    funext a; match a with | ⟨0, _⟩ => rfl | ⟨1, _⟩ => rfl | ⟨2, _⟩ => rfl | ⟨3, _⟩ => rfl | ⟨4, _⟩ => rfl
  rw [el, er, q_at, k_at]

variable {q k v}

/-- The scaled scores. -/
theorem scaled_at (H : Ok q k v) (b h : Fin 4) (Q K : Fin 8192) :
    val_main_v19 (F := Ideal) q k (ix5 b (kvOf h) (grpOf h) Q K) = (((score q k b h Q K).toReal * Real.log 2 : ℝ) : EReal) := by
  rw [val_main_v19_apply, score_at, val_main_v18_apply, val_main_v17_apply, val_main_cst_apply, EReal.coe_mul, ← score_real H,
    ← log_two, ← ofBits_two]
  rfl

/-- Every query's maximum is a real. -/
theorem max_at (H : Ok q k v) (b h : Fin 4) (Q : Fin 8192) :
    ∃ μ : ℝ, ∀ K, val_main_v24 (F := Ideal) q k (ix5 b (kvOf h) (grpOf h) Q K) = (μ : EReal) := by
  obtain ⟨μ, hμ⟩ := fold_coe (Finset.univ : Finset (Fin 8192)) 0 (Finset.mem_univ _)
    (fun K => (score q k b h Q K).toReal * Real.log 2)
  refine ⟨μ, fun K => ?_⟩
  have e20 : val_main_v20 (F := Ideal) q k (ix4 b (kvOf h) (grpOf h) Q) = (μ : EReal) := by
    unfold val_main_v20
    dsimp only
    refine (Host.reduce_eq_fold_single (FloatOps.maximumf (F := Ideal) (φ := .f32)) _ _ _ (by decide) _ (ix4 b (kvOf h) (grpOf h) Q)).trans ?_
    refine Eq.trans ?_ hμ
    show Finset.fold _ (Ideal.ofBits .f32 0xFF800000#32) _ _ = _
    rw [Cert.Attn.ofBits_neg_inf]
    refine congrArg (fun f => Finset.fold max ⊥ f (Finset.univ : Finset (Fin 8192))) (funext fun K' => ?_)
    refine Eq.trans (congrArg (val_main_v19 (F := Ideal) q k) (?_ : _ = ix5 b (kvOf h) (grpOf h) Q K')) (scaled_at H b h Q K')
    funext a; match a with | ⟨0, _⟩ => rfl | ⟨1, _⟩ => rfl | ⟨2, _⟩ => rfl | ⟨3, _⟩ => rfl | ⟨4, _⟩ => rfl
  rw [val_main_v24_apply, val_main_v23_apply, val_main_v22_apply, val_main_v21_apply, val_main_cst_1_apply]
  have e : idx_main_v23 (idx_main_v24 (ix5 b (kvOf h) (grpOf h) Q K)) = ix4 b (kvOf h) (grpOf h) Q := by
    funext a; match a with | ⟨0, _⟩ => rfl | ⟨1, _⟩ => rfl | ⟨2, _⟩ => rfl | ⟨3, _⟩ => rfl
  rw [e, e20]
  show max (Ideal.ofBits .f32 0xFF800000#32) (μ : EReal) = _
  rw [Cert.Attn.ofBits_neg_inf]
  exact max_eq_right bot_le

/-- The reference's result array. -/
theorem result (H : Ok q k v) : val_main_v33 (F := Ideal) q k v = out q k v := by
  funext i
  obtain ⟨h, j, e⟩ := exists_col (i 2)
  obtain ⟨b, hb⟩ : ∃ b : Fin 4, b = i 0 := ⟨_, rfl⟩
  obtain ⟨Q, hQ⟩ : ∃ Q : Fin 8192, Q = i 1 := ⟨_, rfl⟩
  have ei : i = ix3 b Q (col h j) := by
    rw [hb, hQ, ← e]
    exact eq_ix3 i
  rw [ei, out_apply, val_main_v33_apply, val_main_v32_apply, val_main_v31_apply]
  obtain ⟨μ, hμ⟩ := max_at H b h Q
  have e26 : ∀ K, val_main_v26 (F := Ideal) q k (ix5 b (kvOf h) (grpOf h) Q K)
      = Ideal.exp ((((score q k b h Q K).toReal * Real.log 2 : ℝ) : EReal) - (μ : EReal)) := fun K => by
    rw [val_main_v26_apply, val_main_v25_apply, scaled_at H, hμ]
    rfl
  have e29 : ∀ K, val_main_v29 (F := Ideal) q k (ix5 b (kvOf h) (grpOf h) Q K)
      = 0 + ∑ K', Ideal.exp ((((score q k b h Q K').toReal * Real.log 2 : ℝ) : EReal) - (μ : EReal)) := fun K => by
    rw [val_main_v29_apply, val_main_v28_apply, val_main_v27_apply]
    refine congrArg₂ (· + ·) Ideal.ofBits_zero_f32 (Finset.sum_congr rfl fun K' _ => ?_)
    refine Eq.trans (congrArg _ ?_) (e26 K')
    funext a; match a with | ⟨0, _⟩ => rfl | ⟨1, _⟩ => rfl | ⟨2, _⟩ => rfl | ⟨3, _⟩ => rfl | ⟨4, _⟩ => rfl
  unfold outAt
  refine Eq.trans ?_ (textbook (n := 8192) (by decide) (fun K => (score q k b h Q K).toReal) _ μ)
  refine Finset.sum_congr rfl fun K _ => ?_
  have e33 : idx_main_v33 (ix3 b Q (col h j)) = ix5 b Q (kvOf h) (grpOf h) j := by
    funext a
    apply Fin.ext
    match a with
    | ⟨0, _⟩ => show ((b.val * 8192 + Q.val) * 256 + (64 * h.val + j.val)) / 2097152 = b.val; omega
    | ⟨1, _⟩ => show ((b.val * 8192 + Q.val) * 256 + (64 * h.val + j.val)) / 256 % 8192 = Q.val; omega
    | ⟨2, _⟩ => show ((b.val * 8192 + Q.val) * 256 + (64 * h.val + j.val)) / 128 % 2 = h.val / 2; omega
    | ⟨3, _⟩ => show ((b.val * 8192 + Q.val) * 256 + (64 * h.val + j.val)) / 64 % 2 = h.val % 2; omega
    | ⟨4, _⟩ => show ((b.val * 8192 + Q.val) * 256 + (64 * h.val + j.val)) % 64 = j.val; omega
  rw [e33]
  have el : lidx_main_v31 (idx_main_v32 (ix5 b Q (kvOf h) (grpOf h) j)) K = ix4 (kvOf h) j b K := by
    funext a; match a with | ⟨0, _⟩ => rfl | ⟨1, _⟩ => rfl | ⟨2, _⟩ => rfl | ⟨3, _⟩ => rfl
  have er : ridx_main_v31 (idx_main_v32 (ix5 b Q (kvOf h) (grpOf h) j)) K = ix5 b (kvOf h) (grpOf h) Q K := by
    funext a; match a with | ⟨0, _⟩ => rfl | ⟨1, _⟩ => rfl | ⟨2, _⟩ => rfl | ⟨3, _⟩ => rfl | ⟨4, _⟩ => rfl
  rw [el, er, v_at, val_main_v30_apply, e26, e29]
  rfl

end Cert.Gqa.Ref

end
-- ==== Proof.GqaPre.lean ====
/- The precondition, read: real queries and keys, the zero halves, and the row of ones. -/
module

public import proofs.«01_k».proof.Proof.MlaPre
public import proofs.«01_k».proof.Proof.GqaOut
public import proofs.«01_k».proof.Proof.Gen.Pre_padded_heads
public import Idealize.ShloMosaic.Lib.ReduceAll
public import Idealize.ShloMosaic.Lib.Pointwise
public import Idealize.ShloMosaic.Lib.IdealHost

@[expose] public section

set_option maxRecDepth 16384

noncomputable section

namespace Cert.Gqa

open Cert.Pre_padded_heads Cert.Pre_padded_heads.Gen Cert.AttnMath
open Cert.Mla (lane row wide col and_split real_of_abs)
open Idealize.ShloMosaic hiding ix1 ix2 ix3 ix4 ix5
open Idealize.ShloMosaic.ValueIdx

theorem eq_zero_of_cmp {x : EReal} (h : Ideal.cmp .oeq x (Ideal.ofBits .f32 0x00000000#32) = 1#1) : x = 0 := by
  rw [Ideal.ofBits_zero_f32] at h
  by_contra hn
  simp [Ideal.cmp, hn] at h

theorem eq_one_of_cmp {x : EReal} (h : Ideal.cmp .oeq x (Ideal.ofBits .f32 0x3F800000#32) = 1#1) : x = 1 := by
  rw [Ideal.ofBits_one_f32] at h
  by_contra hn
  simp [Ideal.cmp, hn] at h

theorem ok_of_pre {q : Vec Ideal SQs .bf16} {k : Vec Ideal SKs .bf16} {v : Vec Ideal SVs .bf16}
    (h : Cert.Pre_padded_heads.fn (F := Ideal) q k v = fun _ => 1#1) : Ok q k v := by
  have h0 := congrFun h (fun a => a.elim0)
  unfold Cert.Pre_padded_heads.fn Cert.Pre_padded_heads.fn_part1 at h0
  dsimp only at h0
  obtain ⟨h123, h4⟩ := and_split h0
  obtain ⟨h12, h3⟩ := and_split h123
  obtain ⟨h1, h2⟩ := and_split h12
  obtain ⟨h5, h6⟩ := and_split h3
  haveI : Subsingleton S_.Idx := ⟨fun a b => funext fun i => i.elim0⟩
  -- the queries, head by head
  have hq : ∀ (y : FVec Ideal S32768x512 .bf16) (n : Fin 32768) (h : Fin 4) (l : Fin 128),
      shapeCast S32768x4x128 y shapeCasts_S32768x512_S32768x4x128 (ix3 n h l) = y (ix2 n (lane h l)) := fun y n h l => by
    refine shapeCast_apply _ _ _ (ix2 n (lane h l)) ?_
    refine (rowMajor_val2 _ 512 rfl).trans (Eq.trans ?_ (rowMajor_val3 _ (4 * 128) 128 rfl rfl).symm)
    show n.val * 512 + (128 * h.val + l.val) = n.val * (4 * 128) + h.val * 128 + l.val
    omega
  refine ⟨fun i => ?_, fun i => ?_, fun n h d => ?_, fun g n => ?_⟩
  · have e := Host.reduce_andi_all _ _ _ _ _ h1 i
    refine real_of_abs ?_
    rw [← Cert.Attn.ofBits_pos_inf]
    exact e
  · have e := Host.reduce_andi_all _ _ _ _ _ h2 i
    refine real_of_abs ?_
    rw [← Cert.Attn.ofBits_pos_inf]
    exact e
  · by_cases hh : h.val < 2
    · have e := Host.reduce_andi_all _ _ _ _ _ h5 (ix3 n (⟨h.val, hh⟩ : Fin 2) d)
      refine eq_zero_of_cmp (Eq.trans (congrArg (fun z => Ideal.cmp .oeq z (Ideal.ofBits .f32 0x00000000#32)) ?_) e)
      symm
      refine (extractStridedSlice_apply _ _ _ _ (ix3 n h (half (otherOf h) d)) fun a => ?_).trans (hq _ n h _)
      match a with
      | ⟨0, _⟩ => exact (Nat.zero_add _).symm
      | ⟨1, _⟩ => exact (Nat.zero_add _).symm
      | ⟨2, _⟩ => show 64 * (1 - h.val / 2) + d.val = 64 + d.val; omega
    · have e := Host.reduce_andi_all _ _ _ _ _ h6 (ix3 n (⟨h.val - 2, by omega⟩ : Fin 2) d)
      refine eq_zero_of_cmp (Eq.trans (congrArg (fun z => Ideal.cmp .oeq z (Ideal.ofBits .f32 0x00000000#32)) ?_) e)
      symm
      refine (extractStridedSlice_apply _ _ _ _ (ix3 n h (half (otherOf h) d)) fun a => ?_).trans (hq _ n h _)
      match a with
      | ⟨0, _⟩ => exact (Nat.zero_add _).symm
      | ⟨1, _⟩ => show h.val = 2 + (h.val - 2); omega
      | ⟨2, _⟩ => show 64 * (1 - h.val / 2) + d.val = 0 + d.val; omega
  · have e := Host.reduce_andi_all _ _ _ _ _ h4 (ix2 g n)
    refine eq_one_of_cmp (Eq.trans (congrArg (fun z => Ideal.cmp .oeq z (Ideal.ofBits .f32 0x3F800000#32)) ?_) e)
    symm
    refine (shapeCast_apply _ _ (ix2 g n) (ix3 g (0 : Fin 1) n) ?_).trans ?_
    · refine (rowMajor_val3 _ 32768 32768 rfl rfl).trans (Eq.trans ?_ (rowMajor_val2 _ 32768 rfl).symm)
      show g.val * 32768 + 0 * 32768 + n.val = g.val * 32768 + n.val
      omega
    refine (extractStridedSlice_apply _ _ _ _ (ix3 g (64 : Fin 128) n) fun a => ?_).trans ?_
    · match a with
      | ⟨0, _⟩ => exact (Nat.zero_add _).symm
      | ⟨1, _⟩ => rfl
      | ⟨2, _⟩ => exact (Nat.zero_add _).symm
    refine (shapeCast_apply _ _ _ (ix2 (vrow g 64) n) ?_).trans rfl
    refine (rowMajor_val2 _ 32768 rfl).trans (Eq.trans ?_ (rowMajor_val3 _ (128 * 32768) 32768 rfl rfl).symm)
    show (128 * g.val + 64) * 32768 + n.val = g.val * (128 * 32768) + 64 * 32768 + n.val
    omega

end Cert.Gqa

end
-- ==== Proof.XattnFrame.lean ====
/- The cross attention's body, run once: what it leaves in its two output blocks (the tokens' block of the layer-normed
   rows, and the same rows as eight lane groups with a stride of eight), the run of the whole grid, and from it that every
   execution ends with the arguments as they were. -/
module

public import proofs.«01_k».proof.Proof.Gen.Kernel4Ideal.Frame
public import proofs.«01_k».proof.Proof.Gen.Kernel4Ideal.Skeleton
public import Idealize.ShloMosaic.Lib.Claim
public import Idealize.ShloMosaic.Lib.UnfoldOut
public import Idealize.ShloMosaic.Lib.Pipeline.Value

@[expose] public section

set_option maxRecDepth 16384
set_option Elab.async false

noncomputable section

namespace Cert.Kernel4Ideal.Xattn

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body computes -/

abbrev whole3 : Rect S1x256x1024 := Rect.unit (s := S1x256x1024) ![0, 0, 0] S1x256x1024.size inb_S1x256x1024_S1x256x1024_0_0_0
abbrev wholeW : Rect S1024x1024 := Rect.unit (s := S1024x1024) ![0, 0] S1024x1024.size inb_S1024x1024_S1024x1024_0_0
abbrev wholeV : Rect S1x1024 := Rect.unit (s := S1x1024) ![0, 0] S1x1024.size inb_S1x1024_S1x1024_0_0
abbrev cols0 : Rect S1x256x1024 := Rect.unit (s := S1x256x1024) ![0, 0, 0] S1x256x256.size inb_S1x256x1024_S1x256x256_0_0_0
abbrev cols1 : Rect S1x256x1024 := Rect.unit (s := S1x256x1024) ![0, 0, 256] S1x256x256.size inb_S1x256x1024_S1x256x256_0_0_256
abbrev cols2 : Rect S1x256x1024 := Rect.unit (s := S1x256x1024) ![0, 0, 512] S1x256x256.size inb_S1x256x1024_S1x256x256_0_0_512
abbrev cols3 : Rect S1x256x1024 := Rect.unit (s := S1x256x1024) ![0, 0, 768] S1x256x256.size inb_S1x256x1024_S1x256x256_0_0_768

/-- The scaled queries. -/
def quer (x0 : Vec F S1x256x1024 .f32) (x1 : Vec F S1024x1024 .bf16) : FVec F S256x1024 .bf16 :=
  k0_pay9 (View.ld x0 whole3) (View.ld x1 wholeW)

/-- The layer-normed rows, from all seven input blocks. -/
def normed (x0 : Vec F S1x256x1024 .f32) (x1 : Vec F S1024x1024 .bf16) (x2 x3 : Vec F S1x256x1024 .bf16) (x4 : Vec F S1024x1024 .bf16) (x5 x6 : Vec F S1x1024 .f32) : FVec F S256x1024 .f32 :=
  k0_pay17 (k0_pay8 (View.ld x0 whole3))
    (k0_pay10 (View.ld x0 whole3) (View.ld x1 wholeW) (View.ld x2 cols0) (View.ld x3 cols0))
    (k0_pay13 (k0_pay11 (View.ld x0 whole3) (View.ld x1 wholeW) (View.ld x2 cols1))
      (k0_pay12 (View.ld x0 whole3) (View.ld x1 wholeW) (View.ld x2 cols1)) (View.ld x3 cols1))
    (k0_pay14 (quer x0 x1) (View.ld x2 cols2) (View.ld x3 cols2))
    (k0_pay15 (quer x0 x1) (View.ld x2 cols3)) (k0_pay16 (quer x0 x1) (View.ld x2 cols3)) (View.ld x3 cols3)
    (View.ld x4 wholeW) (View.ld x5 wholeV) (View.ld x6 wholeV)

/-- The block of tokens it leaves. -/
def outTok (n : FVec F S256x1024 .f32) : Vec F S1x256x1024 .f32 :=
  View.canon [⟨whole3, shapeCast S1x256x1024 n shapeCasts_S256x1024_S1x256x1024⟩]

/-- The eight lane groups, the last stored first. -/
abbrev lanes (p0 p1 p2 p3 p4 p5 p6 p7 : Vec F S256x128 .f32) : List (View.Piece (Elt F) S2048x128 .f32) :=
  [⟨(⟨(⟨![7, 0], S256x128.size, ![8, 1], inb_S2048x128_S256x128_7_0_s_8_1⟩ : LoadRect S2048x128), spos_8_1⟩ : Rect S2048x128), p7⟩, ⟨(⟨(⟨![6, 0], S256x128.size, ![8, 1], inb_S2048x128_S256x128_6_0_s_8_1⟩ : LoadRect S2048x128), spos_8_1⟩ : Rect S2048x128), p6⟩, ⟨(⟨(⟨![5, 0], S256x128.size, ![8, 1], inb_S2048x128_S256x128_5_0_s_8_1⟩ : LoadRect S2048x128), spos_8_1⟩ : Rect S2048x128), p5⟩, ⟨(⟨(⟨![4, 0], S256x128.size, ![8, 1], inb_S2048x128_S256x128_4_0_s_8_1⟩ : LoadRect S2048x128), spos_8_1⟩ : Rect S2048x128), p4⟩, ⟨(⟨(⟨![3, 0], S256x128.size, ![8, 1], inb_S2048x128_S256x128_3_0_s_8_1⟩ : LoadRect S2048x128), spos_8_1⟩ : Rect S2048x128), p3⟩, ⟨(⟨(⟨![2, 0], S256x128.size, ![8, 1], inb_S2048x128_S256x128_2_0_s_8_1⟩ : LoadRect S2048x128), spos_8_1⟩ : Rect S2048x128), p2⟩, ⟨(⟨(⟨![1, 0], S256x128.size, ![8, 1], inb_S2048x128_S256x128_1_0_s_8_1⟩ : LoadRect S2048x128), spos_8_1⟩ : Rect S2048x128), p1⟩, ⟨(⟨(⟨![0, 0], S256x128.size, ![8, 1], inb_S2048x128_S256x128_0_0_s_8_1⟩ : LoadRect S2048x128), spos_8_1⟩ : Rect S2048x128), p0⟩]

/-- The block of lines it leaves. -/
def outLin (n : FVec F S256x1024 .f32) : Vec F S2048x128 .f32 :=
  View.canon (lanes (extractStridedSlice S256x128 ![0, 0] n slices_S256x1024_o0_0_S256x128)
    (k0_pay1 n) (k0_pay2 n) (k0_pay3 n) (k0_pay4 n) (k0_pay5 n) (k0_pay6 n) (k0_pay7 n))

/-! ## Both blocks are covered -/

theorem cover_tok (p : Vec F S1x256x1024 .f32) (y : S1x256x1024.Idx) :
    ∃ pc ∈ ([⟨whole3, p⟩] : List (View.Piece (Elt F) S1x256x1024 .f32)), y ∈ pc.1.set :=
  View.cover_of_tiled [⟨whole3, p⟩] S1x256x1024.size (by rfl) y

/-- Line r lies in lane group r mod 8. -/
theorem mem_lane (s : ℕ) (hs : s < 8) (inb : ∀ a, S256x128.size a = 0 ∨ (![s, 0] : Fin 2 → ℕ) a + (![8, 1] : Fin 2 → ℕ) a * (S256x128.size a - 1) < S2048x128.size a)
    (y : S2048x128.Idx) (hy : (y 0).val % 8 = s) :
    y ∈ ((⟨![s, 0], S256x128.size, ![8, 1], inb⟩ : LoadRect S2048x128)).set := by
  rw [LoadRect.mem_set]
  have h0 : (y 0).val < 2048 := (y 0).isLt
  have h1 : (y 1).val < 128 := (y 1).isLt
  intro a
  match a with
  | ⟨0, _⟩ => exact ⟨(y 0).val / 8, show (y 0).val / 8 < 256 by omega, show (y 0).val = s + 8 * ((y 0).val / 8) by omega⟩
  | ⟨1, _⟩ => exact ⟨(y 1).val, show (y 1).val < 128 by omega, show (y 1).val = 0 + 1 * (y 1).val by omega⟩

theorem cover_lin (p0 p1 p2 p3 p4 p5 p6 p7 : Vec F S256x128 .f32) (y : S2048x128.Idx) :
    ∃ pc ∈ lanes p0 p1 p2 p3 p4 p5 p6 p7, y ∈ pc.1.set := by
  have h8 : (y 0).val % 8 < 8 := Nat.mod_lt _ (by decide)
  rcases (show (y 0).val % 8 = 0 ∨ (y 0).val % 8 = 1 ∨ (y 0).val % 8 = 2 ∨ (y 0).val % 8 = 3 ∨ (y 0).val % 8 = 4
      ∨ (y 0).val % 8 = 5 ∨ (y 0).val % 8 = 6 ∨ (y 0).val % 8 = 7 by omega) with e | e | e | e | e | e | e | e
  · exact ⟨_, .tail _ (.tail _ (.tail _ (.tail _ (.tail _ (.tail _ (.tail _ (.head _))))))), mem_lane 0 (by decide) _ y e⟩
  · exact ⟨_, .tail _ (.tail _ (.tail _ (.tail _ (.tail _ (.tail _ (.head _)))))), mem_lane 1 (by decide) _ y e⟩
  · exact ⟨_, .tail _ (.tail _ (.tail _ (.tail _ (.tail _ (.head _))))), mem_lane 2 (by decide) _ y e⟩
  · exact ⟨_, .tail _ (.tail _ (.tail _ (.tail _ (.head _)))), mem_lane 3 (by decide) _ y e⟩
  · exact ⟨_, .tail _ (.tail _ (.tail _ (.head _))), mem_lane 4 (by decide) _ y e⟩
  · exact ⟨_, .tail _ (.tail _ (.head _)), mem_lane 5 (by decide) _ y e⟩
  · exact ⟨_, .tail _ (.head _), mem_lane 6 (by decide) _ y e⟩
  · exact ⟨_, .head _, mem_lane 7 (by decide) _ y e⟩

/-! ## The body's triple -/

set_option maxHeartbeats 1000000 in
/-- The body on whole buffers, the inputs at their blocks: it ends with the inputs as they were and the two outputs at
    `outTok` and `outLin` of the layer-normed rows. -/
theorem sound_kernel (c : Dev nD) (E : Set ℕ) (i : grid0.Coords) (arg2 : Memref sig .tc .vmem S1x256x1024 .f32) (harg2 : arg2.IsWhole) (arg3 : Memref sig .tc .vmem S1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x256x1024 .f32) (harg9 : arg9.IsWhole) (arg10 : Memref sig .tc .vmem S2048x128 .f32) (harg10 : arg10.IsWhole)
    (x0 : Vec F S1x256x1024 .f32) (x1 : Vec F S1024x1024 .bf16) (x2 : Vec F S1x256x1024 .bf16) (x3 : Vec F S1x256x1024 .bf16) (x4 : Vec F S1024x1024 .bf16) (x5 : Vec F S1x1024 .f32) (x6 : Vec F S1x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (outTok (normed x0 x1 x2 x3 x4 x5 x6)) ∗ owns (c : Thread nD τ) arg10 fullShare (outLin (normed x0 x1 x2 x3 x4 x5 x6))) -∗ K ⟨⟩))
      ⊢ wp frame (wpE (defs₀ (F := F)) Variants.none c none) E (cc0_cross_attn i arg2 harg2 arg3 harg3 arg4 harg4 arg5 harg5 arg6 harg6 arg7 harg7 arg8 harg8 arg9 harg9 arg10 harg10) K := by
  simp only [cc0_cross_attn_eq_skeleton]; unfold cc0_cross_attn_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (View.read_writes_eq_canon _ _ _ (cover_tok _)).trans ?_
    rfl
  iexists _; isplitr
  swap; · iexact H8
  ipureintro
  refine (View.read_writes_eq_canon _ _ _ (cover_lin _ _ _ _ _ _ _ _)).trans ?_
  rfl

/-! ## The pipeline's proof data -/

/-- The proof data of the grid's run: each input's buffer at its block, the outputs' at what the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outTok (normed (iblk m c 0 t) (iblk m c 1 t) (iblk m c 2 t) (iblk m c 3 t) (iblk m c 4 t) (iblk m c 5 t) (iblk m c 6 t))
    | ⟨8, _⟩ => outLin (normed (iblk m c 0 t) (iblk m c 1 t) (iblk m c 2 t) (iblk m c 3 t) (iblk m c 4 t) (iblk m c 5 t) (iblk m c 6 t))
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = outTok (normed (iblk m c 0 t) (iblk m c 1 t) (iblk m c 2 t) (iblk m c 3 t) (iblk m c 4 t) (iblk m c 5 t) (iblk m c 6 t)) := by dsimp only [dats]
theorem after_8 (c : Dev nD) (t : Fin cfg0.N) : (dats m 0 c).after 8 t = outLin (normed (iblk m c 0 t) (iblk m c 1 t) (iblk m c 2 t) (iblk m c 3 t) (iblk m c 4 t) (iblk m c 5 t) (iblk m c 6 t)) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-! ## The body at a point -/

/-- What the body is handed at a point, and what it hands back. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The body at any point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- Every execution ends, with the arrays at what the proof data say and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The frame: the arguments end unchanged and no semaphore is left raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

/-- The run with its two result arrays named. -/
theorem run_arrays : θ_run defs (onTc (τ := τ) (main (F := F))) ⟨m, fun _ => 0, ρ⟩ fun r => ∀ c : Dev nD,
      r.2.mem ((c : Thread nD τ).loc main_v0_0) = (dats m 0 c).arrAt 7 cfg0.N
      ∧ r.2.mem ((c : Thread nD τ).loc main_v0_1) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1 7,
      (h c).1 8,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c)))⟩)
    (run_main m ρ)

end Cert.Kernel4Ideal.Xattn

end
-- ==== Proof.XattnOut.lean ====
/- Cross attention to a memory, its output projection, the residual and the layer norm, as a function of seven arrays:
   what both programs compute. -/
module

public import proofs.«01_k».proof.Proof.AttnMath

@[expose] public section

set_option maxRecDepth 16384

noncomputable section

namespace Cert.Xattn

open Idealize.ShloMosaic Idealize.ShloMosaic.ValueIdx Cert.AttnMath

/-- Tokens: 4 sequences of 8192 rows of 1024 numbers. -/
abbrev SH : Shape := ⟨3, ![4, 8192, 1024]⟩
/-- A square weight. -/
abbrev SW : Shape := ⟨2, ![1024, 1024]⟩
/-- The memory's keys, or its values: 4 sequences of 256 rows, 4 heads of 256 lanes each. -/
abbrev SM : Shape := ⟨3, ![4, 256, 1024]⟩
/-- The layer norm's gain, or its bias. -/
abbrev SG : Shape := ⟨2, ![1, 1024]⟩
/-- The tokens as lines of 128. -/
abbrev SL : Shape := ⟨2, ![262144, 128]⟩

/-- Head `g`'s lane `d`. -/
def hl (g : Fin 4) (d : Fin 256) : Fin 1024 := ⟨256 * g.val + d.val, by omega⟩
/-- A lane's head, and its place there. -/
def headOf (l : Fin 1024) : Fin 4 := ⟨l.val / 256, by omega⟩
def laneOf (l : Fin 1024) : Fin 256 := ⟨l.val % 256, by omega⟩

theorem hl_of (l : Fin 1024) : hl (headOf l) (laneOf l) = l := Fin.ext (by show 256 * (l.val / 256) + l.val % 256 = l.val; omega)

/-- A row of queries: the token times the query weight. -/
def query (h : Vec Ideal SH .f32) (wq : Vec Ideal SW .bf16) (b : Fin 4) (Q : Fin 8192) (l : Fin 1024) : EReal :=
  ∑ i : Fin 1024, h (ix3 b Q i) * wq (ix2 i l)

/-- The score of query `Q` against the memory's row `K`, in head `g`. -/
def score (h : Vec Ideal SH .f32) (wq : Vec Ideal SW .bf16) (k : Vec Ideal SM .bf16) (b : Fin 4) (Q : Fin 8192) (g : Fin 4) (K : Fin 256) : EReal :=
  ∑ d : Fin 256, query h wq b Q (hl g d) * k (ix3 b K (hl g d))

/-- The score scaled by a sixteenth, and in units of log 2. -/
def units (h : Vec Ideal SH .f32) (wq : Vec Ideal SW .bf16) (k : Vec Ideal SM .bf16) (b : Fin 4) (Q : Fin 8192) (g : Fin 4) (K : Fin 256) : ℝ :=
  (score h wq k b Q g K).toReal * (1 / 16) / Real.log 2

/-- The attention's number at head `g`, lane `j`. -/
def context (h : Vec Ideal SH .f32) (wq : Vec Ideal SW .bf16) (k v : Vec Ideal SM .bf16) (b : Fin 4) (Q : Fin 8192) (g : Fin 4) (j : Fin 256) : EReal :=
  soft (n := 256) (units h wq k b Q g) fun K => v (ix3 b K (hl g j))

/-- The residual row before the layer norm. -/
def resid (h : Vec Ideal SH .f32) (wq : Vec Ideal SW .bf16) (k v : Vec Ideal SM .bf16) (wo : Vec Ideal SW .bf16)
    (b : Fin 4) (Q : Fin 8192) (l : Fin 1024) : EReal :=
  Ideal.ofBits .f32 0x3FB504F3#32 * h (ix3 b Q l) + ∑ i : Fin 1024, context h wq k v b Q (headOf i) (laneOf i) * wo (ix2 i l)

/-- A row's mean, and its deviation from it. -/
def mean (x : Fin 1024 → EReal) : EReal := Ideal.div (∑ i, x i) (Ideal.ofBits .f32 0x44800000#32)
def dev (x : Fin 1024 → EReal) (l : Fin 1024) : EReal := x l - mean x

/-- The layer norm of a row, with a gain and a bias. -/
def lnorm (x : Fin 1024 → EReal) (g b : EReal) (l : Fin 1024) : EReal :=
  dev x l * Ideal.rsqrt (mean (fun i => dev x i * dev x i) + Ideal.ofBits .f32 0x3727C5AC#32) * g + b

/-- The result, as tokens. -/
def out (h : Vec Ideal SH .f32) (wq : Vec Ideal SW .bf16) (k v : Vec Ideal SM .bf16) (wo : Vec Ideal SW .bf16)
    (g b : Vec Ideal SG .f32) : Vec Ideal SH .f32 := fun i =>
  lnorm (resid h wq k v wo (i 0) (i 1)) (g (ix2 (0 : Fin 1) (i 2))) (b (ix2 (0 : Fin 1) (i 2))) (i 2)

/-- The token, and the lane of it, that line `r`'s number `c` is. -/
def tokenOf (i : SL.Idx) : SH.Idx :=
  ix3 (⟨(i 0).val / 65536, by have : (i 0).val < 262144 := (i 0).isLt; omega⟩ : Fin 4)
    (⟨(i 0).val / 8 % 8192, by omega⟩ : Fin 8192)
    (⟨128 * ((i 0).val % 8) + (i 1).val, by have : (i 1).val < 128 := (i 1).isLt; omega⟩ : Fin 1024)

/-- The result, as lines of 128. -/
def lines (y : Vec Ideal SH .f32) : Vec Ideal SL .f32 := fun i => y (tokenOf i)

/-- What the precondition says. -/
structure Ok (h : Vec Ideal SH .f32) (wq : Vec Ideal SW .bf16) (k : Vec Ideal SM .bf16) : Prop where
  h_real : ∀ i, ∃ r : ℝ, h i = (r : EReal)
  wq_real : ∀ i, ∃ r : ℝ, wq i = (r : EReal)
  k_real : ∀ i, ∃ r : ℝ, k i = (r : EReal)

theorem ofBits_sixteenth : Ideal.ofBits .f32 0x3D800000#32 = ((1 / 16 : ℝ) : EReal) := by
  simp [Ideal.ofBits, Ideal.ieee]
  norm_num
  rw [← EReal.coe_mul]
  exact congrArg _ (by norm_num)

variable {h : Vec Ideal SH .f32} {wq : Vec Ideal SW .bf16} {k : Vec Ideal SM .bf16}

/-- Under the precondition the queries are reals. -/
theorem query_real (H : Ok h wq k) (b : Fin 4) (Q : Fin 8192) (l : Fin 1024) : ∃ r : ℝ, query h wq b Q l = (r : EReal) := by
  choose fh hh using H.h_real
  choose fw hw using H.wq_real
  refine ⟨∑ i : Fin 1024, fh (ix3 b Q i) * fw (ix2 i l), ?_⟩
  rw [coe_sum]
  exact Finset.sum_congr rfl fun i _ => by rw [hh, hw, EReal.coe_mul]

/-- And so is every score; the scale may be taken after the sum or inside it. -/
theorem scaled (H : Ok h wq k) (b : Fin 4) (Q : Fin 8192) (g : Fin 4) (K : Fin 256) :
    score h wq k b Q g K * Ideal.ofBits .f32 0x3D800000#32 = ((units h wq k b Q g K * Real.log 2 : ℝ) : EReal)
    ∧ ∑ d : Fin 256, query h wq b Q (hl g d) * Ideal.ofBits .f32 0x3D800000#32 * k (ix3 b K (hl g d))
      = ((units h wq k b Q g K * Real.log 2 : ℝ) : EReal) := by
  choose fq hq using query_real H b Q
  choose fk hk using H.k_real
  have e : score h wq k b Q g K = ((∑ d : Fin 256, fq (hl g d) * fk (ix3 b K (hl g d)) : ℝ) : EReal) := by
    rw [coe_sum]
    exact Finset.sum_congr rfl fun d _ => by rw [hq, hk, EReal.coe_mul]
  have hu : units h wq k b Q g K * Real.log 2 = (∑ d : Fin 256, fq (hl g d) * fk (ix3 b K (hl g d))) * (1 / 16) := by
    unfold units
    rw [e, EReal.toReal_coe]
    exact div_mul_cancel₀ _ (Real.log_pos one_lt_two).ne'
  rw [hu, ofBits_sixteenth]
  refine ⟨by rw [e, EReal.coe_mul], ?_⟩
  rw [Finset.sum_mul, coe_sum]
  refine Finset.sum_congr rfl fun d _ => ?_
  rw [hq, hk, ← EReal.coe_mul, ← EReal.coe_mul]
  exact congrArg _ (by ring)

/-- The kernel's form of softmax: the weighed sum over the sum of the weights. -/
theorem quotient {n : ℕ} (hn : 0 < n) (s : Fin n → ℝ) (v : Fin n → EReal) (μ : ℝ) :
    Ideal.div (∑ i, Ideal.exp (((s i * Real.log 2 : ℝ) : EReal) - (μ : EReal)) * v i)
      (∑ i, Ideal.exp (((s i * Real.log 2 : ℝ) : EReal) - (μ : EReal))) = soft s v := by
  have e : ∀ i, Ideal.exp (((s i * Real.log 2 : ℝ) : EReal) - (μ : EReal)) = ((Real.exp (-μ) * p2 (s i) : ℝ) : EReal) := fun i => by
    rw [← EReal.coe_sub, Ideal.exp_coe, sub_eq_add_neg, add_comm, Real.exp_add, p2_eq_exp]
  have hpos : 0 < ∑ i, p2 (s i) := Finset.sum_pos (fun i _ => p2_pos _) ⟨⟨0, hn⟩, Finset.mem_univ _⟩
  have hE := Real.exp_pos (-μ)
  have hZ : ∑ i, Ideal.exp (((s i * Real.log 2 : ℝ) : EReal) - (μ : EReal)) = ((Real.exp (-μ) * ∑ i, p2 (s i) : ℝ) : EReal) := by
    rw [Finset.mul_sum, coe_sum]
    exact Finset.sum_congr rfl fun i _ => e i
  have hN : ∑ i, Ideal.exp (((s i * Real.log 2 : ℝ) : EReal) - (μ : EReal)) * v i
      = (Real.exp (-μ) : EReal) * ∑ i, v i * (p2 (s i) : EReal) := by
    rw [coe_mul_sum _ _ hE.le]
    refine Finset.sum_congr rfl fun i _ => ?_
    rw [e i, EReal.coe_mul, mul_assoc, mul_comm (p2 (s i) : EReal)]
  rw [hZ, hN, Ideal.div_coe (mul_pos hE hpos).ne', mul_comm (Real.exp (-μ) : EReal), mul_assoc, ← EReal.coe_mul]
  unfold soft
  refine congrArg (fun x : ℝ => _ * (x : EReal)) ?_
  field_simp

end Cert.Xattn

end
-- ==== Proof.XattnRead.lean ====
/- The cross attention's body read at an index, at the ideal values: a block's row is the layer norm of the residual row,
   whose heads are `soft` of their scores. -/
module

public import proofs.«01_k».proof.Proof.XattnFrame
public import proofs.«01_k».proof.Proof.XattnOut
public import proofs.«01_k».proof.Proof.AttnRead
public import Idealize.ShloMosaic.Lib.Pipeline.ValueKit

@[expose] public section

set_option maxRecDepth 16384

noncomputable section

namespace Cert.Kernel4Ideal.Xattn

open Cert.Kernel4Ideal Cert.Kernel4Ideal.Gen Cert.AttnMath
open Cert.Xattn (hl headOf laneOf hl_of mean dev lnorm quotient)
open Idealize.ShloMosaic hiding ix1 ix2 ix3 ix4 ix5
open Idealize.ShloMosaic.TcCoe Idealize.ShloMosaic.ValueIdx

/-! ## A row's reductions, spread over the row again -/

theorem column_apply (v : FVec Ideal S256 .f32) (u : Fin 256) (z : Fin 1) :
    shapeCast S256x1 v shapeCasts_S256_S256x1 (ix2 u z) = v (ix1 u) := by
  refine shapeCast_apply _ _ _ (ix1 u) ?_
  refine (rowMajor_val1 _).trans (Eq.trans ?_ (rowMajor_val2 _ 1 rfl).symm)
  show u.val = u.val * 1 + z.val
  omega

theorem spread256_apply (v : FVec Ideal S256x1 .f32) (u t : Fin 256) :
    broadcastTo S256x256 v broadcasts_S256x1_S256x256 (ix2 u t) = v (ix2 u (0 : Fin 1)) := by
  refine broadcastTo_apply v _ (ix2 u t) (ix2 u (0 : Fin 1)) fun ax => ?_
  match ax with
  | ⟨0, _⟩ => rfl
  | ⟨1, _⟩ => rfl

theorem spread1024_apply (v : FVec Ideal S256x1 .f32) (u : Fin 256) (t : Fin 1024) :
    broadcastTo S256x1024 v broadcasts_S256x1_S256x1024 (ix2 u t) = v (ix2 u (0 : Fin 1)) := by
  refine broadcastTo_apply v _ (ix2 u t) (ix2 u (0 : Fin 1)) fun ax => ?_
  match ax with
  | ⟨0, _⟩ => rfl
  | ⟨1, _⟩ => rfl

theorem max_apply (s : FVec Ideal S256x256 .f32) (u : Fin 256) :
    multiReduction .maximumf [1] S256 s 0xFF800000#32 reduces_S256x256_S256 (.inl rfl) rfl (ix1 u)
      = (Finset.univ : Finset (Fin 256)).fold max ⊥ fun t => s (ix2 u t) := by
  refine (Ideal.multiReduction_maximumf_single s 0xFF800000#32 reduces_S256x256_S256 (.inl rfl) rfl (ix1 u)).trans ?_
  show Finset.fold max (Ideal.ofBits .f32 0xFF800000#32) _ _ = _
  rw [Cert.Attn.ofBits_neg_inf]
  refine congrArg (fun f => Finset.fold max ⊥ f _) (funext fun r => congrArg s ?_)
  funext a; match a with | ⟨0, _⟩ => rfl | ⟨1, _⟩ => rfl

theorem sum256_apply (s : FVec Ideal S256x256 .f32) (u : Fin 256) :
    multiReduction .add [1] S256 s 0x00000000#32 reduces_S256x256_S256 (.inl rfl) rfl (ix1 u) = ∑ t : Fin 256, s (ix2 u t) := by
  refine (Ideal.multiReduction_add_single s 0x00000000#32 reduces_S256x256_S256 (.inl rfl) rfl (ix1 u)).trans ?_
  refine Finset.sum_congr rfl fun r _ => congrArg s ?_
  funext a; match a with | ⟨0, _⟩ => rfl | ⟨1, _⟩ => rfl

theorem sum1024_apply (s : FVec Ideal S256x1024 .f32) (u : Fin 256) :
    multiReduction .add [1] S256 s 0x00000000#32 reduces_S256x1024_S256 (.inl rfl) rfl (ix1 u) = ∑ t : Fin 1024, s (ix2 u t) := by
  refine (Ideal.multiReduction_add_single s 0x00000000#32 reduces_S256x1024_S256 (.inl rfl) rfl (ix1 u)).trans ?_
  refine Finset.sum_congr rfl fun r _ => congrArg s ?_
  funext a; match a with | ⟨0, _⟩ => rfl | ⟨1, _⟩ => rfl

/-! ## One head -/

section Words

variable {F : FTy → Type} [FloatOps F]

/-- A head's scores, their exponentials less the row's maximum, and the values they weigh. -/
def scores (q : FVec F S256x256 .bf16) (k : Vec F S1x256x256 .bf16) : FVec F S256x256 .f32 :=
  matmul dot_S256x256_S256x256_S256x256_1_1_0_0_n_n none q (shapeCast S256x256 k shapeCasts_S1x256x256_S256x256 : FVec F S256x256 .bf16)
    (constant S256x256 .f32 0x00000000#32)
def expo (s : FVec F S256x256 .f32) : FVec F S256x256 .f32 :=
  exp (subf s (broadcastTo S256x256 (shapeCast S256x1
    (multiReduction .maximumf [1] S256 s 0xFF800000#32 reduces_S256x256_S256 (.inl rfl) rfl) shapeCasts_S256_S256x1) broadcasts_S256x1_S256x256))
def weigh (e : FVec F S256x256 .f32) (v : Vec F S1x256x256 .bf16) : FVec F S256x256 .bf16 :=
  truncf .bf16 (divf (matmul dot_S256x256_S256x256_S256x256_1_0_0_1_n_n none (truncf .bf16 e bitsLt_bf16_f32)
      (shapeCast S256x256 v shapeCasts_S1x256x256_S256x256 : FVec F S256x256 .bf16) (constant S256x256 .f32 0x00000000#32))
    (broadcastTo S256x256 (shapeCast S256x1
      (multiReduction .add [1] S256 e 0x00000000#32 reduces_S256x256_S256 (.inl rfl) rfl) shapeCasts_S256_S256x1) broadcasts_S256x1_S256x256))
    bitsLt_bf16_f32
def head (q : FVec F S256x256 .bf16) (k v : Vec F S1x256x256 .bf16) : FVec F S256x256 .bf16 := weigh (expo (scores q k)) v

/-- The residual rows, and their layer norm. -/
def rest (x : FVec F S256x1024 .f32) (o : FVec F S256x1024 .bf16) (w : Vec F S1024x1024 .bf16) : FVec F S256x1024 .f32 :=
  addf (mulf (broadcast S256x1024 (Scalar.ofBits .f32 0x3FB504F3#32)) x)
    (matmul dot_S256x1024_S1024x1024_S256x1024_1_0_0_1_n_n none o (w : FVec F S1024x1024 .bf16) (constant S256x1024 .f32 0x00000000#32))
def means (x : FVec F S256x1024 .f32) : FVec F S256x1 .f32 :=
  divf (shapeCast S256x1 (multiReduction .add [1] S256 x 0x00000000#32 reduces_S256x1024_S256 (.inl rfl) rfl) shapeCasts_S256_S256x1)
    (broadcast S256x1 (Scalar.ofBits .f32 0x44800000#32))
def devs (x : FVec F S256x1024 .f32) : FVec F S256x1024 .f32 :=
  subf x (broadcastTo S256x1024 (means x) broadcasts_S256x1_S256x1024)
def norm (x : FVec F S256x1024 .f32) (g b : Vec F S1x1024 .f32) : FVec F S256x1024 .f32 :=
  addf (mulf (mulf (devs x) (broadcastTo S256x1024
      (rsqrt (addf (means (mulf (devs x) (devs x))) (broadcast S256x1 (Scalar.ofBits .f32 0x3727C5AC#32)))) broadcasts_S256x1_S256x1024))
    (broadcastTo S256x1024 (g : FVec F S1x1024 .f32) broadcasts_S1x1024_S256x1024))
    (broadcastTo S256x1024 (b : FVec F S1x1024 .f32) broadcasts_S1x1024_S256x1024)

/-- The four heads of the queries, against the four column blocks of the keys and values. -/
def slice (q : FVec F S256x1024 .bf16) (g : Fin 4) : FVec F S256x256 .bf16 := match g with
  | ⟨0, _⟩ => extractStridedSlice S256x256 ![0, 0] q slices_S256x1024_o0_0_S256x256
  | ⟨1, _⟩ => extractStridedSlice S256x256 ![0, 256] q slices_S256x1024_o0_256_S256x256
  | ⟨2, _⟩ => extractStridedSlice S256x256 ![0, 512] q slices_S256x1024_o0_512_S256x256
  | ⟨3, _⟩ => extractStridedSlice S256x256 ![0, 768] q slices_S256x1024_o0_768_S256x256
def cols (x : Vec F S1x256x1024 .bf16) (g : Fin 4) : Vec F S1x256x256 .bf16 := match g with
  | ⟨0, _⟩ => View.ld x cols0
  | ⟨1, _⟩ => View.ld x cols1
  | ⟨2, _⟩ => View.ld x cols2
  | ⟨3, _⟩ => View.ld x cols3

def heads (q : FVec F S256x1024 .bf16) (x2 x3 : Vec F S1x256x1024 .bf16) : FVec F S256x1024 .bf16 :=
  concatenate S256x1024 1 (List.ofFn fun g : Fin 4 => (⟨S256x256, head (slice q g) (cols x2 g) (cols x3 g)⟩ : (s : Shape) × (s.Idx → F .bf16)))
    concatenates_S256x256_S256x256_S256x256_S256x256_S256x1024_d1

theorem normed_eq (x0 : Vec F S1x256x1024 .f32) (x1 : Vec F S1024x1024 .bf16) (x2 x3 : Vec F S1x256x1024 .bf16)
    (x4 : Vec F S1024x1024 .bf16) (x5 x6 : Vec F S1x1024 .f32) :
    normed x0 x1 x2 x3 x4 x5 x6 = norm (rest (k0_pay8 (View.ld x0 whole3)) (heads (quer x0 x1) x2 x3) (View.ld x4 wholeW))
      (View.ld x5 wholeV) (View.ld x6 wholeV) := rfl

end Words

theorem scores_apply (q : FVec Ideal S256x256 .bf16) (k : Vec Ideal S1x256x256 .bf16) (u t : Fin 256) :
    scores q k (ix2 u t) = ∑ d : Fin 256, q (ix2 u d) * k (ix3 (0 : Fin 1) t d) := by
  unfold scores
  simp only [matmul]
  refine (Ideal.matmul_transposedRhs_apply _ _ _ _ u t).trans ?_
  show Ideal.ofBits .f32 0x00000000#32 + _ = _
  rw [Ideal.ofBits_zero_f32, zero_add]
  refine Finset.sum_congr rfl fun d _ => ?_
  rw [shapeCast_dropUnit_apply]
  refine congrArg (fun a => q _ * k a) ?_
  funext a; match a with | ⟨0, _⟩ => rfl | ⟨1, _⟩ => rfl | ⟨2, _⟩ => rfl

/-- One head: `soft` of its scores, weighing its values. -/
theorem head_apply (q : FVec Ideal S256x256 .bf16) (k v : Vec Ideal S1x256x256 .bf16) (u j : Fin 256) (s : Fin 256 → ℝ)
    (hs : ∀ t, ∑ d : Fin 256, q (ix2 u d) * k (ix3 (0 : Fin 1) t d) = ((s t * Real.log 2 : ℝ) : EReal)) :
    (head q k v (ix2 u j) : EReal) = soft s fun t => v (ix3 (0 : Fin 1) t j) := by
  obtain ⟨μ, hμ⟩ := fold_coe (Finset.univ : Finset (Fin 256)) 0 (Finset.mem_univ _) (fun t => s t * Real.log 2)
  have hsc : ∀ t, scores q k (ix2 u t) = ((s t * Real.log 2 : ℝ) : EReal) := fun t => (scores_apply q k u t).trans (hs t)
  have he : ∀ t, expo (scores q k) (ix2 u t) = Ideal.exp (((s t * Real.log 2 : ℝ) : EReal) - (μ : EReal)) := fun t => by
    unfold expo
    show Ideal.exp (scores q k (ix2 u t) - broadcastTo S256x256 _ _ (ix2 u t)) = _
    rw [spread256_apply, column_apply, max_apply, hsc]
    refine congrArg (fun z => Ideal.exp (_ - z)) (Eq.trans ?_ hμ)
    exact congrArg (fun f => Finset.fold max ⊥ f _) (funext fun r => hsc r)
  unfold head weigh
  show Ideal.div (matmul (F := Ideal) dot_S256x256_S256x256_S256x256_1_0_0_1_n_n none _ _ _ (ix2 u j)) (broadcastTo S256x256 _ _ (ix2 u j)) = _
  rw [spread256_apply, column_apply, sum256_apply]
  refine Eq.trans ?_ (quotient (by decide) s _ μ)
  refine congrArg₂ Ideal.div ?_ (Finset.sum_congr rfl fun t _ => he t)
  simp only [matmul]
  refine (Ideal.matmul_plain_apply _ _ _ _ u j).trans ?_
  show Ideal.ofBits .f32 0x00000000#32 + _ = _
  rw [Ideal.ofBits_zero_f32, zero_add]
  refine Finset.sum_congr rfl fun t _ => congrArg₂ (fun a b : EReal => a * b) (he t) ?_
  rw [shapeCast_dropUnit_apply]
  refine congrArg v ?_
  funext a; match a with | ⟨0, _⟩ => rfl | ⟨1, _⟩ => rfl | ⟨2, _⟩ => rfl

/-! ## The layer norm -/

theorem means_apply (x : FVec Ideal S256x1024 .f32) (u : Fin 256) (z : Fin 1) :
    means x (ix2 u z) = mean fun i => x (ix2 u i) := by
  unfold means mean
  refine congrArg (fun a => Ideal.div a (Ideal.ofBits .f32 0x44800000#32)) ?_
  exact (column_apply _ u z).trans (sum1024_apply x u)

theorem devs_apply (x : FVec Ideal S256x1024 .f32) (u : Fin 256) (l : Fin 1024) :
    devs x (ix2 u l) = dev (fun i => x (ix2 u i)) l := by
  unfold devs dev
  refine congrArg (fun a : EReal => x (ix2 u l) - a) ?_
  exact (spread1024_apply _ u l).trans (means_apply x u 0)

theorem norm_apply (x : FVec Ideal S256x1024 .f32) (g b : Vec Ideal S1x1024 .f32) (u : Fin 256) (l : Fin 1024) :
    norm x g b (ix2 u l) = lnorm (fun i => x (ix2 u i)) (g (ix2 (0 : Fin 1) l)) (b (ix2 (0 : Fin 1) l)) l := by
  unfold norm lnorm
  refine congrArg₂ (fun a c : EReal => a + c) (congrArg₂ (fun a c : EReal => a * c) (congrArg₂ (fun a c : EReal => a * c) (devs_apply x u l) ?_)
    (broadcastTo_1b_ab_apply _ _ u l)) (broadcastTo_1b_ab_apply _ _ u l)
  refine (spread1024_apply _ u l).trans (congrArg Ideal.rsqrt ?_)
  refine congrArg (fun a : EReal => a + Ideal.ofBits .f32 0x3727C5AC#32) ((means_apply _ u 0).trans (congrArg mean (funext fun i => ?_)))
  exact congrArg₂ (fun a c : EReal => a * c) (devs_apply x u i) (devs_apply x u i)

/-! ## The loads -/

theorem slice_apply (q : FVec Ideal S256x1024 .bf16) (g : Fin 4) (u d : Fin 256) :
    slice q g (ix2 u d) = q (ix2 u (hl g d)) := by
  match g with
  | ⟨0, _⟩ => exact extractStridedSlice_apply _ q slices_S256x1024_o0_0_S256x256 _ _ fun a => match a with
    | ⟨0, _⟩ => (Nat.zero_add _).symm
    | ⟨1, _⟩ => rfl
  | ⟨1, _⟩ => exact extractStridedSlice_apply _ q slices_S256x1024_o0_256_S256x256 _ _ fun a => match a with
    | ⟨0, _⟩ => (Nat.zero_add _).symm
    | ⟨1, _⟩ => rfl
  | ⟨2, _⟩ => exact extractStridedSlice_apply _ q slices_S256x1024_o0_512_S256x256 _ _ fun a => match a with
    | ⟨0, _⟩ => (Nat.zero_add _).symm
    | ⟨1, _⟩ => rfl
  | ⟨3, _⟩ => exact extractStridedSlice_apply _ q slices_S256x1024_o0_768_S256x256 _ _ fun a => match a with
    | ⟨0, _⟩ => (Nat.zero_add _).symm
    | ⟨1, _⟩ => rfl

theorem cols_apply (x : Vec Ideal S1x256x1024 .bf16) (g : Fin 4) (t d : Fin 256) :
    cols x g (ix3 (0 : Fin 1) t d) = x (ix3 (0 : Fin 1) t (hl g d)) := by
  match g with
  | ⟨0, _⟩ | ⟨1, _⟩ | ⟨2, _⟩ | ⟨3, _⟩ =>
    refine View.ld_unit_apply_of _ _ _ _ _ _ fun a => ?_
    match a with
    | ⟨0, _⟩ => rfl
    | ⟨1, _⟩ => exact (Nat.zero_add _).symm
    | ⟨2, _⟩ => rfl

theorem ldW (x : Vec Ideal S1024x1024 .bf16) (i l : Fin 1024) : View.ld x wholeW (ix2 i l) = x (ix2 i l) := by
  refine View.ld_unit_apply_of _ _ _ _ _ _ fun a => ?_
  match a with
  | ⟨0, _⟩ => exact (Nat.zero_add _).symm
  | ⟨1, _⟩ => exact (Nat.zero_add _).symm

theorem ldV (x : Vec Ideal S1x1024 .f32) (l : Fin 1024) : View.ld x wholeV (ix2 (0 : Fin 1) l) = x (ix2 (0 : Fin 1) l) := by
  refine View.ld_unit_apply_of _ _ _ _ _ _ fun a => ?_
  match a with
  | ⟨0, _⟩ => rfl
  | ⟨1, _⟩ => exact (Nat.zero_add _).symm

theorem tok_apply (x : Vec Ideal S1x256x1024 .f32) (u : Fin 256) (i : Fin 1024) :
    k0_pay8 (F := Ideal) (View.ld x whole3) (ix2 u i) = x (ix3 (0 : Fin 1) u i) := by
  unfold k0_pay8
  rw [shapeCast_dropUnit_apply]
  refine View.ld_unit_apply_of _ _ _ _ _ _ fun a => ?_
  match a with
  | ⟨0, _⟩ => rfl
  | ⟨1, _⟩ => exact (Nat.zero_add _).symm
  | ⟨2, _⟩ => exact (Nat.zero_add _).symm

theorem quer_apply (x0 : Vec Ideal S1x256x1024 .f32) (x1 : Vec Ideal S1024x1024 .bf16) (u : Fin 256) (l : Fin 1024) :
    (quer x0 x1 (ix2 u l) : EReal) = (∑ i : Fin 1024, x0 (ix3 (0 : Fin 1) u i) * x1 (ix2 i l)) * Ideal.ofBits .f32 0x3D800000#32 := by
  unfold quer k0_pay9
  refine congrArg (fun a : EReal => a * Ideal.ofBits .f32 0x3D800000#32) ?_
  simp only [matmul]
  refine (Ideal.matmul_plain_apply _ _ _ _ u l).trans ?_
  show Ideal.ofBits .f32 0x00000000#32 + _ = _
  rw [Ideal.ofBits_zero_f32, zero_add]
  exact Finset.sum_congr rfl fun i _ => congrArg₂ (fun a b : EReal => a * b) (tok_apply x0 u i) (ldW x1 i l)

/-! ## A block's row -/

theorem heads_apply (q : FVec Ideal S256x1024 .bf16) (x2 x3 : Vec Ideal S1x256x1024 .bf16) (u : Fin 256) (l : Fin 1024) (s : Fin 4 → Fin 256 → ℝ)
    (hs : ∀ g t, ∑ d : Fin 256, q (ix2 u (hl g d)) * x2 (ix3 (0 : Fin 1) t (hl g d)) = ((s g t * Real.log 2 : ℝ) : EReal)) :
    (heads q x2 x3 (ix2 u l) : EReal) = soft (s (headOf l)) fun t => x3 (ix3 (0 : Fin 1) t (hl (headOf l) (laneOf l))) := by
  unfold heads
  refine (concatenate_ofFn_apply (t := S256x1024) (s₁ := S256x256) 1 (fun g : Fin 4 => head (slice q g) (cols x2 g) (cols x3 g))
    concatenates_S256x256_S256x256_S256x256_S256x256_S256x1024_d1 rfl 256 rfl (ix2 u l)
    (headOf l) rfl (ix2 u (laneOf l)) rfl fun b hb => ?_).trans ?_
  · match b with
    | ⟨0, _⟩ => rfl
    | ⟨1, _⟩ => exact absurd rfl hb
  · refine (head_apply _ _ _ u (laneOf l) (s (headOf l)) fun t => ?_).trans ?_
    · refine Eq.trans (Finset.sum_congr rfl fun d _ => ?_) (hs (headOf l) t)
      rw [slice_apply, cols_apply]
    · exact congrArg (soft _) (funext fun t => cols_apply x3 _ t _)

theorem normed_apply (x0 : Vec Ideal S1x256x1024 .f32) (x1 : Vec Ideal S1024x1024 .bf16) (x2 x3 : Vec Ideal S1x256x1024 .bf16)
    (x4 : Vec Ideal S1024x1024 .bf16) (x5 x6 : Vec Ideal S1x1024 .f32) (u : Fin 256) (l : Fin 1024) (s : Fin 4 → Fin 256 → ℝ)
    (hs : ∀ g t, ∑ d : Fin 256, (∑ i : Fin 1024, x0 (ix3 (0 : Fin 1) u i) * x1 (ix2 i (hl g d))) * Ideal.ofBits .f32 0x3D800000#32
      * x2 (ix3 (0 : Fin 1) t (hl g d)) = ((s g t * Real.log 2 : ℝ) : EReal)) :
    normed x0 x1 x2 x3 x4 x5 x6 (ix2 u l)
      = lnorm (fun c => Ideal.ofBits .f32 0x3FB504F3#32 * x0 (ix3 (0 : Fin 1) u c)
          + ∑ i : Fin 1024, (soft (s (headOf i)) fun t => x3 (ix3 (0 : Fin 1) t (hl (headOf i) (laneOf i)))) * x4 (ix2 i c))
        (x5 (ix2 (0 : Fin 1) l)) (x6 (ix2 (0 : Fin 1) l)) l := by
  rw [normed_eq, norm_apply, ldV, ldV]
  refine congrArg (fun f => lnorm f _ _ l) (funext fun c => ?_)
  unfold rest
  refine congrArg₂ (fun a b : EReal => a + b) (congrArg (fun a : EReal => Ideal.ofBits .f32 0x3FB504F3#32 * a) (tok_apply x0 u c)) ?_
  simp only [matmul]
  refine (Ideal.matmul_plain_apply _ _ _ _ u c).trans ?_
  show Ideal.ofBits .f32 0x00000000#32 + _ = _
  rw [Ideal.ofBits_zero_f32, zero_add]
  refine Finset.sum_congr rfl fun i _ => congrArg₂ (fun a b : EReal => a * b) ?_ (ldW x4 i c)
  refine heads_apply _ x2 x3 u i s fun g t => Eq.trans (Finset.sum_congr rfl fun d _ => ?_) (hs g t)
  rw [quer_apply]

end Cert.Kernel4Ideal.Xattn

end
-- ==== Proof.XattnFinal.lean ====
/- The kernel's two result arrays after the run: the layer-normed tokens, and the same as lines of 128. -/
module

public import proofs.«01_k».proof.Proof.XattnRead

@[expose] public section

set_option maxRecDepth 16384

noncomputable section

namespace Cert.Xattn

open Cert.Kernel4Ideal Cert.Kernel4Ideal.Gen Cert.Kernel4Ideal.Xattn Cert.AttnMath
open Idealize.ShloMosaic hiding ix1 ix2 ix3 ix4 ix5
open Idealize.ShloMosaic.TcCoe Idealize.ShloMosaic.ValueIdx Idealize.SL.Sem
open Idealize.ShloMosaic.Pipeline (Dat)

/-! ## The lane groups -/

/-- The rows of a block as lines: line `r` is row `r/8`'s lane group `r mod 8`. -/
def blockLine (n : FVec Ideal S256x1024 .f32) (y : S2048x128.Idx) : Elt Ideal .f32 :=
  n (ix2 (⟨(y 0).val / 8, by have : (y 0).val < 2048 := (y 0).isLt; omega⟩ : Fin 256)
    (⟨128 * ((y 0).val % 8) + (y 1).val, by have : (y 1).val < 128 := (y 1).isLt; omega⟩ : Fin 1024))

theorem lane_piece (n : FVec Ideal S256x1024 .f32) (s o : ℕ) (hs : s < 8) (ho : o = 128 * s) (hsl : S256x1024.Slices ![0, o] S256x128) (inb) (hp)
    (y : S256x128.Idx) : extractStridedSlice S256x128 ![0, o] n hsl y
      = blockLine n ((⟨(⟨![s, 0], S256x128.size, ![8, 1], inb⟩ : LoadRect S2048x128), hp⟩ : Rect S2048x128).emb y) := by
  have hy0 : (y 0).val < 256 := (y 0).isLt
  have hy1 : (y 1).val < 128 := (y 1).isLt
  have e0 : ((⟨(⟨![s, 0], S256x128.size, ![8, 1], inb⟩ : LoadRect S2048x128), hp⟩ : Rect S2048x128).emb y 0).val = s + 8 * (y 0).val := rfl
  have e1 : ((⟨(⟨![s, 0], S256x128.size, ![8, 1], inb⟩ : LoadRect S2048x128), hp⟩ : Rect S2048x128).emb y 1).val = 0 + 1 * (y 1).val := rfl
  unfold blockLine
  refine extractStridedSlice_apply _ _ _ y _ fun a => ?_
  match a with
  | ⟨0, _⟩ => show _ / 8 = 0 + (y 0).val; rw [e0]; omega
  | ⟨1, _⟩ => show 128 * (_ % 8) + _ = o + (y 1).val; rw [e0, e1]; omega

theorem outLin_apply (n : FVec Ideal S256x1024 .f32) (y : S2048x128.Idx) : outLin n y = blockLine n y := by
  unfold outLin
  refine View.canon_apply_of_pieces (blockLine n) _ ?_ y (cover_lin _ _ _ _ _ _ _ _ y)
  intro p hp
  rcases List.mem_cons.mp hp with rfl | hp
  · exact fun y => lane_piece n 7 896 (by decide) rfl slices_S256x1024_o0_896_S256x128 inb_S2048x128_S256x128_7_0_s_8_1 spos_8_1 y
  rcases List.mem_cons.mp hp with rfl | hp
  · exact fun y => lane_piece n 6 768 (by decide) rfl slices_S256x1024_o0_768_S256x128 inb_S2048x128_S256x128_6_0_s_8_1 spos_8_1 y
  rcases List.mem_cons.mp hp with rfl | hp
  · exact fun y => lane_piece n 5 640 (by decide) rfl slices_S256x1024_o0_640_S256x128 inb_S2048x128_S256x128_5_0_s_8_1 spos_8_1 y
  rcases List.mem_cons.mp hp with rfl | hp
  · exact fun y => lane_piece n 4 512 (by decide) rfl slices_S256x1024_o0_512_S256x128 inb_S2048x128_S256x128_4_0_s_8_1 spos_8_1 y
  rcases List.mem_cons.mp hp with rfl | hp
  · exact fun y => lane_piece n 3 384 (by decide) rfl slices_S256x1024_o0_384_S256x128 inb_S2048x128_S256x128_3_0_s_8_1 spos_8_1 y
  rcases List.mem_cons.mp hp with rfl | hp
  · exact fun y => lane_piece n 2 256 (by decide) rfl slices_S256x1024_o0_256_S256x128 inb_S2048x128_S256x128_2_0_s_8_1 spos_8_1 y
  rcases List.mem_cons.mp hp with rfl | hp
  · exact fun y => lane_piece n 1 128 (by decide) rfl slices_S256x1024_o0_128_S256x128 inb_S2048x128_S256x128_1_0_s_8_1 spos_8_1 y
  rcases List.mem_cons.mp hp with rfl | hp
  · exact fun y => lane_piece n 0 0 (by decide) rfl slices_S256x1024_o0_0_S256x128 inb_S2048x128_S256x128_0_0_s_8_1 spos_8_1 y
  · exact absurd hp List.not_mem_nil

theorem outTok_apply (n : FVec Ideal S256x1024 .f32) (u : Fin 256) (l : Fin 1024) :
    (outTok n (ix3 (0 : Fin 1) u l) : EReal) = n (ix2 u l) := by
  unfold outTok
  rw [View.canon_unit_zero (by funext a; match a with | ⟨0, _⟩ => rfl | ⟨1, _⟩ => rfl | ⟨2, _⟩ => rfl) _ _]
  refine (shapeCast_addUnit_apply (n := 2) ![256, 1024] _ _ _).trans (congrArg n ?_)
  funext a; match a with | ⟨0, _⟩ => rfl | ⟨1, _⟩ => rfl

/-! ## The blocks of the arguments -/

variable (m : (ℓ : Loc nD τ sig) → Buf (Elt Ideal) ℓ)

abbrev argH (c : Dev nD) : Vec Ideal SH .f32 := m ((c : Thread nD τ).loc main_arg0)
abbrev argWq (c : Dev nD) : Vec Ideal SW .bf16 := m ((c : Thread nD τ).loc main_arg1)
abbrev argK (c : Dev nD) : Vec Ideal SM .bf16 := m ((c : Thread nD τ).loc main_arg2)
abbrev argV (c : Dev nD) : Vec Ideal SM .bf16 := m ((c : Thread nD τ).loc main_arg3)
abbrev argWo (c : Dev nD) : Vec Ideal SW .bf16 := m ((c : Thread nD τ).loc main_arg4)
abbrev argG (c : Dev nD) : Vec Ideal SG .f32 := m ((c : Thread nD τ).loc main_arg5)
abbrev argB (c : Dev nD) : Vec Ideal SG .f32 := m ((c : Thread nD τ).loc main_arg6)

/-- The kernel's result, from its arguments. -/
abbrev result (c : Dev nD) : Vec Ideal SH .f32 :=
  out (argH m c) (argWq m c) (argK m c) (argV m c) (argWo m c) (argG m c) (argB m c)

/-- The windows' index maps, at every grid point. -/
theorem idx : ∀ t : Fin cfg0.N, win0_0.index t = ![t.val / 32, t.val % 32, 0] ∧ win0_1.index t = ![0, 0]
    ∧ win0_2.index t = ![t.val / 32, 0, 0] ∧ win0_3.index t = ![t.val / 32, 0, 0] ∧ win0_4.index t = ![0, 0]
    ∧ win0_5.index t = ![0, 0] ∧ win0_6.index t = ![0, 0] ∧ win0_7.index t = ![t.val / 32, t.val % 32, 0]
    ∧ win0_8.index t = ![t.val, 0] ∧ t.val / 32 < 4 :=
  (by decide +kernel : ∀ t : Fin grid0.N, _)

/-- The sequence of grid point `t`, and the token a block's row `u` is. -/
def seq (t : Fin cfg0.N) : Fin 4 := ⟨t.val / 32, (idx t).2.2.2.2.2.2.2.2.2⟩
def tok (t : Fin cfg0.N) (u : Fin 256) : Fin 8192 := ⟨256 * (t.val % 32) + u.val, by omega⟩

theorem h_read (c : Dev nD) (t : Fin cfg0.N) (u : Fin 256) (l : Fin 1024) :
    (iblk m c 0 t : Vec Ideal S1x256x1024 .f32) (ix3 (0 : Fin 1) u l) = argH m c (ix3 (seq t) (tok t u) l) := by
  blk_ext! [iblk, V, idx t, seq, tok]
  show t.val % 32 * 256 + u.val = _
  omega

theorem wq_read (c : Dev nD) (t : Fin cfg0.N) (i l : Fin 1024) :
    (iblk m c 1 t : Vec Ideal S1024x1024 .bf16) (ix2 i l) = argWq m c (ix2 i l) := by
  blk_ext! [iblk, V, idx t]

theorem k_read (c : Dev nD) (t : Fin cfg0.N) (K : Fin 256) (l : Fin 1024) :
    (iblk m c 2 t : Vec Ideal S1x256x1024 .bf16) (ix3 (0 : Fin 1) K l) = argK m c (ix3 (seq t) K l) := by
  blk_ext! [iblk, V, idx t, seq]

theorem v_read (c : Dev nD) (t : Fin cfg0.N) (K : Fin 256) (l : Fin 1024) :
    (iblk m c 3 t : Vec Ideal S1x256x1024 .bf16) (ix3 (0 : Fin 1) K l) = argV m c (ix3 (seq t) K l) := by
  blk_ext! [iblk, V, idx t, seq]

theorem wo_read (c : Dev nD) (t : Fin cfg0.N) (i l : Fin 1024) :
    (iblk m c 4 t : Vec Ideal S1024x1024 .bf16) (ix2 i l) = argWo m c (ix2 i l) := by
  blk_ext! [iblk, V, idx t]

theorem g_read (c : Dev nD) (t : Fin cfg0.N) (l : Fin 1024) :
    (iblk m c 5 t : Vec Ideal S1x1024 .f32) (ix2 (0 : Fin 1) l) = argG m c (ix2 (0 : Fin 1) l) := by
  blk_ext! [iblk, V, idx t]

theorem b_read (c : Dev nD) (t : Fin cfg0.N) (l : Fin 1024) :
    (iblk m c 6 t : Vec Ideal S1x1024 .f32) (ix2 (0 : Fin 1) l) = argB m c (ix2 (0 : Fin 1) l) := by
  blk_ext! [iblk, V, idx t]

/-! ## A grid point, and the arrays -/

/-- The layer-normed rows of a grid point. -/
abbrev rows (c : Dev nD) (t : Fin cfg0.N) : FVec Ideal S256x1024 .f32 :=
  normed (iblk m c 0 t) (iblk m c 1 t) (iblk m c 2 t) (iblk m c 3 t) (iblk m c 4 t) (iblk m c 5 t) (iblk m c 6 t)

theorem point (c : Dev nD) (t : Fin cfg0.N) (H : Ok (argH m c) (argWq m c) (argK m c)) (u : Fin 256) (l : Fin 1024) :
    (rows m c t (ix2 u l) : EReal) = result m c (ix3 (seq t) (tok t u) l) := by
  refine (normed_apply _ _ _ _ _ _ _ u l (fun g => units (argH m c) (argWq m c) (argK m c) (seq t) (tok t u) g) fun g K => ?_).trans ?_
  · refine Eq.trans (Finset.sum_congr rfl fun d _ => ?_) (scaled H (seq t) (tok t u) g K).2
    rw [k_read]
    refine congrArg (fun a : EReal => a * Ideal.ofBits .f32 0x3D800000#32 * argK m c (ix3 (seq t) K (hl g d))) ?_
    unfold query
    exact Finset.sum_congr rfl fun i _ => by rw [h_read, wq_read]
  · rw [g_read, b_read]
    show _ = lnorm (resid _ _ _ _ _ (seq t) (tok t u)) (argG m c (ix2 (0 : Fin 1) l)) (argB m c (ix2 (0 : Fin 1) l)) l
    refine congrArg (fun f => lnorm f _ _ l) (funext fun x => ?_)
    unfold resid context
    rw [h_read]
    refine congrArg (fun a : EReal => _ + a) (Finset.sum_congr rfl fun i _ => ?_)
    rw [wo_read]
    refine congrArg (fun a : EReal => a * _) (congrArg (soft _) (funext fun K => ?_))
    rw [v_read]

/-- The first result array: the tokens. -/
theorem final (c : Dev nD) (H : Ok (argH m c) (argWq m c) (argK m c)) :
    (dats m 0 c).arrAt 7 cfg0.N = result m c := by
  refine (dats m 0 c).arrAt_eq_of_covers 7 _ (by decide +kernel) fun t _ y => ?_
  blk_simp
  rw [after_7]
  have ey : y = ix3 (0 : Fin 1) (y 1) (y 2) :=
    (ValueIdx.eq_ix3 y).trans (congrArg (fun z : Fin 1 => ix3 z (y 1) (y 2)) (Subsingleton.elim _ _))
  rw [ey]
  refine (outTok_apply _ (y 1) (y 2)).trans ((point m c t H (y 1) (y 2)).trans (congrArg _ ?_))
  blk_ext [idx t, seq, tok]
  show _ = t.val % 32 * 256 + (y 1).val
  omega

/-- The second: the same as lines. -/
theorem final_lines (c : Dev nD) (H : Ok (argH m c) (argWq m c) (argK m c)) :
    (dats m 0 c).arrAt 8 cfg0.N = lines (result m c) := by
  refine (dats m 0 c).arrAt_eq_of_covers 8 _ (by decide +kernel) fun t _ y => ?_
  blk_simp
  rw [after_8]
  refine (outLin_apply _ y).trans ?_
  unfold blockLine
  refine (point m c t H _ _).trans ?_
  unfold lines
  refine congrArg (result m c) ?_
  unfold tokenOf
  blk_ext [idx t, seq, tok]

end Cert.Xattn

end
-- ==== Proof.XattnRef.lean ====
/- The cross attention's reference: its two results are the layer-normed tokens, and the same as lines. -/
module

public import proofs.«01_k».proof.Proof.XattnOut
public import proofs.«01_k».proof.Proof.AttnRead
public import proofs.«01_k».proof.Proof.Gen.Reference4Ideal.Read

@[expose] public section

set_option maxRecDepth 16384

noncomputable section

namespace Cert.Xattn.Ref

open Cert.Reference4Ideal Cert.Reference4Ideal.Gen Cert.Reference4Ideal.Read Cert.AttnMath
open Idealize.ShloMosaic Idealize.ShloMosaic.ValueIdx

variable (h : Vec Ideal SH .f32) (wq : Vec Ideal SW .bf16) (k v : Vec Ideal SM .bf16) (wo : Vec Ideal SW .bf16) (gain bias : Vec Ideal SG .f32)

/-! ## The attention -/

theorem query_at (b : Fin 4) (Q : Fin 8192) (g : Fin 4) (d : Fin 256) :
    val_main_v2 (F := Ideal) h wq (ix4 b Q g d) = query h wq b Q (hl g d) := by
  rw [val_main_v2_apply, val_main_v1_apply]
  unfold query
  have e : idx_main_v2 (ix4 b Q g d) = ix3 b Q (hl g d) := by
    funext a
    apply Fin.ext
    match a with
    | ⟨0, _⟩ => show (((b.val * 8192 + Q.val) * 4 + g.val) * 256 + d.val) / 8388608 = b.val; omega
    | ⟨1, _⟩ => show (((b.val * 8192 + Q.val) * 4 + g.val) * 256 + d.val) / 1024 % 8192 = Q.val; omega
    | ⟨2, _⟩ => show (((b.val * 8192 + Q.val) * 4 + g.val) * 256 + d.val) % 1024 = 256 * g.val + d.val; omega
  rw [e]
  refine Finset.sum_congr rfl fun i _ => congrArg₂ (fun x y : EReal => x * y) (congrArg h ?_) (congrArg wq ?_)
  · funext a; match a with | ⟨0, _⟩ => rfl | ⟨1, _⟩ => rfl | ⟨2, _⟩ => rfl
  · funext a; match a with | ⟨0, _⟩ => rfl | ⟨1, _⟩ => rfl

theorem memory_at (b : Fin 4) (K : Fin 256) (g : Fin 4) (d : Fin 256) : idx_main_v4 (ix4 b K g d) = ix3 b K (hl g d) := by
  funext a
  apply Fin.ext
  match a with
  | ⟨0, _⟩ => show (((b.val * 256 + K.val) * 4 + g.val) * 256 + d.val) / 262144 = b.val; omega
  | ⟨1, _⟩ => show (((b.val * 256 + K.val) * 4 + g.val) * 256 + d.val) / 1024 % 256 = K.val; omega
  | ⟨2, _⟩ => show (((b.val * 256 + K.val) * 4 + g.val) * 256 + d.val) % 1024 = 256 * g.val + d.val; omega

theorem k_at (b : Fin 4) (K : Fin 256) (g : Fin 4) (d : Fin 256) :
    val_main_v4 (F := Ideal) k (ix4 b K g d) = k (ix3 b K (hl g d)) := by
  rw [val_main_v4_apply, val_main_v3_apply]
  exact congrArg k (memory_at b K g d)

theorem v_at (b : Fin 4) (K : Fin 256) (g : Fin 4) (d : Fin 256) :
    val_main_v6 (F := Ideal) v (ix4 b K g d) = v (ix3 b K (hl g d)) := by
  rw [val_main_v6_apply, val_main_v5_apply]
  exact congrArg v (memory_at b K g d)

theorem score_at (b g : Fin 4) (Q : Fin 8192) (K : Fin 256) :
    val_main_v7 (F := Ideal) h wq k (ix4 b g Q K) = score h wq k b Q g K := by
  rw [val_main_v7_apply]
  unfold score
  refine Finset.sum_congr rfl fun d _ => ?_
  have el : lidx_main_v7 (ix4 b g Q K) d = ix4 b Q g d := by
    funext a; match a with | ⟨0, _⟩ => rfl | ⟨1, _⟩ => rfl | ⟨2, _⟩ => rfl | ⟨3, _⟩ => rfl
  have er : ridx_main_v7 (ix4 b g Q K) d = ix4 b K g d := by
    funext a; match a with | ⟨0, _⟩ => rfl | ⟨1, _⟩ => rfl | ⟨2, _⟩ => rfl | ⟨3, _⟩ => rfl
  rw [el, er, query_at, k_at]

variable {h wq k}

theorem scaled_at (H : Ok h wq k) (b g : Fin 4) (Q : Fin 8192) (K : Fin 256) :
    val_main_v9 (F := Ideal) h wq k (ix4 b g Q K) = ((units h wq k b Q g K * Real.log 2 : ℝ) : EReal) := by
  rw [val_main_v9_apply, score_at, val_main_v8_apply, val_main_cst_apply]
  exact (scaled H b Q g K).1

/-- Every query's maximum is a real. -/
theorem max_at (H : Ok h wq k) (b g : Fin 4) (Q : Fin 8192) :
    ∃ μ : ℝ, ∀ K, val_main_v14 (F := Ideal) h wq k (ix4 b g Q K) = (μ : EReal) := by
  obtain ⟨μ, hμ⟩ := fold_coe (Finset.univ : Finset (Fin 256)) 0 (Finset.mem_univ _) (fun K => units h wq k b Q g K * Real.log 2)
  refine ⟨μ, fun K => ?_⟩
  have e10 : val_main_v10 (F := Ideal) h wq k (ix3 b g Q) = (μ : EReal) := by
    unfold val_main_v10
    dsimp only
    refine (Host.reduce_eq_fold_single (FloatOps.maximumf (F := Ideal) (φ := .f32)) _ _ _ (by decide) _ (ix3 b g Q)).trans ?_
    refine Eq.trans ?_ hμ
    show Finset.fold _ (Ideal.ofBits .f32 0xFF800000#32) _ _ = _
    rw [Cert.Attn.ofBits_neg_inf]
    refine congrArg (fun f => Finset.fold max ⊥ f (Finset.univ : Finset (Fin 256))) (funext fun K' => ?_)
    refine Eq.trans (congrArg (val_main_v9 (F := Ideal) h wq k) (?_ : _ = ix4 b g Q K')) (scaled_at H b g Q K')
    funext a; match a with | ⟨0, _⟩ => rfl | ⟨1, _⟩ => rfl | ⟨2, _⟩ => rfl | ⟨3, _⟩ => rfl
  rw [val_main_v14_apply, val_main_v13_apply, val_main_v12_apply, val_main_v11_apply, val_main_cst_1_apply]
  have e : idx_main_v13 (idx_main_v14 (ix4 b g Q K)) = ix3 b g Q := by
    funext a; match a with | ⟨0, _⟩ => rfl | ⟨1, _⟩ => rfl | ⟨2, _⟩ => rfl
  rw [e, e10]
  show max (Ideal.ofBits .f32 0xFF800000#32) (μ : EReal) = _
  rw [Cert.Attn.ofBits_neg_inf]
  exact max_eq_right bot_le

theorem context_at (H : Ok h wq k) (b : Fin 4) (Q : Fin 8192) (l : Fin 1024) :
    val_main_v23 (F := Ideal) h wq k v (ix3 b Q l) = context h wq k v b Q (headOf l) (laneOf l) := by
  rw [val_main_v23_apply, val_main_v22_apply, val_main_v21_apply]
  obtain ⟨μ, hμ⟩ := max_at H b (headOf l) Q
  have e16 : ∀ K, val_main_v16 (F := Ideal) h wq k (ix4 b (headOf l) Q K)
      = Ideal.exp (((units h wq k b Q (headOf l) K * Real.log 2 : ℝ) : EReal) - (μ : EReal)) := fun K => by
    rw [val_main_v16_apply, val_main_v15_apply, scaled_at H, hμ]
    rfl
  have e19 : ∀ K, val_main_v19 (F := Ideal) h wq k (ix4 b (headOf l) Q K)
      = 0 + ∑ K', Ideal.exp (((units h wq k b Q (headOf l) K' * Real.log 2 : ℝ) : EReal) - (μ : EReal)) := fun K => by
    rw [val_main_v19_apply, val_main_v18_apply, val_main_v17_apply]
    refine congrArg₂ (· + ·) Ideal.ofBits_zero_f32 (Finset.sum_congr rfl fun K' _ => ?_)
    refine Eq.trans (congrArg _ ?_) (e16 K')
    funext a; match a with | ⟨0, _⟩ => rfl | ⟨1, _⟩ => rfl | ⟨2, _⟩ => rfl | ⟨3, _⟩ => rfl
  unfold context
  refine Eq.trans ?_ (textbook (n := 256) (by decide) (units h wq k b Q (headOf l)) _ μ)
  refine Finset.sum_congr rfl fun K _ => ?_
  have e23 : idx_main_v23 (ix3 b Q l) = ix4 b Q (headOf l) (laneOf l) := by
    funext a
    apply Fin.ext
    match a with
    | ⟨0, _⟩ => show ((b.val * 8192 + Q.val) * 1024 + l.val) / 8388608 = b.val; omega
    | ⟨1, _⟩ => show ((b.val * 8192 + Q.val) * 1024 + l.val) / 1024 % 8192 = Q.val; omega
    | ⟨2, _⟩ => show ((b.val * 8192 + Q.val) * 1024 + l.val) / 256 % 4 = l.val / 256; omega
    | ⟨3, _⟩ => show ((b.val * 8192 + Q.val) * 1024 + l.val) % 256 = l.val % 256; omega
  rw [e23]
  have el : lidx_main_v21 (idx_main_v22 (ix4 b Q (headOf l) (laneOf l))) K = ix4 b K (headOf l) (laneOf l) := by
    funext a; match a with | ⟨0, _⟩ => rfl | ⟨1, _⟩ => rfl | ⟨2, _⟩ => rfl | ⟨3, _⟩ => rfl
  have er : ridx_main_v21 (idx_main_v22 (ix4 b Q (headOf l) (laneOf l))) K = ix4 b (headOf l) Q K := by
    funext a; match a with | ⟨0, _⟩ => rfl | ⟨1, _⟩ => rfl | ⟨2, _⟩ => rfl | ⟨3, _⟩ => rfl
  rw [el, er, v_at, val_main_v20_apply, e16, e19]
  rfl

/-! ## The residual and the layer norm -/

variable {v} {wo} {gain} {bias}

theorem resid_at (H : Ok h wq k) (b : Fin 4) (Q : Fin 8192) (l : Fin 1024) :
    val_main_v28 (F := Ideal) h wq k v wo (ix3 b Q l) = resid h wq k v wo b Q l := by
  rw [val_main_v28_apply, val_main_v27_apply, val_main_v26_apply, val_main_cst_3_apply, val_main_v25_apply]
  unfold resid
  refine congrArg (fun x : EReal => Ideal.ofBits .f32 0x3FB504F3#32 * h (ix3 b Q l) + x) (Finset.sum_congr rfl fun i _ => ?_)
  refine congrArg₂ (fun x y : EReal => x * y) (Eq.trans (congrArg _ ?_) (context_at v H b Q i)) (congrArg wo ?_)
  · funext a; match a with | ⟨0, _⟩ => rfl | ⟨1, _⟩ => rfl | ⟨2, _⟩ => rfl
  · funext a; match a with | ⟨0, _⟩ => rfl | ⟨1, _⟩ => rfl

theorem mean_at (H : Ok h wq k) (b : Fin 4) (Q : Fin 8192) :
    val_main_v32 (F := Ideal) h wq k v wo (ix3 b Q (0 : Fin 1)) = mean (resid h wq k v wo b Q) := by
  rw [val_main_v32_apply, val_main_v30_apply, val_main_v29_apply, val_main_v31_apply, val_main_cst_5_apply, val_main_cst_4_apply]
  unfold mean
  refine congrArg (fun x : EReal => Ideal.div x (Ideal.ofBits .f32 0x44800000#32)) ?_
  show Ideal.ofBits .f32 0x00000000#32 + _ = _
  rw [Ideal.ofBits_zero_f32, zero_add]
  refine Finset.sum_congr rfl fun i _ => Eq.trans (congrArg _ ?_) (resid_at H b Q i)
  funext a; match a with | ⟨0, _⟩ => rfl | ⟨1, _⟩ => rfl | ⟨2, _⟩ => rfl

theorem dev_at (H : Ok h wq k) (b : Fin 4) (Q : Fin 8192) (l : Fin 1024) :
    val_main_v34 (F := Ideal) h wq k v wo (ix3 b Q l) = dev (resid h wq k v wo b Q) l := by
  rw [val_main_v34_apply, val_main_v33_apply]
  unfold dev
  refine congrArg₂ (fun x y : EReal => x - y) (resid_at H b Q l) (Eq.trans (congrArg _ ?_) (mean_at H b Q))
  funext a; match a with | ⟨0, _⟩ => rfl | ⟨1, _⟩ => rfl | ⟨2, _⟩ => rfl

theorem var_at (H : Ok h wq k) (b : Fin 4) (Q : Fin 8192) :
    val_main_v39 (F := Ideal) h wq k v wo (ix3 b Q (0 : Fin 1))
      = mean fun i => dev (resid h wq k v wo b Q) i * dev (resid h wq k v wo b Q) i := by
  rw [val_main_v39_apply, val_main_v37_apply, val_main_v36_apply, val_main_v38_apply, val_main_cst_7_apply, val_main_cst_6_apply]
  unfold mean
  refine congrArg (fun x : EReal => Ideal.div x (Ideal.ofBits .f32 0x44800000#32)) ?_
  show Ideal.ofBits .f32 0x00000000#32 + _ = _
  rw [Ideal.ofBits_zero_f32, zero_add]
  refine Finset.sum_congr rfl fun i _ => ?_
  rw [val_main_v35_apply]
  have e : idx_main_v36 (idx_main_v37 (ix3 b Q (0 : Fin 1))) i = ix3 b Q i := by
    funext a; match a with | ⟨0, _⟩ => rfl | ⟨1, _⟩ => rfl | ⟨2, _⟩ => rfl
  rw [e, dev_at H]
  rfl

/-- The reference's first result. -/
theorem result (H : Ok h wq k) : val_main_v54 (F := Ideal) h wq k v wo gain bias = out h wq k v wo gain bias := by
  funext i
  obtain ⟨b, hb⟩ : ∃ b : Fin 4, b = i 0 := ⟨_, rfl⟩
  obtain ⟨Q, hQ⟩ : ∃ Q : Fin 8192, Q = i 1 := ⟨_, rfl⟩
  obtain ⟨l, hl⟩ : ∃ l : Fin 1024, l = i 2 := ⟨_, rfl⟩
  have ei : i = ix3 b Q l := by
    rw [hb, hQ, hl]
    exact eq_ix3 i
  rw [ei, val_main_v54_apply, val_main_v50_apply, val_main_v46_apply, val_main_v41_apply, val_main_v40_apply, val_main_v45_apply,
    val_main_v44_apply, val_main_v43_apply, val_main_v42_apply, val_main_cst_8_apply, val_main_v49_apply, val_main_v48_apply,
    val_main_v47_apply, val_main_v53_apply, val_main_v52_apply, val_main_v51_apply]
  have e40 : idx_main_v40 (ix3 b Q l) = ix3 b Q (0 : Fin 1) := by
    funext a; match a with | ⟨0, _⟩ => rfl | ⟨1, _⟩ => rfl | ⟨2, _⟩ => rfl
  have e45 : idx_main_v45 (ix3 b Q l) = ix3 b Q (0 : Fin 1) := by
    funext a; match a with | ⟨0, _⟩ => rfl | ⟨1, _⟩ => rfl | ⟨2, _⟩ => rfl
  have e47 : idx_main_v47 (idx_main_v48 (idx_main_v49 (ix3 b Q l))) = ix2 (0 : Fin 1) l := by
    funext a; match a with | ⟨0, _⟩ => rfl | ⟨1, _⟩ => exact Fin.ext (Nat.mod_eq_of_lt l.isLt)
  have e51 : idx_main_v51 (idx_main_v52 (idx_main_v53 (ix3 b Q l))) = ix2 (0 : Fin 1) l := by
    funext a; match a with | ⟨0, _⟩ => rfl | ⟨1, _⟩ => exact Fin.ext (Nat.mod_eq_of_lt l.isLt)
  rw [e40, e45, e47, e51, resid_at H, mean_at H, var_at H]
  rfl

/-- The reference's second result. -/
theorem result_lines (H : Ok h wq k) : val_main_v55 (F := Ideal) h wq k v wo gain bias = lines (out h wq k v wo gain bias) := by
  funext i
  rw [val_main_v55_apply, result H]
  unfold lines
  refine congrArg (out h wq k v wo gain bias) (funext fun a => Fin.ext ?_)
  have h0 : (i 0).val < 262144 := (i 0).isLt
  have h1 : (i 1).val < 128 := (i 1).isLt
  match a with
  | ⟨0, _⟩ => show ((i 0).val * 128 + (i 1).val) / 8388608 = (i 0).val / 65536; omega
  | ⟨1, _⟩ => show ((i 0).val * 128 + (i 1).val) / 1024 % 8192 = (i 0).val / 8 % 8192; omega
  | ⟨2, _⟩ => show ((i 0).val * 128 + (i 1).val) % 1024 = 128 * ((i 0).val % 8) + (i 1).val; omega

end Cert.Xattn.Ref

end
-- ==== Proof.XattnPre.lean ====
/- The precondition of the cross attention, read: its tokens, its query weight and its keys are reals. -/
module

public import proofs.«01_k».proof.Proof.MlaPre
public import proofs.«01_k».proof.Proof.XattnOut
public import proofs.«01_k».proof.Proof.Gen.Pre_finite
public import Idealize.ShloMosaic.Lib.ReduceAll
public import Idealize.ShloMosaic.Lib.Pointwise
public import Idealize.ShloMosaic.Lib.IdealHost

@[expose] public section

set_option maxRecDepth 16384

noncomputable section

namespace Cert.Xattn

open Cert.Pre_finite Cert.Pre_finite.Gen Cert.AttnMath
open Cert.Mla (and_split real_of_abs)
open Idealize.ShloMosaic hiding ix1 ix2 ix3 ix4 ix5
open Idealize.ShloMosaic.ValueIdx

theorem ok_of_pre {h : Vec Ideal SH .f32} {wq : Vec Ideal SW .bf16} {k v : Vec Ideal SM .bf16} {wo : Vec Ideal SW .bf16}
    {g b : Vec Ideal SG .f32} (hp : Cert.Pre_finite.fn (F := Ideal) h wq k v wo g b = fun _ => 1#1) : Ok h wq k := by
  have h0 := congrFun hp (fun a => a.elim0)
  unfold Cert.Pre_finite.fn at h0
  dsimp only at h0
  obtain ⟨h12, h3⟩ := and_split h0
  obtain ⟨h1, h2⟩ := and_split h12
  haveI : Subsingleton S_.Idx := ⟨fun a b => funext fun i => i.elim0⟩
  refine ⟨fun i => ?_, fun i => ?_, fun i => ?_⟩
  · have e := Host.reduce_andi_all _ _ _ _ _ h1 i
    refine real_of_abs ?_
    rw [← Cert.Attn.ofBits_pos_inf]
    exact e
  · have e := Host.reduce_andi_all _ _ _ _ _ h2 i
    refine real_of_abs ?_
    rw [← Cert.Attn.ofBits_pos_inf]
    exact e
  · have e := Host.reduce_andi_all _ _ _ _ _ h3 i
    refine real_of_abs ?_
    rw [← Cert.Attn.ofBits_pos_inf]
    exact e

end Cert.Xattn

end
-- ==== Proof.MixOut.lean ====
/- The mixer's output: its four groups normalized by their root mean square and scaled, the projection, the residual and
   the layer norm, as a function of nine arrays. -/
module

public import proofs.«01_k».proof.Proof.XattnOut

@[expose] public section

set_option maxRecDepth 16384

noncomputable section

namespace Cert.Mix

open Idealize.ShloMosaic Idealize.ShloMosaic.ValueIdx
open Cert.Xattn (SW SG headOf laneOf lnorm)

/-- A group: 32768 rows of 256 numbers. -/
abbrev SY : Shape := ⟨2, ![32768, 256]⟩
/-- The tokens: 32768 rows of 1024. -/
abbrev SR : Shape := ⟨2, ![32768, 1024]⟩
/-- The groups' gains. -/
abbrev SN : Shape := ⟨2, ![4, 256]⟩

/-- One of four. -/
def pick {α : Type} (a b c d : α) (g : Fin 4) : α := match g with
  | ⟨0, _⟩ => a
  | ⟨1, _⟩ => b
  | ⟨2, _⟩ => c
  | ⟨3, _⟩ => d

/-- A group's row over its root mean square, times a gain. -/
def rms (x : Fin 256 → EReal) (g : EReal) (d : Fin 256) : EReal :=
  x d * Ideal.rsqrt (Ideal.div (∑ i, x i * x i) (Ideal.ofBits .f32 0x43800000#32) + Ideal.ofBits .f32 0x358637BD#32) * g

/-- The residual row before the layer norm. -/
def resid (y : Fin 4 → Vec Ideal SY .f32) (h : Vec Ideal SR .f32) (gg : Vec Ideal SN .f32) (w : Vec Ideal SW .bf16)
    (r : Fin 32768) (l : Fin 1024) : EReal :=
  Ideal.ofBits .f32 0x3FB504F3#32 * h (ix2 r l)
    + ∑ i : Fin 1024, rms (fun d => y (headOf i) (ix2 r d)) (gg (ix2 (headOf i) (laneOf i))) (laneOf i) * w (ix2 i l)

/-- The result. -/
def out (y : Fin 4 → Vec Ideal SY .f32) (h : Vec Ideal SR .f32) (gg : Vec Ideal SN .f32) (w : Vec Ideal SW .bf16)
    (g b : Vec Ideal SG .f32) : Vec Ideal SR .f32 := fun i =>
  lnorm (resid y h gg w (i 0)) (g (ix2 (0 : Fin 1) (i 1))) (b (ix2 (0 : Fin 1) (i 1))) (i 1)

end Cert.Mix

end
-- ==== Proof.MixRead.lean ====
/- The mixer output's body read at an index, at the ideal values. -/
module

public import proofs.«01_k».proof.Proof.MixOut
public import Idealize.ShloMosaic.Lib.MatmulPlain
public import Idealize.ShloMosaic.Lib.ValueLayout
public import proofs.«01_k».proof.Proof.Gen.Kernel5Ideal.Frame
public import Idealize.ShloMosaic.Lib.Pipeline.ValueKit

@[expose] public section

set_option maxRecDepth 16384

noncomputable section

namespace Cert.Kernel5Ideal.Mix

open Cert.Kernel5Ideal Cert.Kernel5Ideal.Gen
open Cert.Mix (pick rms)
open Cert.Xattn (headOf laneOf mean dev lnorm)
open Idealize.ShloMosaic hiding ix1 ix2 ix3 ix4 ix5
open Idealize.ShloMosaic.TcCoe Idealize.ShloMosaic.ValueIdx

/-! ## A row's reductions, spread over the row again -/

theorem column_apply (v : FVec Ideal S512 .f32) (u : Fin 512) (z : Fin 1) :
    shapeCast S512x1 v shapeCasts_S512_S512x1 (ix2 u z) = v (ix1 u) := by
  refine shapeCast_apply _ _ _ (ix1 u) ?_
  refine (rowMajor_val1 _).trans (Eq.trans ?_ (rowMajor_val2 _ 1 rfl).symm)
  show u.val = u.val * 1 + z.val
  omega

theorem spread256_apply (v : FVec Ideal S512x1 .f32) (u : Fin 512) (t : Fin 256) :
    broadcastTo S512x256 v broadcasts_S512x1_S512x256 (ix2 u t) = v (ix2 u (0 : Fin 1)) := by
  refine broadcastTo_apply v _ (ix2 u t) (ix2 u (0 : Fin 1)) fun ax => ?_
  match ax with
  | ⟨0, _⟩ => rfl
  | ⟨1, _⟩ => rfl

theorem spread1024_apply (v : FVec Ideal S512x1 .f32) (u : Fin 512) (t : Fin 1024) :
    broadcastTo S512x1024 v broadcasts_S512x1_S512x1024 (ix2 u t) = v (ix2 u (0 : Fin 1)) := by
  refine broadcastTo_apply v _ (ix2 u t) (ix2 u (0 : Fin 1)) fun ax => ?_
  match ax with
  | ⟨0, _⟩ => rfl
  | ⟨1, _⟩ => rfl

theorem sum256_apply (s : FVec Ideal S512x256 .f32) (u : Fin 512) :
    multiReduction .add [1] S512 s 0x00000000#32 reduces_S512x256_S512 (.inl rfl) rfl (ix1 u) = ∑ t : Fin 256, s (ix2 u t) := by
  refine (Ideal.multiReduction_add_single s 0x00000000#32 reduces_S512x256_S512 (.inl rfl) rfl (ix1 u)).trans ?_
  refine Finset.sum_congr rfl fun r _ => congrArg s ?_
  funext a; match a with | ⟨0, _⟩ => rfl | ⟨1, _⟩ => rfl

theorem sum1024_apply (s : FVec Ideal S512x1024 .f32) (u : Fin 512) :
    multiReduction .add [1] S512 s 0x00000000#32 reduces_S512x1024_S512 (.inl rfl) rfl (ix1 u) = ∑ t : Fin 1024, s (ix2 u t) := by
  refine (Ideal.multiReduction_add_single s 0x00000000#32 reduces_S512x1024_S512 (.inl rfl) rfl (ix1 u)).trans ?_
  refine Finset.sum_congr rfl fun r _ => congrArg s ?_
  funext a; match a with | ⟨0, _⟩ => rfl | ⟨1, _⟩ => rfl

section Words

variable {F : FTy → Type} [FloatOps F]

/-- A group over its root mean square, times its gain. -/
def group (x : Vec F S512x256 .f32) (g : Vec F S1x256 .f32) : FVec F S512x256 .bf16 :=
  truncf .bf16 (mulf (mulf (x : FVec F S512x256 .f32) (broadcastTo S512x256 (rsqrt (addf (divf
      (shapeCast S512x1 (multiReduction .add [1] S512 (mulf (x : FVec F S512x256 .f32) x) 0x00000000#32 reduces_S512x256_S512 (.inl rfl) rfl)
        shapeCasts_S512_S512x1) (broadcast S512x1 (Scalar.ofBits .f32 0x43800000#32)))
      (broadcast S512x1 (Scalar.ofBits .f32 0x358637BD#32)))) broadcasts_S512x1_S512x256))
    (broadcastTo S512x256 (g : FVec F S1x256 .f32) broadcasts_S1x256_S512x256)) bitsLt_bf16_f32

/-- A row of the groups' gains. -/
def gains (x : Vec F S4x256 .f32) (g : Fin 4) : Vec F S1x256 .f32 := match g with
  | ⟨0, _⟩ => View.ld x r0_1
  | ⟨1, _⟩ => View.ld x r0_2
  | ⟨2, _⟩ => View.ld x r0_3
  | ⟨3, _⟩ => View.ld x r0_4

/-- The four groups side by side. -/
def groups (x : Fin 4 → Vec F S512x256 .f32) (x5 : Vec F S4x256 .f32) : FVec F S512x1024 .bf16 :=
  concatenate S512x1024 1 (List.ofFn fun g : Fin 4 => (⟨S512x256, group (View.ld (x g) r0_0) (gains x5 g)⟩ : (s : Shape) × (s.Idx → F .bf16)))
    concatenates_S512x256_S512x256_S512x256_S512x256_S512x1024_d1

/-- The residual rows, and their layer norm. -/
def rest (x : FVec F S512x1024 .f32) (o : FVec F S512x1024 .bf16) (w : Vec F S1024x1024 .bf16) : FVec F S512x1024 .f32 :=
  addf (mulf (broadcast S512x1024 (Scalar.ofBits .f32 0x3FB504F3#32)) x)
    (matmul dot_S512x1024_S1024x1024_S512x1024_1_0_0_1_n_n none o (w : FVec F S1024x1024 .bf16) (constant S512x1024 .f32 0x00000000#32))
def means (x : FVec F S512x1024 .f32) : FVec F S512x1 .f32 :=
  divf (shapeCast S512x1 (multiReduction .add [1] S512 x 0x00000000#32 reduces_S512x1024_S512 (.inl rfl) rfl) shapeCasts_S512_S512x1)
    (broadcast S512x1 (Scalar.ofBits .f32 0x44800000#32))
def devs (x : FVec F S512x1024 .f32) : FVec F S512x1024 .f32 :=
  subf x (broadcastTo S512x1024 (means x) broadcasts_S512x1_S512x1024)
def norm (x : FVec F S512x1024 .f32) (g b : Vec F S1x1024 .f32) : FVec F S512x1024 .f32 :=
  addf (mulf (mulf (devs x) (broadcastTo S512x1024
      (rsqrt (addf (means (mulf (devs x) (devs x))) (broadcast S512x1 (Scalar.ofBits .f32 0x3727C5AC#32)))) broadcasts_S512x1_S512x1024))
    (broadcastTo S512x1024 (g : FVec F S1x1024 .f32) broadcasts_S1x1024_S512x1024))
    (broadcastTo S512x1024 (b : FVec F S1x1024 .f32) broadcasts_S1x1024_S512x1024)

/-- The block a grid point leaves. -/
def normed (x0 x1 x2 x3 : Vec F S512x256 .f32) (x4 : Vec F S512x1024 .f32) (x5 : Vec F S4x256 .f32) (x6 : Vec F S1024x1024 .bf16)
    (x7 x8 : Vec F S1x1024 .f32) : FVec F S512x1024 .f32 :=
  norm (rest (View.ld x4 r0_6) (groups (pick x0 x1 x2 x3) x5) (View.ld x6 r0_5)) (View.ld x7 r0_7) (View.ld x8 r0_7)

theorem out_eq (x0 x1 x2 x3 : Vec F S512x256 .f32) (x4 : Vec F S512x1024 .f32) (x5 : Vec F S4x256 .f32) (x6 : Vec F S1024x1024 .bf16)
    (x7 x8 : Vec F S1x1024 .f32) : out0_9 x0 x1 x2 x3 x4 x5 x6 x7 x8 = normed x0 x1 x2 x3 x4 x5 x6 x7 x8 := by
  have e : out0_9 x0 x1 x2 x3 x4 x5 x6 x7 x8 = View.canon [⟨r0_6, normed x0 x1 x2 x3 x4 x5 x6 x7 x8⟩] := rfl
  rw [e]
  exact View.canon_unit_zero (by funext a; match a with | ⟨0, _⟩ => rfl | ⟨1, _⟩ => rfl) _ _

end Words

/-! ## The loads -/

theorem ldX (x : Vec Ideal S512x256 .f32) (u : Fin 512) (d : Fin 256) : View.ld x r0_0 (ix2 u d) = x (ix2 u d) := by
  refine View.ld_unit_apply_of _ _ _ _ _ _ fun a => ?_
  match a with
  | ⟨0, _⟩ => exact (Nat.zero_add _).symm
  | ⟨1, _⟩ => exact (Nat.zero_add _).symm

theorem ldH (x : Vec Ideal S512x1024 .f32) (u : Fin 512) (l : Fin 1024) : View.ld x r0_6 (ix2 u l) = x (ix2 u l) := by
  refine View.ld_unit_apply_of _ _ _ _ _ _ fun a => ?_
  match a with
  | ⟨0, _⟩ => exact (Nat.zero_add _).symm
  | ⟨1, _⟩ => exact (Nat.zero_add _).symm

theorem ldW (x : Vec Ideal S1024x1024 .bf16) (i l : Fin 1024) : View.ld x r0_5 (ix2 i l) = x (ix2 i l) := by
  refine View.ld_unit_apply_of _ _ _ _ _ _ fun a => ?_
  match a with
  | ⟨0, _⟩ => exact (Nat.zero_add _).symm
  | ⟨1, _⟩ => exact (Nat.zero_add _).symm

theorem ldV (x : Vec Ideal S1x1024 .f32) (l : Fin 1024) : View.ld x r0_7 (ix2 (0 : Fin 1) l) = x (ix2 (0 : Fin 1) l) := by
  refine View.ld_unit_apply_of _ _ _ _ _ _ fun a => ?_
  match a with
  | ⟨0, _⟩ => rfl
  | ⟨1, _⟩ => exact (Nat.zero_add _).symm

theorem gains_apply (x : Vec Ideal S4x256 .f32) (g : Fin 4) (d : Fin 256) : gains x g (ix2 (0 : Fin 1) d) = x (ix2 g d) := by
  match g with
  | ⟨0, _⟩ | ⟨1, _⟩ | ⟨2, _⟩ | ⟨3, _⟩ =>
    refine View.ld_unit_apply_of _ _ _ _ _ _ fun a => ?_
    match a with
    | ⟨0, _⟩ => rfl
    | ⟨1, _⟩ => exact (Nat.zero_add _).symm

/-! ## The groups -/

theorem group_apply (x : Vec Ideal S512x256 .f32) (g : Vec Ideal S1x256 .f32) (u : Fin 512) (d : Fin 256) :
    (group x g (ix2 u d) : EReal) = rms (fun i => x (ix2 u i)) (g (ix2 (0 : Fin 1) d)) d := by
  unfold group rms
  refine congrArg₂ (fun a c : EReal => a * c) (congrArg (fun a : EReal => x (ix2 u d) * a) ?_) (broadcastTo_1b_ab_apply _ _ u d)
  refine (spread256_apply _ u d).trans ?_
  refine congrArg (fun a : EReal => Ideal.rsqrt (Ideal.div a (Ideal.ofBits .f32 0x43800000#32) + Ideal.ofBits .f32 0x358637BD#32)) ?_
  exact (column_apply _ u 0).trans (sum256_apply _ u)

theorem groups_apply (x : Fin 4 → Vec Ideal S512x256 .f32) (x5 : Vec Ideal S4x256 .f32) (u : Fin 512) (l : Fin 1024) :
    (groups x x5 (ix2 u l) : EReal) = rms (fun d => x (headOf l) (ix2 u d)) (x5 (ix2 (headOf l) (laneOf l))) (laneOf l) := by
  unfold groups
  refine (concatenate_ofFn_apply (t := S512x1024) (s₁ := S512x256) 1 (fun g : Fin 4 => group (View.ld (x g) r0_0) (gains x5 g))
    concatenates_S512x256_S512x256_S512x256_S512x256_S512x1024_d1 rfl 256 rfl (ix2 u l)
    (headOf l) rfl (ix2 u (laneOf l)) rfl fun b hb => ?_).trans ?_
  · match b with
    | ⟨0, _⟩ => rfl
    | ⟨1, _⟩ => exact absurd rfl hb
  · refine (group_apply _ _ u (laneOf l)).trans ?_
    rw [gains_apply]
    exact congrArg (fun f => rms f _ _) (funext fun d => ldX _ u d)

/-! ## The layer norm -/

theorem means_apply (x : FVec Ideal S512x1024 .f32) (u : Fin 512) (z : Fin 1) :
    means x (ix2 u z) = mean fun i => x (ix2 u i) := by
  unfold means mean
  refine congrArg (fun a => Ideal.div a (Ideal.ofBits .f32 0x44800000#32)) ?_
  exact (column_apply _ u z).trans (sum1024_apply x u)

theorem devs_apply (x : FVec Ideal S512x1024 .f32) (u : Fin 512) (l : Fin 1024) :
    devs x (ix2 u l) = dev (fun i => x (ix2 u i)) l := by
  unfold devs dev
  refine congrArg (fun a : EReal => x (ix2 u l) - a) ?_
  exact (spread1024_apply _ u l).trans (means_apply x u 0)

theorem norm_apply (x : FVec Ideal S512x1024 .f32) (g b : Vec Ideal S1x1024 .f32) (u : Fin 512) (l : Fin 1024) :
    norm x g b (ix2 u l) = lnorm (fun i => x (ix2 u i)) (g (ix2 (0 : Fin 1) l)) (b (ix2 (0 : Fin 1) l)) l := by
  unfold norm lnorm
  refine congrArg₂ (fun a c : EReal => a + c) (congrArg₂ (fun a c : EReal => a * c) (congrArg₂ (fun a c : EReal => a * c) (devs_apply x u l) ?_)
    (broadcastTo_1b_ab_apply _ _ u l)) (broadcastTo_1b_ab_apply _ _ u l)
  refine (spread1024_apply _ u l).trans (congrArg Ideal.rsqrt ?_)
  refine congrArg (fun a : EReal => a + Ideal.ofBits .f32 0x3727C5AC#32) ((means_apply _ u 0).trans (congrArg mean (funext fun i => ?_)))
  exact congrArg₂ (fun a c : EReal => a * c) (devs_apply x u i) (devs_apply x u i)

/-! ## A block's row -/

theorem normed_apply (x0 x1 x2 x3 : Vec Ideal S512x256 .f32) (x4 : Vec Ideal S512x1024 .f32) (x5 : Vec Ideal S4x256 .f32)
    (x6 : Vec Ideal S1024x1024 .bf16) (x7 x8 : Vec Ideal S1x1024 .f32) (u : Fin 512) (l : Fin 1024) :
    normed x0 x1 x2 x3 x4 x5 x6 x7 x8 (ix2 u l)
      = lnorm (fun c => Ideal.ofBits .f32 0x3FB504F3#32 * x4 (ix2 u c)
          + ∑ i : Fin 1024, rms (fun d => pick x0 x1 x2 x3 (headOf i) (ix2 u d)) (x5 (ix2 (headOf i) (laneOf i))) (laneOf i) * x6 (ix2 i c))
        (x7 (ix2 (0 : Fin 1) l)) (x8 (ix2 (0 : Fin 1) l)) l := by
  unfold normed
  rw [norm_apply, ldV, ldV]
  refine congrArg (fun f => lnorm f _ _ l) (funext fun c => ?_)
  unfold rest
  refine congrArg₂ (fun a b : EReal => a + b) (congrArg (fun a : EReal => Ideal.ofBits .f32 0x3FB504F3#32 * a) (ldH x4 u c)) ?_
  simp only [matmul]
  refine (Ideal.matmul_plain_apply _ _ _ _ u c).trans ?_
  show Ideal.ofBits .f32 0x00000000#32 + _ = _
  rw [Ideal.ofBits_zero_f32, zero_add]
  exact Finset.sum_congr rfl fun i _ => congrArg₂ (fun a b : EReal => a * b) (groups_apply _ x5 u i) (ldW x6 i c)

end Cert.Kernel5Ideal.Mix

end
-- ==== Proof.MixFinal.lean ====
/- The mixer output's result array after the run. -/
module

public import proofs.«01_k».proof.Proof.MixRead

@[expose] public section

set_option maxRecDepth 16384

noncomputable section

namespace Cert.Mix

open Cert.Kernel5Ideal Cert.Kernel5Ideal.Gen Cert.Kernel5Ideal.Mix
open Cert.Xattn (SW SG headOf laneOf lnorm)
open Idealize.ShloMosaic hiding ix1 ix2 ix3 ix4 ix5
open Idealize.ShloMosaic.TcCoe Idealize.ShloMosaic.ValueIdx Idealize.SL.Sem
open Idealize.ShloMosaic.Pipeline (Dat)

variable (m : (ℓ : Loc nD τ sig) → Buf (Elt Ideal) ℓ)

abbrev argYa (c : Dev nD) : Vec Ideal SY .f32 := m ((c : Thread nD τ).loc main_arg0)
abbrev argYb (c : Dev nD) : Vec Ideal SY .f32 := m ((c : Thread nD τ).loc main_arg1)
abbrev argYc (c : Dev nD) : Vec Ideal SY .f32 := m ((c : Thread nD τ).loc main_arg2)
abbrev argYd (c : Dev nD) : Vec Ideal SY .f32 := m ((c : Thread nD τ).loc main_arg3)
abbrev argH (c : Dev nD) : Vec Ideal SR .f32 := m ((c : Thread nD τ).loc main_arg4)
abbrev argN (c : Dev nD) : Vec Ideal SN .f32 := m ((c : Thread nD τ).loc main_arg5)
abbrev argW (c : Dev nD) : Vec Ideal SW .bf16 := m ((c : Thread nD τ).loc main_arg6)
abbrev argG (c : Dev nD) : Vec Ideal SG .f32 := m ((c : Thread nD τ).loc main_arg7)
abbrev argB (c : Dev nD) : Vec Ideal SG .f32 := m ((c : Thread nD τ).loc main_arg8)

/-- The four groups. -/
abbrev argY (c : Dev nD) : Fin 4 → Vec Ideal SY .f32 := pick (argYa m c) (argYb m c) (argYc m c) (argYd m c)

/-- The kernel's result, from its arguments. -/
abbrev result (c : Dev nD) : Vec Ideal SR .f32 := out (argY m c) (argH m c) (argN m c) (argW m c) (argG m c) (argB m c)

/-- The windows' index maps, at every grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![0, 0] ∧ win0_8.index t = ![0, 0] ∧ win0_9.index t = ![t.val, 0] ∧ t.val < 64 :=
  (by decide +kernel : ∀ t : Fin grid0.N, _)

/-- The row a block's row `u` is, at grid point `t`. -/
def row (t : Fin cfg0.N) (u : Fin 512) : Fin 32768 :=
  ⟨512 * t.val + u.val, by have := (idx t).2.2.2.2.2.2.2.2.2.2; omega⟩

theorem ya_read (c : Dev nD) (t : Fin cfg0.N) (u : Fin 512) (d : Fin 256) :
    (iblk m c 0 t : Vec Ideal S512x256 .f32) (ix2 u d) = argYa m c (ix2 (row t u) d) := by
  blk_ext! [iblk, V, idx t, row]
  show t.val * 512 + u.val = _
  omega

theorem yb_read (c : Dev nD) (t : Fin cfg0.N) (u : Fin 512) (d : Fin 256) :
    (iblk m c 1 t : Vec Ideal S512x256 .f32) (ix2 u d) = argYb m c (ix2 (row t u) d) := by
  blk_ext! [iblk, V, idx t, row]
  show t.val * 512 + u.val = _
  omega

theorem yc_read (c : Dev nD) (t : Fin cfg0.N) (u : Fin 512) (d : Fin 256) :
    (iblk m c 2 t : Vec Ideal S512x256 .f32) (ix2 u d) = argYc m c (ix2 (row t u) d) := by
  blk_ext! [iblk, V, idx t, row]
  show t.val * 512 + u.val = _
  omega

theorem yd_read (c : Dev nD) (t : Fin cfg0.N) (u : Fin 512) (d : Fin 256) :
    (iblk m c 3 t : Vec Ideal S512x256 .f32) (ix2 u d) = argYd m c (ix2 (row t u) d) := by
  blk_ext! [iblk, V, idx t, row]
  show t.val * 512 + u.val = _
  omega

theorem y_read (c : Dev nD) (t : Fin cfg0.N) (g : Fin 4) (u : Fin 512) (d : Fin 256) :
    pick (iblk m c 0 t : Vec Ideal S512x256 .f32) (iblk m c 1 t : Vec Ideal S512x256 .f32) (iblk m c 2 t : Vec Ideal S512x256 .f32)
      (iblk m c 3 t : Vec Ideal S512x256 .f32) g (ix2 u d) = argY m c g (ix2 (row t u) d) := by
  match g with
  | ⟨0, _⟩ => exact ya_read m c t u d
  | ⟨1, _⟩ => exact yb_read m c t u d
  | ⟨2, _⟩ => exact yc_read m c t u d
  | ⟨3, _⟩ => exact yd_read m c t u d

theorem h_read (c : Dev nD) (t : Fin cfg0.N) (u : Fin 512) (l : Fin 1024) :
    (iblk m c 4 t : Vec Ideal S512x1024 .f32) (ix2 u l) = argH m c (ix2 (row t u) l) := by
  blk_ext! [iblk, V, idx t, row]
  show t.val * 512 + u.val = _
  omega

theorem n_read (c : Dev nD) (t : Fin cfg0.N) (g : Fin 4) (d : Fin 256) :
    (iblk m c 5 t : Vec Ideal S4x256 .f32) (ix2 g d) = argN m c (ix2 g d) := by
  blk_ext! [iblk, V, idx t]

theorem w_read (c : Dev nD) (t : Fin cfg0.N) (i l : Fin 1024) :
    (iblk m c 6 t : Vec Ideal S1024x1024 .bf16) (ix2 i l) = argW m c (ix2 i l) := by
  blk_ext! [iblk, V, idx t]

theorem g_read (c : Dev nD) (t : Fin cfg0.N) (l : Fin 1024) :
    (iblk m c 7 t : Vec Ideal S1x1024 .f32) (ix2 (0 : Fin 1) l) = argG m c (ix2 (0 : Fin 1) l) := by
  blk_ext! [iblk, V, idx t]

theorem b_read (c : Dev nD) (t : Fin cfg0.N) (l : Fin 1024) :
    (iblk m c 8 t : Vec Ideal S1x1024 .f32) (ix2 (0 : Fin 1) l) = argB m c (ix2 (0 : Fin 1) l) := by
  blk_ext! [iblk, V, idx t]

theorem point (c : Dev nD) (t : Fin cfg0.N) (u : Fin 512) (l : Fin 1024) :
    (normed (iblk m c 0 t) (iblk m c 1 t) (iblk m c 2 t) (iblk m c 3 t) (iblk m c 4 t) (iblk m c 5 t) (iblk m c 6 t) (iblk m c 7 t)
      (iblk m c 8 t) (ix2 u l) : EReal) = result m c (ix2 (row t u) l) := by
  refine (normed_apply _ _ _ _ _ _ _ _ _ u l).trans ?_
  rw [g_read, b_read]
  show _ = lnorm (resid _ _ _ _ (row t u)) (argG m c (ix2 (0 : Fin 1) l)) (argB m c (ix2 (0 : Fin 1) l)) l
  refine congrArg (fun f => lnorm f _ _ l) (funext fun x => ?_)
  unfold resid
  rw [h_read]
  refine congrArg (fun a : EReal => _ + a) (Finset.sum_congr rfl fun i _ => ?_)
  rw [w_read, n_read]
  exact congrArg (fun f => rms f _ _ * _) (funext fun d => y_read m c t _ u d)

/-- The result array. -/
theorem final (c : Dev nD) : (dats m 0 c).arrAt 9 cfg0.N = result m c := by
  refine (dats m 0 c).arrAt_eq_of_covers 9 _ (by decide +kernel) fun t _ y => ?_
  blk_simp
  rw [after0_9, out_eq]
  have ey : y = ix2 (y 0) (y 1) := ValueIdx.eq_ix2 y
  rw [ey]
  refine (point m c t (y 0) (y 1)).trans (congrArg _ ?_)
  blk_ext [idx t, row]
  show _ = t.val * 512 + (y 0).val
  omega

end Cert.Mix

end
-- ==== Proof.MixRef.lean ====
/- The reference of the mixer's output: its result is `out` of its arguments. -/
module

public import proofs.«01_k».proof.Proof.MixOut
public import proofs.«01_k».proof.Proof.Gen.Reference5Ideal.Read

@[expose] public section

set_option maxRecDepth 16384

noncomputable section

namespace Cert.Mix.Ref

open Cert.Reference5Ideal Cert.Reference5Ideal.Gen Cert.Reference5Ideal.Read
open Cert.Xattn (SW SG headOf laneOf mean dev lnorm)
open Idealize.ShloMosaic Idealize.ShloMosaic.ValueIdx

variable (ya yb yc yd : Vec Ideal SY .f32) (h : Vec Ideal SR .f32) (gg : Vec Ideal SN .f32) (w : Vec Ideal SW .bf16)
  (gain bias : Vec Ideal SG .f32)

/-! ## The groups -/

theorem group_at (r : Fin 32768) (g : Fin 4) (d : Fin 256) :
    val_main_v4 (F := Ideal) ya yb yc yd (ix3 r g d) = pick ya yb yc yd g (ix2 r d) := by
  unfold val_main_v4
  refine (concatenate_ofFn_apply (t := S32768x4x256) (s₁ := S32768x1x256) 1
    (fun g : Fin 4 => val_main_v0 (F := Ideal) (pick ya yb yc yd g))
    concatenates_S32768x1x256_S32768x1x256_S32768x1x256_S32768x1x256_S32768x4x256_d1 rfl 1 rfl (ix3 r g d)
    g (Nat.div_one _) (ix3 r (0 : Fin 1) d) (Nat.mod_one _).symm fun b hb => ?_).trans ?_
  · match b with
    | ⟨0, _⟩ => rfl
    | ⟨1, _⟩ => exact absurd rfl hb
    | ⟨2, _⟩ => rfl
  · rw [val_main_v0_apply]
    refine congrArg (pick ya yb yc yd g) ?_
    funext a; match a with | ⟨0, _⟩ => rfl | ⟨1, _⟩ => rfl

theorem scale_at (r : Fin 32768) (g : Fin 4) :
    val_main_v12 (F := Ideal) ya yb yc yd (ix3 r g (0 : Fin 1))
      = Ideal.rsqrt (Ideal.div (∑ i, pick ya yb yc yd g (ix2 r i) * pick ya yb yc yd g (ix2 r i)) (Ideal.ofBits .f32 0x43800000#32)
          + Ideal.ofBits .f32 0x358637BD#32) := by
  rw [val_main_v12_apply, val_main_v11_apply, val_main_v9_apply, val_main_v7_apply, val_main_v6_apply, val_main_v8_apply,
    val_main_cst_0_apply, val_main_v10_apply, val_main_cst_1_apply, val_main_cst_apply]
  refine congrArg (fun x : EReal => Ideal.rsqrt (Ideal.div x (Ideal.ofBits .f32 0x43800000#32) + Ideal.ofBits .f32 0x358637BD#32)) ?_
  show Ideal.ofBits .f32 0x00000000#32 + _ = _
  rw [Ideal.ofBits_zero_f32, zero_add]
  refine Finset.sum_congr rfl fun i _ => ?_
  rw [val_main_v5_apply]
  have e : idx_main_v6 (idx_main_v7 (ix3 r g (0 : Fin 1))) i = ix3 r g i := by
    funext a; match a with | ⟨0, _⟩ => rfl | ⟨1, _⟩ => rfl | ⟨2, _⟩ => rfl
  rw [e, group_at]
  rfl

theorem part_at (r : Fin 32768) (l : Fin 1024) :
    val_main_v20 (F := Ideal) ya yb yc yd gg (ix2 r l)
      = rms (fun d => pick ya yb yc yd (headOf l) (ix2 r d)) (gg (ix2 (headOf l) (laneOf l))) (laneOf l) := by
  rw [val_main_v20_apply]
  have e : idx_main_v20 (ix2 r l) = ix3 r (headOf l) (laneOf l) := by
    funext a
    apply Fin.ext
    match a with
    | ⟨0, _⟩ => show (r.val * 1024 + l.val) / 1024 = r.val; omega
    | ⟨1, _⟩ => show (r.val * 1024 + l.val) / 256 % 4 = l.val / 256; omega
    | ⟨2, _⟩ => show (r.val * 1024 + l.val) % 256 = l.val % 256; omega
  rw [e, val_main_v19_apply, val_main_v16_apply, val_main_v15_apply, val_main_v18_apply, val_main_v17_apply, group_at]
  have e15 : idx_main_v15 (ix3 r (headOf l) (laneOf l)) = ix3 r (headOf l) (0 : Fin 1) := by
    funext a; match a with | ⟨0, _⟩ => rfl | ⟨1, _⟩ => rfl | ⟨2, _⟩ => rfl
  have e17 : idx_main_v17 (idx_main_v18 (ix3 r (headOf l) (laneOf l))) = ix2 (headOf l) (laneOf l) := by
    funext a; match a with | ⟨0, _⟩ => rfl | ⟨1, _⟩ => rfl
  rw [e15, e17, scale_at]
  rfl

/-! ## The residual and the layer norm -/

theorem resid_at (r : Fin 32768) (l : Fin 1024) :
    val_main_v23 (F := Ideal) ya yb yc yd h gg w (ix2 r l) = resid (pick ya yb yc yd) h gg w r l := by
  rw [val_main_v23_apply, val_main_v14_apply, val_main_v13_apply, val_main_cst_2_apply, val_main_v22_apply]
  unfold resid
  refine congrArg (fun x : EReal => Ideal.ofBits .f32 0x3FB504F3#32 * h (ix2 r l) + x) (Finset.sum_congr rfl fun i _ => ?_)
  refine congrArg₂ (fun x y : EReal => x * y) (Eq.trans (congrArg _ ?_) (part_at ya yb yc yd gg r i)) (congrArg w ?_)
  · funext a; match a with | ⟨0, _⟩ => rfl | ⟨1, _⟩ => rfl
  · funext a; match a with | ⟨0, _⟩ => rfl | ⟨1, _⟩ => rfl

theorem mean_at (r : Fin 32768) :
    val_main_v27 (F := Ideal) ya yb yc yd h gg w (ix2 r (0 : Fin 1)) = mean (resid (pick ya yb yc yd) h gg w r) := by
  rw [val_main_v27_apply, val_main_v25_apply, val_main_v24_apply, val_main_v26_apply, val_main_cst_4_apply, val_main_cst_3_apply]
  unfold mean
  refine congrArg (fun x : EReal => Ideal.div x (Ideal.ofBits .f32 0x44800000#32)) ?_
  show Ideal.ofBits .f32 0x00000000#32 + _ = _
  rw [Ideal.ofBits_zero_f32, zero_add]
  refine Finset.sum_congr rfl fun i _ => Eq.trans (congrArg _ ?_) (resid_at ya yb yc yd h gg w r i)
  funext a; match a with | ⟨0, _⟩ => rfl | ⟨1, _⟩ => rfl

theorem dev_at (r : Fin 32768) (l : Fin 1024) :
    val_main_v29 (F := Ideal) ya yb yc yd h gg w (ix2 r l) = dev (resid (pick ya yb yc yd) h gg w r) l := by
  rw [val_main_v29_apply, val_main_v28_apply]
  unfold dev
  refine congrArg₂ (fun x y : EReal => x - y) (resid_at ya yb yc yd h gg w r l) (Eq.trans (congrArg _ ?_) (mean_at ya yb yc yd h gg w r))
  funext a; match a with | ⟨0, _⟩ => rfl | ⟨1, _⟩ => rfl

theorem var_at (r : Fin 32768) :
    val_main_v34 (F := Ideal) ya yb yc yd h gg w (ix2 r (0 : Fin 1))
      = mean fun i => dev (resid (pick ya yb yc yd) h gg w r) i * dev (resid (pick ya yb yc yd) h gg w r) i := by
  rw [val_main_v34_apply, val_main_v32_apply, val_main_v31_apply, val_main_v33_apply, val_main_cst_6_apply, val_main_cst_5_apply]
  unfold mean
  refine congrArg (fun x : EReal => Ideal.div x (Ideal.ofBits .f32 0x44800000#32)) ?_
  show Ideal.ofBits .f32 0x00000000#32 + _ = _
  rw [Ideal.ofBits_zero_f32, zero_add]
  refine Finset.sum_congr rfl fun i _ => ?_
  rw [val_main_v30_apply]
  have e : idx_main_v31 (idx_main_v32 (ix2 r (0 : Fin 1))) i = ix2 r i := by
    funext a; match a with | ⟨0, _⟩ => rfl | ⟨1, _⟩ => rfl
  rw [e, dev_at]
  rfl

/-- The reference's result. -/
theorem result : val_main_v49 (F := Ideal) ya yb yc yd h gg w gain bias = out (pick ya yb yc yd) h gg w gain bias := by
  funext i
  obtain ⟨r, hr⟩ : ∃ r : Fin 32768, r = i 0 := ⟨_, rfl⟩
  obtain ⟨l, hl⟩ : ∃ l : Fin 1024, l = i 1 := ⟨_, rfl⟩
  have ei : i = ix2 r l := by
    rw [hr, hl]
    exact eq_ix2 i
  rw [ei, val_main_v49_apply, val_main_v45_apply, val_main_v41_apply, val_main_v36_apply, val_main_v35_apply, val_main_v40_apply,
    val_main_v39_apply, val_main_v38_apply, val_main_v37_apply, val_main_cst_7_apply, val_main_v44_apply, val_main_v43_apply,
    val_main_v42_apply, val_main_v48_apply, val_main_v47_apply, val_main_v46_apply]
  have e35 : idx_main_v35 (ix2 r l) = ix2 r (0 : Fin 1) := by
    funext a; match a with | ⟨0, _⟩ => rfl | ⟨1, _⟩ => rfl
  have e40 : idx_main_v40 (ix2 r l) = ix2 r (0 : Fin 1) := by
    funext a; match a with | ⟨0, _⟩ => rfl | ⟨1, _⟩ => rfl
  have e42 : idx_main_v42 (idx_main_v43 (idx_main_v44 (ix2 r l))) = ix2 (0 : Fin 1) l := by
    funext a; match a with | ⟨0, _⟩ => rfl | ⟨1, _⟩ => exact Fin.ext (Nat.mod_eq_of_lt l.isLt)
  have e46 : idx_main_v46 (idx_main_v47 (idx_main_v48 (ix2 r l))) = ix2 (0 : Fin 1) l := by
    funext a; match a with | ⟨0, _⟩ => rfl | ⟨1, _⟩ => exact Fin.ext (Nat.mod_eq_of_lt l.isLt)
  rw [e35, e40, e42, e46, resid_at, mean_at, var_at]
  rfl

end Cert.Mix.Ref

end
-- ==== Proof.lean ====
/- The proof of every claim of the certificate: the routed experts (Proof/RoutedClaim.lean), then the multi-head latent
   attention (Proof/MlaFinal.lean, Proof/MlaRef.lean), the grouped-query attention (Proof/GqaFinal.lean, Proof/GqaRef.lean), the
   cross attention (Proof/XattnFinal.lean, Proof/XattnRef.lean) and the mixer's output (Proof/MixFinal.lean, Proof/MixRef.lean). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Gen.Pre_finite_and_ones
public import proofs.«01_k».proof.Proof.MlaFinal
public import proofs.«01_k».proof.Proof.MlaRef
public import proofs.«01_k».proof.Proof.MlaPre
public import proofs.«01_k».proof.Proof.Gen.Kernel2
public import proofs.«01_k».proof.Proof.Gen.Kernel2.Skeleton
public import proofs.«01_k».proof.Proof.Gen.Kernel2.Launch
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_in_range
public import proofs.«01_k».proof.Proof.RoutedClaim
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_padded_heads
public import proofs.«01_k».proof.Proof.GqaFinal
public import proofs.«01_k».proof.Proof.GqaRef
public import proofs.«01_k».proof.Proof.GqaPre
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Pre_finite
public import proofs.«01_k».proof.Proof.XattnFrameK
public import proofs.«01_k».proof.Proof.XattnFinal
public import proofs.«01_k».proof.Proof.XattnRef
public import proofs.«01_k».proof.Proof.XattnPre
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.MixFinal
public import proofs.«01_k».proof.Proof.MixRef
public import Idealize.ShloMosaic.Adequacy
public import Idealize.ShloMosaic.Init

@[expose] public section

noncomputable section

namespace Cert.Proof

open Idealize.ShloMosaic Idealize.SL.Sem Cert.Kernel

/-- The reference keeps its arguments, and declares no semaphore. -/
theorem frame_r : Cert.quiescent_ReferenceIdeal := fun m g _ =>
  (θ_run Cert.ReferenceIdeal.defs _ _).mono
    (fun r h => ⟨fun c => (h c).2, sem_eq_zero_of_no_sems (by decide) r.2⟩)
    (Cert.ReferenceIdeal.Value.run (F := Ideal) m g)

/-- The same of the grouped-query attention's reference. -/
theorem frame_r3 : Cert.quiescent_Reference3Ideal := fun m g _ =>
  (θ_run Cert.Reference3Ideal.defs _ _).mono
    (fun r h => ⟨fun c => (h c).2, sem_eq_zero_of_no_sems (by decide) r.2⟩)
    (Cert.Reference3Ideal.Value.run (F := Ideal) m g)

/-- The same of the cross attention's reference. -/
theorem frame_r4 : Cert.quiescent_Reference4Ideal := fun m g _ =>
  (θ_run Cert.Reference4Ideal.defs _ _).mono
    (fun r h => ⟨fun c => (h c).2.2, sem_eq_zero_of_no_sems (by decide) r.2⟩)
    (Cert.Reference4Ideal.Value.run (F := Ideal) m g)

/-- The same of the mixer output's reference. -/
theorem frame_r5 : Cert.quiescent_Reference5Ideal := fun m g _ =>
  (θ_run Cert.Reference5Ideal.defs _ _).mono
    (fun r h => ⟨fun c => (h c).2, sem_eq_zero_of_no_sems (by decide) r.2⟩)
    (Cert.Reference5Ideal.Value.run (F := Ideal) m g)

theorem claim : Cert.Claim := ⟨Cert.Kernel2.Gen.facts, Cert.Kernel2Ideal.Gen.facts, Cert.Reference2Ideal.Gen.facts,
  Cert.Kernel.Gen.facts, Cert.KernelIdeal.Gen.facts, Cert.ReferenceIdeal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Pre_in_range.Gen.facts, Cert.Pre_finite_and_ones.Gen.facts, Cert.Pre_padded_heads.Gen.facts, Cert.Pre_finite.Gen.facts,
  Cert.Experts.Claims.frameB,
  Cert.Experts.Claims.frame,
  Cert.Experts.Claims.frame_r,
  fun m g _ => Cert.Experts.Claims.frame_r m g trivial,
  fun m g _ => Cert.Kernel.Gen.frame m g,
  fun m g _ => Cert.KernelIdeal.Gen.frame m g,
  fun m g _ => Cert.KernelIdeal.Gen.frame m g,
  frame_r,
  fun m g _ => frame_r m g trivial,
  fun m g _ => Cert.Kernel3.Gen.frame m g,
  fun m g _ => Cert.Kernel3Ideal.Gen.frame m g,
  fun m g _ => Cert.Kernel3Ideal.Gen.frame m g,
  frame_r3,
  fun m g _ => frame_r3 m g trivial,
  fun m g _ => Cert.Kernel4.Xattn.frame m g,
  fun m g _ => Cert.Kernel4Ideal.Xattn.frame m g,
  fun m g _ => Cert.Kernel4Ideal.Xattn.frame m g,
  frame_r4,
  fun m g _ => frame_r4 m g trivial,
  fun m g _ => Cert.Kernel5.Gen.frame m g,
  fun m g _ => Cert.Kernel5Ideal.Gen.frame m g,
  frame_r5,
  trivial,
  Cert.Experts.Claims.algebraic,
  trivial,
  fun m g m' g' hpre hargs => ⟨fun c => Cert.Mla.out (Cert.Mla.argQ m c) (Cert.Mla.argK m c) (Cert.Mla.argV m c),
    (θ_run _ _ _).mono (fun _ h c => ⟨(h c).1.trans (Cert.Mla.final m c (Cert.Mla.ok_of_pre (hpre c))), (h c).2⟩)
      (Cert.KernelIdeal.Value.run_blocks m g),
    (θ_run _ _ _).mono (fun _ h c => ⟨(h c).1.trans (((Cert.ReferenceIdeal.Read.val_main_v24_eq _ _ _).trans
        (congr (congr (congrArg _ (hargs c).1) (hargs c).2.1) (hargs c).2.2)).trans
          (Cert.Mla.Ref.result (Cert.Mla.ok_of_pre (hpre c)))), (h c).2⟩)
      (Cert.ReferenceIdeal.Value.run m' g')⟩,
  trivial,
  fun m g m' g' hpre hargs => ⟨fun c => Cert.Gqa.out (Cert.Gqa.argQ m c) (Cert.Gqa.argK m c) (Cert.Gqa.argV m c),
    (θ_run _ _ _).mono (fun _ h c => ⟨(h c).1.trans (Cert.Gqa.final m c (Cert.Gqa.ok_of_pre (hpre c))), (h c).2⟩)
      (Cert.Kernel3Ideal.Value.run_blocks m g),
    (θ_run _ _ _).mono (fun _ h c => ⟨(h c).1.trans (((Cert.Reference3Ideal.Read.val_main_v33_eq _ _).trans
        (congr (congr (congrArg _ (hargs c).1) (hargs c).2.1) (hargs c).2.2)).trans
          (Cert.Gqa.Ref.result (Cert.Gqa.ok_of_pre (hpre c)))), (h c).2⟩)
      (Cert.Reference3Ideal.Value.run m' g')⟩,
  trivial,
  fun m g m' g' hpre hargs => ⟨fun c => Cert.Xattn.result m c, fun c => Cert.Xattn.lines (Cert.Xattn.result m c),
    (θ_run _ _ _).mono (fun _ h c => ⟨(h c).1.trans (Cert.Xattn.final m c (Cert.Xattn.ok_of_pre (hpre c))),
        (h c).2.1.trans (Cert.Xattn.final_lines m c (Cert.Xattn.ok_of_pre (hpre c))), (h c).2.2⟩)
      (Cert.Kernel4Ideal.Xattn.run_arrays m g),
    (θ_run _ _ _).mono (fun _ h c => ⟨(h c).1.trans (((Cert.Reference4Ideal.Read.val_main_v54_eq _ _).trans
          (congr (congr (congr (congr (congr (congr (congrArg _ (hargs c).1) (hargs c).2.1) (hargs c).2.2.1) (hargs c).2.2.2.1) (hargs c).2.2.2.2.1) (hargs c).2.2.2.2.2.1) (hargs c).2.2.2.2.2.2)).trans
          (Cert.Xattn.Ref.result (Cert.Xattn.ok_of_pre (hpre c)))),
        (h c).2.1.trans (((Cert.Reference4Ideal.Read.val_main_v55_eq _ _).trans
          (congr (congr (congr (congr (congr (congr (congrArg _ (hargs c).1) (hargs c).2.1) (hargs c).2.2.1) (hargs c).2.2.2.1) (hargs c).2.2.2.2.1) (hargs c).2.2.2.2.2.1) (hargs c).2.2.2.2.2.2)).trans
          (Cert.Xattn.Ref.result_lines (Cert.Xattn.ok_of_pre (hpre c)))), (h c).2.2⟩)
      (Cert.Reference4Ideal.Value.run m' g')⟩,
  trivial,
  fun m g m' g' _ hargs => ⟨fun c => Cert.Mix.result m c,
    (θ_run _ _ _).mono (fun _ h c => ⟨(h c).1.trans (Cert.Mix.final m c), (h c).2⟩)
      (Cert.Kernel5Ideal.Value.run_blocks m g),
    (θ_run _ _ _).mono (fun _ h c => ⟨(h c).1.trans (((Cert.Reference5Ideal.Read.val_main_v49_eq _ _).trans
          (congr (congr (congr (congr (congr (congr (congr (congr (congrArg _ (hargs c).1) (hargs c).2.1) (hargs c).2.2.1) (hargs c).2.2.2.1) (hargs c).2.2.2.2.1) (hargs c).2.2.2.2.2.1) (hargs c).2.2.2.2.2.2.1) (hargs c).2.2.2.2.2.2.2.1) (hargs c).2.2.2.2.2.2.2.2)).trans
          (Cert.Mix.Ref.result _ _ _ _ _ _ _ _ _)), (h c).2⟩)
      (Cert.Reference5Ideal.Value.run m' g')⟩⟩

end Cert.Proof

end
